-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x128x64 : Shape := ⟨4, ![2, 128, 128, 64]⟩
abbrev S256x512 : Shape := ⟨2, ![256, 512]⟩
abbrev S_ : Shape := ⟨0, ![]⟩
abbrev S2x128x8x64 : Shape := ⟨4, ![2, 128, 8, 64]⟩
abbrev S32x8x512 : Shape := ⟨3, ![32, 8, 512]⟩
abbrev S32 : Shape := ⟨1, ![32]⟩
abbrev S256x256 : Shape := ⟨2, ![256, 256]⟩
abbrev S128x128 : Shape := ⟨2, ![128, 128]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S128x256 : Shape := ⟨2, ![128, 256]⟩
abbrev S1 : Shape := ⟨1, ![1]⟩
abbrev S1x8x512 : Shape := ⟨3, ![1, 8, 512]⟩
abbrev S8x512 : Shape := ⟨2, ![8, 512]⟩

abbrev nBuf : Space → Nat
  | .hbm => 68
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x128x64, .f32⟩
  | .hbm, ⟨3, _⟩ => ⟨S2x128x128x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256x512, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S2x128x8x64, .f32⟩
  | .hbm, ⟨38, _⟩ => ⟨S2x128x8x64, .bf16⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S2x128x8x64, .f32⟩
  | .hbm, ⟨65, _⟩ => ⟨S2x128x8x64, .bf16⟩
  | .hbm, ⟨66, _⟩ => ⟨S256x512, .f32⟩
  | .hbm, ⟨67, _⟩ => ⟨S2x128x512, .f32⟩
  | .local _ .vmem, ⟨0, _⟩ => ⟨S256x512, .f32⟩
  | .local _ .vmem, ⟨1, _⟩ => ⟨S512x256, .f32⟩
  | .local _ .vmem, ⟨2, _⟩ => ⟨S2x128x8x64, .bf16⟩
  | .local _ .vmem, ⟨3, _⟩ => ⟨S2x128x8x64, .bf16⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S32x8x512, .bf16⟩
  | .local _ .vmem, ⟨8, _⟩ => ⟨S256x512, .bf16⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c : Ref sig .tc := ⟨.hbm, 19, rfl⟩
abbrev main_call0_v6 : Ref sig .tc := ⟨.hbm, 20, rfl⟩
abbrev main_call0_v7 : Ref sig .tc := ⟨.hbm, 21, rfl⟩
abbrev main_call0_c_0 : Ref sig .tc := ⟨.hbm, 22, rfl⟩
abbrev main_call0_v8 : Ref sig .tc := ⟨.hbm, 23, rfl⟩
abbrev main_v6 : Ref sig .tc := ⟨.hbm, 24, rfl⟩
abbrev main_c_2 : Ref sig .tc := ⟨.hbm, 25, rfl⟩
abbrev main_v7 : Ref sig .tc := ⟨.hbm, 26, rfl⟩
abbrev main_c_3 : Ref sig .tc := ⟨.hbm, 27, rfl⟩
abbrev main_v8 : Ref sig .tc := ⟨.hbm, 28, rfl⟩
abbrev main_c_4 : Ref sig .tc := ⟨.hbm, 29, rfl⟩
abbrev main_v9 : Ref sig .tc := ⟨.hbm, 30, rfl⟩
abbrev main_c_5 : Ref sig .tc := ⟨.hbm, 31, rfl⟩
abbrev main_v10 : Ref sig .tc := ⟨.hbm, 32, rfl⟩
abbrev main_v11 : Ref sig .tc := ⟨.hbm, 33, rfl⟩
abbrev main_c_6 : Ref sig .tc := ⟨.hbm, 34, rfl⟩
abbrev main_c_7 : Ref sig .tc := ⟨.hbm, 35, rfl⟩
abbrev main_c_8 : Ref sig .tc := ⟨.hbm, 36, rfl⟩
abbrev main_v12 : Ref sig .tc := ⟨.hbm, 37, rfl⟩
abbrev main_v13 : Ref sig .tc := ⟨.hbm, 38, rfl⟩
abbrev main_c_9 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c : Ref sig .tc := ⟨.hbm, 46, rfl⟩
abbrev main_call1_v6 : Ref sig .tc := ⟨.hbm, 47, rfl⟩
abbrev main_call1_v7 : Ref sig .tc := ⟨.hbm, 48, rfl⟩
abbrev main_call1_c_0 : Ref sig .tc := ⟨.hbm, 49, rfl⟩
abbrev main_call1_v8 : Ref sig .tc := ⟨.hbm, 50, rfl⟩
abbrev main_v14 : Ref sig .tc := ⟨.hbm, 51, rfl⟩
abbrev main_c_10 : Ref sig .tc := ⟨.hbm, 52, rfl⟩
abbrev main_v15 : Ref sig .tc := ⟨.hbm, 53, rfl⟩
abbrev main_c_11 : Ref sig .tc := ⟨.hbm, 54, rfl⟩
abbrev main_v16 : Ref sig .tc := ⟨.hbm, 55, rfl⟩
abbrev main_c_12 : Ref sig .tc := ⟨.hbm, 56, rfl⟩
abbrev main_v17 : Ref sig .tc := ⟨.hbm, 57, rfl⟩
abbrev main_c_13 : Ref sig .tc := ⟨.hbm, 58, rfl⟩
abbrev main_v18 : Ref sig .tc := ⟨.hbm, 59, rfl⟩
abbrev main_v19 : Ref sig .tc := ⟨.hbm, 60, rfl⟩
abbrev main_c_14 : Ref sig .tc := ⟨.hbm, 61, rfl⟩
abbrev main_c_15 : Ref sig .tc := ⟨.hbm, 62, rfl⟩
abbrev main_c_16 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_331 : BitVec 32 := 0#32
  let c0_i32_332 : BitVec 32 := 0#32
  ![v2.toNat, 0, 0]
def k0_off3 (d0 : Dev nD) (c1_i32_325 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v436 : BitVec 32 := Scalar.addi v2 c1_i32_325
  let c32_i32_326 : BitVec 32 := 32#32
  let v437 : BitVec 32 := Scalar.remsi v436 c32_i32_326
  let c8_i32_327 : BitVec 32 := 8#32
  let v438 : BitVec 32 := Scalar.muli v437 c8_i32_327
  let c0_i32_333 : BitVec 32 := 0#32
  ![v438.toNat, 0]
def k0_dev32 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_325 : BitVec 32 := 1#32
  let v436 : BitVec 32 := Scalar.addi v2 c1_i32_325
  let c32_i32_326 : BitVec 32 := 32#32
  let v437 : BitVec 32 := Scalar.remsi v436 c32_i32_326
  let c1_i32_329 : BitVec 32 := 1#32
  let v439 : BitVec 32 := Scalar.muli v437 c1_i32_329
  let v440 : BitVec 32 := Scalar.addi c0_i32_330 v439
  v440.toNat
def k0_dev33 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_334 : BitVec 32 := 2#32
  let v448 : BitVec 32 := Scalar.addi v2 c2_i32_334
  let c32_i32_335 : BitVec 32 := 32#32
  let v449 : BitVec 32 := Scalar.remsi v448 c32_i32_335
  let c1_i32_338 : BitVec 32 := 1#32
  let v451 : BitVec 32 := Scalar.muli v449 c1_i32_338
  let v452 : BitVec 32 := Scalar.addi c0_i32_339 v451
  v452.toNat
def k0_dev34 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_343 : BitVec 32 := 3#32
  let v460 : BitVec 32 := Scalar.addi v2 c3_i32_343
  let c32_i32_344 : BitVec 32 := 32#32
  let v461 : BitVec 32 := Scalar.remsi v460 c32_i32_344
  let c1_i32_347 : BitVec 32 := 1#32
  let v463 : BitVec 32 := Scalar.muli v461 c1_i32_347
  let v464 : BitVec 32 := Scalar.addi c0_i32_348 v463
  v464.toNat
def k0_dev35 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_352 : BitVec 32 := 4#32
  let v472 : BitVec 32 := Scalar.addi v2 c4_i32_352
  let c32_i32_353 : BitVec 32 := 32#32
  let v473 : BitVec 32 := Scalar.remsi v472 c32_i32_353
  let c1_i32_356 : BitVec 32 := 1#32
  let v475 : BitVec 32 := Scalar.muli v473 c1_i32_356
  let v476 : BitVec 32 := Scalar.addi c0_i32_357 v475
  v476.toNat
def k0_dev36 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_361 : BitVec 32 := 5#32
  let v484 : BitVec 32 := Scalar.addi v2 c5_i32_361
  let c32_i32_362 : BitVec 32 := 32#32
  let v485 : BitVec 32 := Scalar.remsi v484 c32_i32_362
  let c1_i32_365 : BitVec 32 := 1#32
  let v487 : BitVec 32 := Scalar.muli v485 c1_i32_365
  let v488 : BitVec 32 := Scalar.addi c0_i32_366 v487
  v488.toNat
def k0_dev37 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_370 : BitVec 32 := 6#32
  let v496 : BitVec 32 := Scalar.addi v2 c6_i32_370
  let c32_i32_371 : BitVec 32 := 32#32
  let v497 : BitVec 32 := Scalar.remsi v496 c32_i32_371
  let c1_i32_374 : BitVec 32 := 1#32
  let v499 : BitVec 32 := Scalar.muli v497 c1_i32_374
  let v500 : BitVec 32 := Scalar.addi c0_i32_375 v499
  v500.toNat
def k0_dev38 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_379 : BitVec 32 := 7#32
  let v508 : BitVec 32 := Scalar.addi v2 c7_i32_379
  let c32_i32_380 : BitVec 32 := 32#32
  let v509 : BitVec 32 := Scalar.remsi v508 c32_i32_380
  let c1_i32_383 : BitVec 32 := 1#32
  let v511 : BitVec 32 := Scalar.muli v509 c1_i32_383
  let v512 : BitVec 32 := Scalar.addi c0_i32_384 v511
  v512.toNat
def k0_dev39 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_388 : BitVec 32 := 8#32
  let v520 : BitVec 32 := Scalar.addi v2 c8_i32_388
  let c32_i32_389 : BitVec 32 := 32#32
  let v521 : BitVec 32 := Scalar.remsi v520 c32_i32_389
  let c1_i32_392 : BitVec 32 := 1#32
  let v523 : BitVec 32 := Scalar.muli v521 c1_i32_392
  let v524 : BitVec 32 := Scalar.addi c0_i32_393 v523
  v524.toNat
def k0_dev40 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_397 : BitVec 32 := 9#32
  let v532 : BitVec 32 := Scalar.addi v2 c9_i32_397
  let c32_i32_398 : BitVec 32 := 32#32
  let v533 : BitVec 32 := Scalar.remsi v532 c32_i32_398
  let c1_i32_401 : BitVec 32 := 1#32
  let v535 : BitVec 32 := Scalar.muli v533 c1_i32_401
  let v536 : BitVec 32 := Scalar.addi c0_i32_402 v535
  v536.toNat
def k0_dev41 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_406 : BitVec 32 := 10#32
  let v544 : BitVec 32 := Scalar.addi v2 c10_i32_406
  let c32_i32_407 : BitVec 32 := 32#32
  let v545 : BitVec 32 := Scalar.remsi v544 c32_i32_407
  let c1_i32_410 : BitVec 32 := 1#32
  let v547 : BitVec 32 := Scalar.muli v545 c1_i32_410
  let v548 : BitVec 32 := Scalar.addi c0_i32_411 v547
  v548.toNat
def k0_dev42 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_415 : BitVec 32 := 11#32
  let v556 : BitVec 32 := Scalar.addi v2 c11_i32_415
  let c32_i32_416 : BitVec 32 := 32#32
  let v557 : BitVec 32 := Scalar.remsi v556 c32_i32_416
  let c1_i32_419 : BitVec 32 := 1#32
  let v559 : BitVec 32 := Scalar.muli v557 c1_i32_419
  let v560 : BitVec 32 := Scalar.addi c0_i32_420 v559
  v560.toNat
def k0_dev43 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_424 : BitVec 32 := 12#32
  let v568 : BitVec 32 := Scalar.addi v2 c12_i32_424
  let c32_i32_425 : BitVec 32 := 32#32
  let v569 : BitVec 32 := Scalar.remsi v568 c32_i32_425
  let c1_i32_428 : BitVec 32 := 1#32
  let v571 : BitVec 32 := Scalar.muli v569 c1_i32_428
  let v572 : BitVec 32 := Scalar.addi c0_i32_429 v571
  v572.toNat
def k0_dev44 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_433 : BitVec 32 := 13#32
  let v580 : BitVec 32 := Scalar.addi v2 c13_i32_433
  let c32_i32_434 : BitVec 32 := 32#32
  let v581 : BitVec 32 := Scalar.remsi v580 c32_i32_434
  let c1_i32_437 : BitVec 32 := 1#32
  let v583 : BitVec 32 := Scalar.muli v581 c1_i32_437
  let v584 : BitVec 32 := Scalar.addi c0_i32_438 v583
  v584.toNat
def k0_dev45 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_442 : BitVec 32 := 14#32
  let v592 : BitVec 32 := Scalar.addi v2 c14_i32_442
  let c32_i32_443 : BitVec 32 := 32#32
  let v593 : BitVec 32 := Scalar.remsi v592 c32_i32_443
  let c1_i32_446 : BitVec 32 := 1#32
  let v595 : BitVec 32 := Scalar.muli v593 c1_i32_446
  let v596 : BitVec 32 := Scalar.addi c0_i32_447 v595
  v596.toNat
def k0_dev46 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_451 : BitVec 32 := 15#32
  let v604 : BitVec 32 := Scalar.addi v2 c15_i32_451
  let c32_i32_452 : BitVec 32 := 32#32
  let v605 : BitVec 32 := Scalar.remsi v604 c32_i32_452
  let c1_i32_455 : BitVec 32 := 1#32
  let v607 : BitVec 32 := Scalar.muli v605 c1_i32_455
  let v608 : BitVec 32 := Scalar.addi c0_i32_456 v607
  v608.toNat
def k0_dev47 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_460 : BitVec 32 := 16#32
  let v616 : BitVec 32 := Scalar.addi v2 c16_i32_460
  let c32_i32_461 : BitVec 32 := 32#32
  let v617 : BitVec 32 := Scalar.remsi v616 c32_i32_461
  let c1_i32_464 : BitVec 32 := 1#32
  let v619 : BitVec 32 := Scalar.muli v617 c1_i32_464
  let v620 : BitVec 32 := Scalar.addi c0_i32_465 v619
  v620.toNat
def k0_dev48 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_469 : BitVec 32 := 17#32
  let v628 : BitVec 32 := Scalar.addi v2 c17_i32_469
  let c32_i32_470 : BitVec 32 := 32#32
  let v629 : BitVec 32 := Scalar.remsi v628 c32_i32_470
  let c1_i32_473 : BitVec 32 := 1#32
  let v631 : BitVec 32 := Scalar.muli v629 c1_i32_473
  let v632 : BitVec 32 := Scalar.addi c0_i32_474 v631
  v632.toNat
def k0_dev49 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_478 : BitVec 32 := 18#32
  let v640 : BitVec 32 := Scalar.addi v2 c18_i32_478
  let c32_i32_479 : BitVec 32 := 32#32
  let v641 : BitVec 32 := Scalar.remsi v640 c32_i32_479
  let c1_i32_482 : BitVec 32 := 1#32
  let v643 : BitVec 32 := Scalar.muli v641 c1_i32_482
  let v644 : BitVec 32 := Scalar.addi c0_i32_483 v643
  v644.toNat
def k0_dev50 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_487 : BitVec 32 := 19#32
  let v652 : BitVec 32 := Scalar.addi v2 c19_i32_487
  let c32_i32_488 : BitVec 32 := 32#32
  let v653 : BitVec 32 := Scalar.remsi v652 c32_i32_488
  let c1_i32_491 : BitVec 32 := 1#32
  let v655 : BitVec 32 := Scalar.muli v653 c1_i32_491
  let v656 : BitVec 32 := Scalar.addi c0_i32_492 v655
  v656.toNat
def k0_dev51 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_496 : BitVec 32 := 20#32
  let v664 : BitVec 32 := Scalar.addi v2 c20_i32_496
  let c32_i32_497 : BitVec 32 := 32#32
  let v665 : BitVec 32 := Scalar.remsi v664 c32_i32_497
  let c1_i32_500 : BitVec 32 := 1#32
  let v667 : BitVec 32 := Scalar.muli v665 c1_i32_500
  let v668 : BitVec 32 := Scalar.addi c0_i32_501 v667
  v668.toNat
def k0_dev52 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_505 : BitVec 32 := 21#32
  let v676 : BitVec 32 := Scalar.addi v2 c21_i32_505
  let c32_i32_506 : BitVec 32 := 32#32
  let v677 : BitVec 32 := Scalar.remsi v676 c32_i32_506
  let c1_i32_509 : BitVec 32 := 1#32
  let v679 : BitVec 32 := Scalar.muli v677 c1_i32_509
  let v680 : BitVec 32 := Scalar.addi c0_i32_510 v679
  v680.toNat
def k0_dev53 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_514 : BitVec 32 := 22#32
  let v688 : BitVec 32 := Scalar.addi v2 c22_i32_514
  let c32_i32_515 : BitVec 32 := 32#32
  let v689 : BitVec 32 := Scalar.remsi v688 c32_i32_515
  let c1_i32_518 : BitVec 32 := 1#32
  let v691 : BitVec 32 := Scalar.muli v689 c1_i32_518
  let v692 : BitVec 32 := Scalar.addi c0_i32_519 v691
  v692.toNat
def k0_dev54 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_523 : BitVec 32 := 23#32
  let v700 : BitVec 32 := Scalar.addi v2 c23_i32_523
  let c32_i32_524 : BitVec 32 := 32#32
  let v701 : BitVec 32 := Scalar.remsi v700 c32_i32_524
  let c1_i32_527 : BitVec 32 := 1#32
  let v703 : BitVec 32 := Scalar.muli v701 c1_i32_527
  let v704 : BitVec 32 := Scalar.addi c0_i32_528 v703
  v704.toNat
def k0_dev55 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_532 : BitVec 32 := 24#32
  let v712 : BitVec 32 := Scalar.addi v2 c24_i32_532
  let c32_i32_533 : BitVec 32 := 32#32
  let v713 : BitVec 32 := Scalar.remsi v712 c32_i32_533
  let c1_i32_536 : BitVec 32 := 1#32
  let v715 : BitVec 32 := Scalar.muli v713 c1_i32_536
  let v716 : BitVec 32 := Scalar.addi c0_i32_537 v715
  v716.toNat
def k0_dev56 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_541 : BitVec 32 := 25#32
  let v724 : BitVec 32 := Scalar.addi v2 c25_i32_541
  let c32_i32_542 : BitVec 32 := 32#32
  let v725 : BitVec 32 := Scalar.remsi v724 c32_i32_542
  let c1_i32_545 : BitVec 32 := 1#32
  let v727 : BitVec 32 := Scalar.muli v725 c1_i32_545
  let v728 : BitVec 32 := Scalar.addi c0_i32_546 v727
  v728.toNat
def k0_dev57 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_550 : BitVec 32 := 26#32
  let v736 : BitVec 32 := Scalar.addi v2 c26_i32_550
  let c32_i32_551 : BitVec 32 := 32#32
  let v737 : BitVec 32 := Scalar.remsi v736 c32_i32_551
  let c1_i32_554 : BitVec 32 := 1#32
  let v739 : BitVec 32 := Scalar.muli v737 c1_i32_554
  let v740 : BitVec 32 := Scalar.addi c0_i32_555 v739
  v740.toNat
def k0_dev58 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_559 : BitVec 32 := 27#32
  let v748 : BitVec 32 := Scalar.addi v2 c27_i32_559
  let c32_i32_560 : BitVec 32 := 32#32
  let v749 : BitVec 32 := Scalar.remsi v748 c32_i32_560
  let c1_i32_563 : BitVec 32 := 1#32
  let v751 : BitVec 32 := Scalar.muli v749 c1_i32_563
  let v752 : BitVec 32 := Scalar.addi c0_i32_564 v751
  v752.toNat
def k0_dev59 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_568 : BitVec 32 := 28#32
  let v760 : BitVec 32 := Scalar.addi v2 c28_i32_568
  let c32_i32_569 : BitVec 32 := 32#32
  let v761 : BitVec 32 := Scalar.remsi v760 c32_i32_569
  let c1_i32_572 : BitVec 32 := 1#32
  let v763 : BitVec 32 := Scalar.muli v761 c1_i32_572
  let v764 : BitVec 32 := Scalar.addi c0_i32_573 v763
  v764.toNat
def k0_dev60 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_577 : BitVec 32 := 29#32
  let v772 : BitVec 32 := Scalar.addi v2 c29_i32_577
  let c32_i32_578 : BitVec 32 := 32#32
  let v773 : BitVec 32 := Scalar.remsi v772 c32_i32_578
  let c1_i32_581 : BitVec 32 := 1#32
  let v775 : BitVec 32 := Scalar.muli v773 c1_i32_581
  let v776 : BitVec 32 := Scalar.addi c0_i32_582 v775
  v776.toNat
def k0_dev61 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_586 : BitVec 32 := 30#32
  let v784 : BitVec 32 := Scalar.addi v2 c30_i32_586
  let c32_i32_587 : BitVec 32 := 32#32
  let v785 : BitVec 32 := Scalar.remsi v784 c32_i32_587
  let c1_i32_590 : BitVec 32 := 1#32
  let v787 : BitVec 32 := Scalar.muli v785 c1_i32_590
  let v788 : BitVec 32 := Scalar.addi c0_i32_591 v787
  v788.toNat
def k0_dev62 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_595 : BitVec 32 := 31#32
  let v796 : BitVec 32 := Scalar.addi v2 c31_i32_595
  let c32_i32_596 : BitVec 32 := 32#32
  let v797 : BitVec 32 := Scalar.remsi v796 c32_i32_596
  let c1_i32_599 : BitVec 32 := 1#32
  let v799 : BitVec 32 := Scalar.muli v797 c1_i32_599
  let v800 : BitVec 32 := Scalar.addi c0_i32_600 v799
  v800.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_604 : BitVec 32 := 8#32
  let v808 : BitVec 32 := Scalar.muli v2 c8_i32_604
  let v809 : Index := Scalar.indexCast v808
  let c0_605 : Index := 0#32
  ![v809.toNat, 0]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v812 : Index := Scalar.indexCast v2
  let c0_606 : Index := 0#32
  let c0_607 : Index := 0#32
  ![v812.toNat, 0, 0]
def k0_off6 (d0 : Dev nD) (c1_i32_608 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v816 : BitVec 32 := Scalar.subi v2 c1_i32_608
  let c32_i32_609 : BitVec 32 := 32#32
  let v817 : BitVec 32 := Scalar.addi v816 c32_i32_609
  let c32_i32_610 : BitVec 32 := 32#32
  let v818 : BitVec 32 := Scalar.remsi v817 c32_i32_610
  ![v818.toNat]
def k0_off7 (d0 : Dev nD) (c1_i32_608 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v816 : BitVec 32 := Scalar.subi v2 c1_i32_608
  let c32_i32_609 : BitVec 32 := 32#32
  let v817 : BitVec 32 := Scalar.addi v816 c32_i32_609
  let c32_i32_610 : BitVec 32 := 32#32
  let v818 : BitVec 32 := Scalar.remsi v817 c32_i32_610
  let c0_i32_615 : BitVec 32 := 0#32
  let c0_i32_616 : BitVec 32 := 0#32
  ![v818.toNat, 0, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_611 : BitVec 32 := 8#32
  let v819 : BitVec 32 := Scalar.muli v2 c8_i32_611
  let c0_i32_617 : BitVec 32 := 0#32
  ![v819.toNat, 0]
def k0_dev63 (d0 : Dev nD) : Nat :=
  let c0_i32_1085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1079 : BitVec 32 := 1#32
  let v1321 : BitVec 32 := Scalar.addi v2 c1_i32_1079
  let c32_i32_1080 : BitVec 32 := 32#32
  let v1322 : BitVec 32 := Scalar.remsi v1321 c32_i32_1080
  let c1_i32_1084 : BitVec 32 := 1#32
  let v1325 : BitVec 32 := Scalar.muli v1322 c1_i32_1084
  let v1326 : BitVec 32 := Scalar.addi c0_i32_1085 v1325
  v1326.toNat
def k0_dev64 (d0 : Dev nD) : Nat :=
  let c0_i32_1094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1088 : BitVec 32 := 2#32
  let v1333 : BitVec 32 := Scalar.addi v2 c2_i32_1088
  let c32_i32_1089 : BitVec 32 := 32#32
  let v1334 : BitVec 32 := Scalar.remsi v1333 c32_i32_1089
  let c1_i32_1093 : BitVec 32 := 1#32
  let v1337 : BitVec 32 := Scalar.muli v1334 c1_i32_1093
  let v1338 : BitVec 32 := Scalar.addi c0_i32_1094 v1337
  v1338.toNat
def k0_dev65 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1097 : BitVec 32 := 3#32
  let v1345 : BitVec 32 := Scalar.addi v2 c3_i32_1097
  let c32_i32_1098 : BitVec 32 := 32#32
  let v1346 : BitVec 32 := Scalar.remsi v1345 c32_i32_1098
  let c1_i32_1102 : BitVec 32 := 1#32
  let v1349 : BitVec 32 := Scalar.muli v1346 c1_i32_1102
  let v1350 : BitVec 32 := Scalar.addi c0_i32_1103 v1349
  v1350.toNat
def k0_dev66 (d0 : Dev nD) : Nat :=
  let c0_i32_1112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1106 : BitVec 32 := 4#32
  let v1357 : BitVec 32 := Scalar.addi v2 c4_i32_1106
  let c32_i32_1107 : BitVec 32 := 32#32
  let v1358 : BitVec 32 := Scalar.remsi v1357 c32_i32_1107
  let c1_i32_1111 : BitVec 32 := 1#32
  let v1361 : BitVec 32 := Scalar.muli v1358 c1_i32_1111
  let v1362 : BitVec 32 := Scalar.addi c0_i32_1112 v1361
  v1362.toNat
def k0_dev67 (d0 : Dev nD) : Nat :=
  let c0_i32_1121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1115 : BitVec 32 := 5#32
  let v1369 : BitVec 32 := Scalar.addi v2 c5_i32_1115
  let c32_i32_1116 : BitVec 32 := 32#32
  let v1370 : BitVec 32 := Scalar.remsi v1369 c32_i32_1116
  let c1_i32_1120 : BitVec 32 := 1#32
  let v1373 : BitVec 32 := Scalar.muli v1370 c1_i32_1120
  let v1374 : BitVec 32 := Scalar.addi c0_i32_1121 v1373
  v1374.toNat
def k0_dev68 (d0 : Dev nD) : Nat :=
  let c0_i32_1130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1124 : BitVec 32 := 6#32
  let v1381 : BitVec 32 := Scalar.addi v2 c6_i32_1124
  let c32_i32_1125 : BitVec 32 := 32#32
  let v1382 : BitVec 32 := Scalar.remsi v1381 c32_i32_1125
  let c1_i32_1129 : BitVec 32 := 1#32
  let v1385 : BitVec 32 := Scalar.muli v1382 c1_i32_1129
  let v1386 : BitVec 32 := Scalar.addi c0_i32_1130 v1385
  v1386.toNat
def k0_dev69 (d0 : Dev nD) : Nat :=
  let c0_i32_1139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1133 : BitVec 32 := 7#32
  let v1393 : BitVec 32 := Scalar.addi v2 c7_i32_1133
  let c32_i32_1134 : BitVec 32 := 32#32
  let v1394 : BitVec 32 := Scalar.remsi v1393 c32_i32_1134
  let c1_i32_1138 : BitVec 32 := 1#32
  let v1397 : BitVec 32 := Scalar.muli v1394 c1_i32_1138
  let v1398 : BitVec 32 := Scalar.addi c0_i32_1139 v1397
  v1398.toNat
def k0_dev70 (d0 : Dev nD) : Nat :=
  let c0_i32_1148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1142 : BitVec 32 := 8#32
  let v1405 : BitVec 32 := Scalar.addi v2 c8_i32_1142
  let c32_i32_1143 : BitVec 32 := 32#32
  let v1406 : BitVec 32 := Scalar.remsi v1405 c32_i32_1143
  let c1_i32_1147 : BitVec 32 := 1#32
  let v1409 : BitVec 32 := Scalar.muli v1406 c1_i32_1147
  let v1410 : BitVec 32 := Scalar.addi c0_i32_1148 v1409
  v1410.toNat
def k0_dev71 (d0 : Dev nD) : Nat :=
  let c0_i32_1157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1151 : BitVec 32 := 9#32
  let v1417 : BitVec 32 := Scalar.addi v2 c9_i32_1151
  let c32_i32_1152 : BitVec 32 := 32#32
  let v1418 : BitVec 32 := Scalar.remsi v1417 c32_i32_1152
  let c1_i32_1156 : BitVec 32 := 1#32
  let v1421 : BitVec 32 := Scalar.muli v1418 c1_i32_1156
  let v1422 : BitVec 32 := Scalar.addi c0_i32_1157 v1421
  v1422.toNat
def k0_dev72 (d0 : Dev nD) : Nat :=
  let c0_i32_1166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1160 : BitVec 32 := 10#32
  let v1429 : BitVec 32 := Scalar.addi v2 c10_i32_1160
  let c32_i32_1161 : BitVec 32 := 32#32
  let v1430 : BitVec 32 := Scalar.remsi v1429 c32_i32_1161
  let c1_i32_1165 : BitVec 32 := 1#32
  let v1433 : BitVec 32 := Scalar.muli v1430 c1_i32_1165
  let v1434 : BitVec 32 := Scalar.addi c0_i32_1166 v1433
  v1434.toNat
def k0_dev73 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1169 : BitVec 32 := 11#32
  let v1441 : BitVec 32 := Scalar.addi v2 c11_i32_1169
  let c32_i32_1170 : BitVec 32 := 32#32
  let v1442 : BitVec 32 := Scalar.remsi v1441 c32_i32_1170
  let c1_i32_1174 : BitVec 32 := 1#32
  let v1445 : BitVec 32 := Scalar.muli v1442 c1_i32_1174
  let v1446 : BitVec 32 := Scalar.addi c0_i32_1175 v1445
  v1446.toNat
def k0_dev74 (d0 : Dev nD) : Nat :=
  let c0_i32_1184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1178 : BitVec 32 := 12#32
  let v1453 : BitVec 32 := Scalar.addi v2 c12_i32_1178
  let c32_i32_1179 : BitVec 32 := 32#32
  let v1454 : BitVec 32 := Scalar.remsi v1453 c32_i32_1179
  let c1_i32_1183 : BitVec 32 := 1#32
  let v1457 : BitVec 32 := Scalar.muli v1454 c1_i32_1183
  let v1458 : BitVec 32 := Scalar.addi c0_i32_1184 v1457
  v1458.toNat
def k0_dev75 (d0 : Dev nD) : Nat :=
  let c0_i32_1193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1187 : BitVec 32 := 13#32
  let v1465 : BitVec 32 := Scalar.addi v2 c13_i32_1187
  let c32_i32_1188 : BitVec 32 := 32#32
  let v1466 : BitVec 32 := Scalar.remsi v1465 c32_i32_1188
  let c1_i32_1192 : BitVec 32 := 1#32
  let v1469 : BitVec 32 := Scalar.muli v1466 c1_i32_1192
  let v1470 : BitVec 32 := Scalar.addi c0_i32_1193 v1469
  v1470.toNat
def k0_dev76 (d0 : Dev nD) : Nat :=
  let c0_i32_1202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1196 : BitVec 32 := 14#32
  let v1477 : BitVec 32 := Scalar.addi v2 c14_i32_1196
  let c32_i32_1197 : BitVec 32 := 32#32
  let v1478 : BitVec 32 := Scalar.remsi v1477 c32_i32_1197
  let c1_i32_1201 : BitVec 32 := 1#32
  let v1481 : BitVec 32 := Scalar.muli v1478 c1_i32_1201
  let v1482 : BitVec 32 := Scalar.addi c0_i32_1202 v1481
  v1482.toNat
def k0_dev77 (d0 : Dev nD) : Nat :=
  let c0_i32_1211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1205 : BitVec 32 := 15#32
  let v1489 : BitVec 32 := Scalar.addi v2 c15_i32_1205
  let c32_i32_1206 : BitVec 32 := 32#32
  let v1490 : BitVec 32 := Scalar.remsi v1489 c32_i32_1206
  let c1_i32_1210 : BitVec 32 := 1#32
  let v1493 : BitVec 32 := Scalar.muli v1490 c1_i32_1210
  let v1494 : BitVec 32 := Scalar.addi c0_i32_1211 v1493
  v1494.toNat
def k0_dev78 (d0 : Dev nD) : Nat :=
  let c0_i32_1220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1214 : BitVec 32 := 16#32
  let v1501 : BitVec 32 := Scalar.addi v2 c16_i32_1214
  let c32_i32_1215 : BitVec 32 := 32#32
  let v1502 : BitVec 32 := Scalar.remsi v1501 c32_i32_1215
  let c1_i32_1219 : BitVec 32 := 1#32
  let v1505 : BitVec 32 := Scalar.muli v1502 c1_i32_1219
  let v1506 : BitVec 32 := Scalar.addi c0_i32_1220 v1505
  v1506.toNat
def k0_dev79 (d0 : Dev nD) : Nat :=
  let c0_i32_1229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1223 : BitVec 32 := 17#32
  let v1513 : BitVec 32 := Scalar.addi v2 c17_i32_1223
  let c32_i32_1224 : BitVec 32 := 32#32
  let v1514 : BitVec 32 := Scalar.remsi v1513 c32_i32_1224
  let c1_i32_1228 : BitVec 32 := 1#32
  let v1517 : BitVec 32 := Scalar.muli v1514 c1_i32_1228
  let v1518 : BitVec 32 := Scalar.addi c0_i32_1229 v1517
  v1518.toNat
def k0_dev80 (d0 : Dev nD) : Nat :=
  let c0_i32_1238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1232 : BitVec 32 := 18#32
  let v1525 : BitVec 32 := Scalar.addi v2 c18_i32_1232
  let c32_i32_1233 : BitVec 32 := 32#32
  let v1526 : BitVec 32 := Scalar.remsi v1525 c32_i32_1233
  let c1_i32_1237 : BitVec 32 := 1#32
  let v1529 : BitVec 32 := Scalar.muli v1526 c1_i32_1237
  let v1530 : BitVec 32 := Scalar.addi c0_i32_1238 v1529
  v1530.toNat
def k0_dev81 (d0 : Dev nD) : Nat :=
  let c0_i32_1247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1241 : BitVec 32 := 19#32
  let v1537 : BitVec 32 := Scalar.addi v2 c19_i32_1241
  let c32_i32_1242 : BitVec 32 := 32#32
  let v1538 : BitVec 32 := Scalar.remsi v1537 c32_i32_1242
  let c1_i32_1246 : BitVec 32 := 1#32
  let v1541 : BitVec 32 := Scalar.muli v1538 c1_i32_1246
  let v1542 : BitVec 32 := Scalar.addi c0_i32_1247 v1541
  v1542.toNat
def k0_dev82 (d0 : Dev nD) : Nat :=
  let c0_i32_1256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1250 : BitVec 32 := 20#32
  let v1549 : BitVec 32 := Scalar.addi v2 c20_i32_1250
  let c32_i32_1251 : BitVec 32 := 32#32
  let v1550 : BitVec 32 := Scalar.remsi v1549 c32_i32_1251
  let c1_i32_1255 : BitVec 32 := 1#32
  let v1553 : BitVec 32 := Scalar.muli v1550 c1_i32_1255
  let v1554 : BitVec 32 := Scalar.addi c0_i32_1256 v1553
  v1554.toNat
def k0_dev83 (d0 : Dev nD) : Nat :=
  let c0_i32_1265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1259 : BitVec 32 := 21#32
  let v1561 : BitVec 32 := Scalar.addi v2 c21_i32_1259
  let c32_i32_1260 : BitVec 32 := 32#32
  let v1562 : BitVec 32 := Scalar.remsi v1561 c32_i32_1260
  let c1_i32_1264 : BitVec 32 := 1#32
  let v1565 : BitVec 32 := Scalar.muli v1562 c1_i32_1264
  let v1566 : BitVec 32 := Scalar.addi c0_i32_1265 v1565
  v1566.toNat
def k0_dev84 (d0 : Dev nD) : Nat :=
  let c0_i32_1274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1268 : BitVec 32 := 22#32
  let v1573 : BitVec 32 := Scalar.addi v2 c22_i32_1268
  let c32_i32_1269 : BitVec 32 := 32#32
  let v1574 : BitVec 32 := Scalar.remsi v1573 c32_i32_1269
  let c1_i32_1273 : BitVec 32 := 1#32
  let v1577 : BitVec 32 := Scalar.muli v1574 c1_i32_1273
  let v1578 : BitVec 32 := Scalar.addi c0_i32_1274 v1577
  v1578.toNat
def k0_dev85 (d0 : Dev nD) : Nat :=
  let c0_i32_1283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1277 : BitVec 32 := 23#32
  let v1585 : BitVec 32 := Scalar.addi v2 c23_i32_1277
  let c32_i32_1278 : BitVec 32 := 32#32
  let v1586 : BitVec 32 := Scalar.remsi v1585 c32_i32_1278
  let c1_i32_1282 : BitVec 32 := 1#32
  let v1589 : BitVec 32 := Scalar.muli v1586 c1_i32_1282
  let v1590 : BitVec 32 := Scalar.addi c0_i32_1283 v1589
  v1590.toNat
def k0_dev86 (d0 : Dev nD) : Nat :=
  let c0_i32_1292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1286 : BitVec 32 := 24#32
  let v1597 : BitVec 32 := Scalar.addi v2 c24_i32_1286
  let c32_i32_1287 : BitVec 32 := 32#32
  let v1598 : BitVec 32 := Scalar.remsi v1597 c32_i32_1287
  let c1_i32_1291 : BitVec 32 := 1#32
  let v1601 : BitVec 32 := Scalar.muli v1598 c1_i32_1291
  let v1602 : BitVec 32 := Scalar.addi c0_i32_1292 v1601
  v1602.toNat
def k0_dev87 (d0 : Dev nD) : Nat :=
  let c0_i32_1301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1295 : BitVec 32 := 25#32
  let v1609 : BitVec 32 := Scalar.addi v2 c25_i32_1295
  let c32_i32_1296 : BitVec 32 := 32#32
  let v1610 : BitVec 32 := Scalar.remsi v1609 c32_i32_1296
  let c1_i32_1300 : BitVec 32 := 1#32
  let v1613 : BitVec 32 := Scalar.muli v1610 c1_i32_1300
  let v1614 : BitVec 32 := Scalar.addi c0_i32_1301 v1613
  v1614.toNat
def k0_dev88 (d0 : Dev nD) : Nat :=
  let c0_i32_1310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1304 : BitVec 32 := 26#32
  let v1621 : BitVec 32 := Scalar.addi v2 c26_i32_1304
  let c32_i32_1305 : BitVec 32 := 32#32
  let v1622 : BitVec 32 := Scalar.remsi v1621 c32_i32_1305
  let c1_i32_1309 : BitVec 32 := 1#32
  let v1625 : BitVec 32 := Scalar.muli v1622 c1_i32_1309
  let v1626 : BitVec 32 := Scalar.addi c0_i32_1310 v1625
  v1626.toNat
def k0_dev89 (d0 : Dev nD) : Nat :=
  let c0_i32_1319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1313 : BitVec 32 := 27#32
  let v1633 : BitVec 32 := Scalar.addi v2 c27_i32_1313
  let c32_i32_1314 : BitVec 32 := 32#32
  let v1634 : BitVec 32 := Scalar.remsi v1633 c32_i32_1314
  let c1_i32_1318 : BitVec 32 := 1#32
  let v1637 : BitVec 32 := Scalar.muli v1634 c1_i32_1318
  let v1638 : BitVec 32 := Scalar.addi c0_i32_1319 v1637
  v1638.toNat
def k0_dev90 (d0 : Dev nD) : Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1322 : BitVec 32 := 28#32
  let v1645 : BitVec 32 := Scalar.addi v2 c28_i32_1322
  let c32_i32_1323 : BitVec 32 := 32#32
  let v1646 : BitVec 32 := Scalar.remsi v1645 c32_i32_1323
  let c1_i32_1327 : BitVec 32 := 1#32
  let v1649 : BitVec 32 := Scalar.muli v1646 c1_i32_1327
  let v1650 : BitVec 32 := Scalar.addi c0_i32_1328 v1649
  v1650.toNat
def k0_dev91 (d0 : Dev nD) : Nat :=
  let c0_i32_1337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1331 : BitVec 32 := 29#32
  let v1657 : BitVec 32 := Scalar.addi v2 c29_i32_1331
  let c32_i32_1332 : BitVec 32 := 32#32
  let v1658 : BitVec 32 := Scalar.remsi v1657 c32_i32_1332
  let c1_i32_1336 : BitVec 32 := 1#32
  let v1661 : BitVec 32 := Scalar.muli v1658 c1_i32_1336
  let v1662 : BitVec 32 := Scalar.addi c0_i32_1337 v1661
  v1662.toNat
def k0_dev92 (d0 : Dev nD) : Nat :=
  let c0_i32_1346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1340 : BitVec 32 := 30#32
  let v1669 : BitVec 32 := Scalar.addi v2 c30_i32_1340
  let c32_i32_1341 : BitVec 32 := 32#32
  let v1670 : BitVec 32 := Scalar.remsi v1669 c32_i32_1341
  let c1_i32_1345 : BitVec 32 := 1#32
  let v1673 : BitVec 32 := Scalar.muli v1670 c1_i32_1345
  let v1674 : BitVec 32 := Scalar.addi c0_i32_1346 v1673
  v1674.toNat
def k0_dev93 (d0 : Dev nD) : Nat :=
  let c0_i32_1355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1349 : BitVec 32 := 31#32
  let v1681 : BitVec 32 := Scalar.addi v2 c31_i32_1349
  let c32_i32_1350 : BitVec 32 := 32#32
  let v1682 : BitVec 32 := Scalar.remsi v1681 c32_i32_1350
  let c1_i32_1354 : BitVec 32 := 1#32
  let v1685 : BitVec 32 := Scalar.muli v1682 c1_i32_1354
  let v1686 : BitVec 32 := Scalar.addi c0_i32_1355 v1685
  v1686.toNat
def k0_off9 (d0 : Dev nD) (c1_i32_1358 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1693 : BitVec 32 := Scalar.subi v2 c1_i32_1358
  let c32_i32_1359 : BitVec 32 := 32#32
  let v1694 : BitVec 32 := Scalar.addi v1693 c32_i32_1359
  let c32_i32_1360 : BitVec 32 := 32#32
  let v1695 : BitVec 32 := Scalar.remsi v1694 c32_i32_1360
  let c8_i32_1362 : BitVec 32 := 8#32
  let v1697 : BitVec 32 := Scalar.muli v1695 c8_i32_1362
  let c0_i32_1366 : BitVec 32 := 0#32
  ![v1697.toNat, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x128x128x128 : Shape := ⟨4, ![2, 128, 128, 128]⟩
abbrev S1x1x128x128 : Shape := ⟨4, ![1, 1, 128, 128]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩

abbrev nBuf : Space → Nat
  | .hbm => 123
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x128x64, .f32⟩
  | .hbm, ⟨3, _⟩ => ⟨S2x128x128x64, .f32⟩
  | .hbm, ⟨4, _⟩ => ⟨S8192x512, .f32⟩
  | .hbm, ⟨5, _⟩ => ⟨S2x128x8192, .f32⟩
  | .hbm, ⟨6, _⟩ => ⟨S2x128x128x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S128x128, .i1⟩
  | .hbm, ⟨54, _⟩ => ⟨S128x128, .i1⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i1⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S_, .i32⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S128x128, .i1⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i1⟩
  | .hbm, ⟨83, _⟩ => ⟨S128x128, .i1⟩
  | .hbm, ⟨84, _⟩ => ⟨S2x128x128x128, .f32⟩
  | .hbm, ⟨85, _⟩ => ⟨S_, .f32⟩
  | .hbm, ⟨86, _⟩ => ⟨S2x128x128x128, .f32⟩
  | .hbm, ⟨87, _⟩ => ⟨S2x128x128x128, .f32⟩
  | .hbm, ⟨88, _⟩ => ⟨S1x1x128x128, .i1⟩
  | .hbm, ⟨89, _⟩ => ⟨S_, .f32⟩
  | .hbm, ⟨90, _⟩ => ⟨S_, .f32⟩
  | .hbm, ⟨91, _⟩ => ⟨S2x128x128x128, .i1⟩
  | .hbm, ⟨92, _⟩ => ⟨S2x128x128x128, .f32⟩
  | .hbm, ⟨93, _⟩ => ⟨S2x128x128x128, .f32⟩
  | .hbm, ⟨94, _⟩ => ⟨S_, .f32⟩
  | .hbm, ⟨95, _⟩ => ⟨S2x128x128, .f32⟩
  | .hbm, ⟨96, _⟩ => ⟨S2x128x128x1, .f32⟩
  | .hbm, ⟨97, _⟩ => ⟨S2x128x128x128, .f32⟩
  | .hbm, ⟨98, _⟩ => ⟨S2x128x128x128, .f32⟩
  | .hbm, ⟨99, _⟩ => ⟨S2x128x128x128, .f32⟩
  | .hbm, ⟨100, _⟩ => ⟨S_, .i1⟩
  | .hbm, ⟨101, _⟩ => ⟨S128, .i1⟩
  | .hbm, ⟨102, _⟩ => ⟨S1x1x128x1, .i1⟩
  | .hbm, ⟨103, _⟩ => ⟨S_, .f32⟩
  | .hbm, ⟨104, _⟩ => ⟨S2x128x128, .f32⟩
  | .hbm, ⟨105, _⟩ => ⟨S2x128x128x1, .f32⟩
  | .hbm, ⟨106, _⟩ => ⟨S_, .f32⟩
  | .hbm, ⟨107, _⟩ => ⟨S_, .f32⟩
  | .hbm, ⟨108, _⟩ => ⟨S2x128x128x1, .i1⟩
  | .hbm, ⟨109, _⟩ => ⟨S2x128x128x1, .f32⟩
  | .hbm, ⟨110, _⟩ => ⟨S2x128x128x1, .f32⟩
  | .hbm, ⟨111, _⟩ => ⟨S2x128x128x128, .f32⟩
  | .hbm, ⟨112, _⟩ => ⟨S2x128x128x128, .f32⟩
  | .hbm, ⟨113, _⟩ => ⟨S1x1x128x1, .i1⟩
  | .hbm, ⟨114, _⟩ => ⟨S_, .f32⟩
  | .hbm, ⟨115, _⟩ => ⟨S_, .f32⟩
  | .hbm, ⟨116, _⟩ => ⟨S2x128x128x128, .i1⟩
  | .hbm, ⟨117, _⟩ => ⟨S2x128x128x128, .f32⟩
  | .hbm, ⟨118, _⟩ => ⟨S2x128x128x128, .f32⟩
  | .hbm, ⟨119, _⟩ => ⟨S2x128x64x128, .f32⟩
  | .hbm, ⟨120, _⟩ => ⟨S2x128x128x64, .f32⟩
  | .hbm, ⟨121, _⟩ => ⟨S2x128x8192, .f32⟩
  | .hbm, ⟨122, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Same.lean ====
/-
# The two kernel programs are one text

The program read bit for bit and the program read over the reals are the same text, so at the same floats they are the same program.
-/
module

public import proofs.«01_k».proof.Defs
public import proofs.«01_k».proof.Proof.Gen.Kernel.Launch
public import proofs.«01_k».proof.Proof.Gen.KernelIdeal.Launch

@[expose] public section

noncomputable section

namespace Cert.Proof

open Idealize.ShloMosaic Idealize.SL.Sem

theorem body_same : Cert.Kernel.cc0__body (F := Bits) = Cert.KernelIdeal.cc0__body (F := Bits) := rfl

theorem kernels_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    show Cert.Kernel.cc0__body (F := Bits) _ _ _ _ _ _ _ _ _ _ _ _ _ _ _ _ _ _ _ _ _ _
      = Cert.KernelIdeal.cc0__body (F := Bits) _ _ _ _ _ _ _ _ _ _ _ _ _ _ _ _ _ _ _ _ _ _
    rw [body_same]

theorem defs_same : Cert.Kernel.defs (F := Bits) = Cert.KernelIdeal.defs (F := Bits) := by
  unfold Cert.Kernel.defs Cert.KernelIdeal.defs
  rw [kernels_same]
  rfl

theorem host0_same (c : Dev Cert.Kernel.nD) : Cert.Kernel.Gen.hostOps0 (F := Bits) c = Cert.KernelIdeal.Gen.hostOps0 (F := Bits) c := rfl
theorem host1_same : Cert.Kernel.Gen.hostOps0_1 (F := Bits) = Cert.KernelIdeal.Gen.hostOps0_1 (F := Bits) := rfl
theorem host2_same : Cert.Kernel.Gen.hostOps0_2 (F := Bits) = Cert.KernelIdeal.Gen.hostOps0_2 (F := Bits) := rfl
theorem host3_same : Cert.Kernel.Gen.hostOps0_3 (F := Bits) = Cert.KernelIdeal.Gen.hostOps0_3 (F := Bits) := rfl
theorem host4_same : Cert.Kernel.Gen.hostOps0_4 (F := Bits) = Cert.KernelIdeal.Gen.hostOps0_4 (F := Bits) := rfl
theorem host5_same : Cert.Kernel.Gen.hostOps1 (F := Bits) = Cert.KernelIdeal.Gen.hostOps1 (F := Bits) := rfl

theorem main_same : Cert.Kernel.main (F := Bits) = Cert.KernelIdeal.main (F := Bits) := by
  refine funext fun c => (Cert.Kernel.Gen.main_chain c).trans (Eq.trans ?_ (Cert.KernelIdeal.Gen.main_chain c).symm)
  rw [host0_same, host1_same, host2_same, host3_same, host4_same, host5_same]

end Cert.Proof
-- ==== Proof.Phases.lean ====
/-
# The kernel body as phases

The printed body is straight-line text: each of its seven exchanges is written out for the 31 other devices. Here it is said
again as a short program of phases, each exchange one operation run for `r = 0, …, 30`, and shown to be the printed body.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

abbrev PG (F : FTy → Type) [FloatOps F] (α : Type) := Prog (TpuEff nD τ sig (Elt F) Λ₀ .tc) α

/-- One operation for each listed member, in order. -/
def each (f : Fin 31 → PG F PUnit) : List (Fin 31) → PG F PUnit
  | [] => pure ⟨⟩
  | r :: l => f r >>= fun _ => each f l

/-- The 31 steps of an exchange. -/
def steps : List (Fin 31) :=
  [0, 1, 2, 3, 4, 5, 6, 7, 8, 9, 10, 11, 12, 13, 14, 15, 16, 17, 18, 19, 20, 21, 22, 23, 24, 25, 26, 27, 28, 29, 30]

theorem steps_eq : steps = List.finRange 31 := by decide

/-- The device a core addresses at step `r`. -/
def nxt (c : Dev nD) (r : Fin 31) : Dev nD := ⟨(c.val + r.val + 1) % 32, Nat.mod_lt _ (by decide)⟩

/-- The device a core hears from at step `r`. -/
def prv (c : Dev nD) (r : Fin 31) : Dev nD := ⟨((c.val + 31) - r.val) % 32, Nat.mod_lt _ (by decide)⟩

theorem inb_sem (r : Fin 32) : ∀ a, (![r.val] : Fin S32.rank → ℕ) a + S1.size a ≤ S32.size a := by
  have h := r.isLt
  intro a
  fin_cases a
  show r.val + 1 ≤ 32
  omega

theorem inb_head (b : Fin 2) (h : Fin 8) :
    ∀ a, (![b.val, 0, h.val, 0] : Fin S2x128x8x64.rank → ℕ) a + S1x128x1x64.size a ≤ S2x128x8x64.size a := by
  revert b h; decide

section
variable (arg0 : Memref sig .tc .vmem S256x512 .f32) (arg1 : Memref sig .tc .vmem S512x256 .f32)
  (arg2 arg3 : Memref sig .tc .vmem S2x128x8x64 .bf16) (arg4 arg5 : Memref sig .tc .vmem S256x512 .f32)
  (arg6 : Memref sig .tc .vmem S256x512 .bf16) (harg6 : arg6.IsWhole) (arg7 : Memref sig .tc .vmem S32x8x512 .bf16) (harg7 : arg7.IsWhole)
  (arg8 : Memref sig .tc .vmem S256x512 .bf16) (harg8 : arg8.IsWhole) (arg9 arg10 arg11 arg12 : DmaSems sig S32)

/-- The semaphore of an array at one index. -/
abbrev semAt (a : DmaSems sig S32) (r : Fin 32) : DmaSem sig :=
  ((a.slice (Rect.unit (s := S32) ![r.val] S1.size (inb_sem r))).squeeze S_ squeezes_S1_S_).sem

/-- The semaphore of an array at one step. -/
abbrev semStep (a : DmaSems sig S32) (r : Fin 31) : DmaSem sig := semAt a ⟨r.val, by have := r.isLt; omega⟩

/-- A head of the keys or of the values. -/
abbrev head (a : Memref sig .tc .vmem S2x128x8x64 .bf16) (b : Fin 2) (h : Fin 8) : PG F (Vec F S1x128x1x64 .bf16) :=
  Prog.lift (.load a (Rect.unit (s := S2x128x8x64) ![b.val, 0, h.val, 0] S1x128x1x64.size (inb_head b h)).toLoadRect (View.loadsAt_vmem h_S1x128x1x64))

/-- Tell a device that this one has started. -/
def signalTo (d : Dev nD) : PG F PUnit := semSignalWord d (SemArray.scalar (d := ![]) (sig.barrier 0 rfl)).sem 1#32

/-- A device's part of the projection: read the operands, compute, keep the result in the first scratch buffer. -/
def compute (d0 : Dev nD) : PG F PUnit := do
  let x ← Prog.lift (.load arg0 (Rect.unit (s := S256x512) ![0, 0] S256x512.size inb_S256x512_S256x512_0_0).toLoadRect (View.loadsAt_vmem h_S256x512))
  let w ← Prog.lift (.load arg1 (Rect.unit (s := S512x256) ![0, 0] S512x256.size inb_S512x256_S512x256_0_0).toLoadRect (View.loadsAt_vmem h_S512x256))
  let v2 : BitVec 32 := Scalar.remsi (Scalar.divsi (Dev.word d0) 1#32) 32#32
  let v208 : BitVec 1 := Scalar.cmpi .eq (Scalar.remsi v2 2#32) 1#32
  let v132 : FVec F S256x256 .f32 := k0_pay1 x w
  let v158 : IVec S128x128 32 := iota .tc S128x128 32 [1] iota_S128x128_d1_w32
  let v186 : IVec S128x128 1 := k0_pay4 k0_pay2 v158
  let v203 : IVec S128x128 32 := k0_pay5 k0_pay2 v158
  let v206 : IVec S128x128 1 := k0_pay6 v186 v203 0#32
  let v209 : FVec F S256x256 .bf16 := k0_pay7 v132
  let K04 ← head arg2 0 4
  let K00 ← head arg2 0 0
  let V04 ← head arg3 0 4
  let V00 ← head arg3 0 0
  let K05 ← head arg2 0 5
  let K01 ← head arg2 0 1
  let V05 ← head arg3 0 5
  let V01 ← head arg3 0 1
  let K06 ← head arg2 0 6
  let K02 ← head arg2 0 2
  let V06 ← head arg3 0 6
  let V02 ← head arg3 0 2
  let K07 ← head arg2 0 7
  let K03 ← head arg2 0 3
  let V07 ← head arg3 0 7
  let V03 ← head arg3 0 3
  let K14 ← head arg2 1 4
  let K10 ← head arg2 1 0
  let V14 ← head arg3 1 4
  let V10 ← head arg3 1 0
  let K15 ← head arg2 1 5
  let K11 ← head arg2 1 1
  let V15 ← head arg3 1 5
  let V11 ← head arg3 1 1
  let K16 ← head arg2 1 6
  let K12 ← head arg2 1 2
  let V16 ← head arg3 1 6
  let V12 ← head arg3 1 2
  let K17 ← head arg2 1 7
  let K13 ← head arg2 1 3
  let V17 ← head arg3 1 7
  let V13 ← head arg3 1 3
  let wo ← Prog.lift (.load arg4 (Rect.unit (s := S256x512) ![0, 0] S256x512.size inb_S256x512_S256x512_0_0).toLoadRect (View.loadsAt_vmem h_S256x512))
  let _ ← Prog.lift (.load arg6 (Rect.unit (s := S256x512) ![0, 0] S256x512.size inb_S256x512_S256x512_0_0).toLoadRect (View.loadsAt_vmem h_S256x512))
  Prog.lift (.store arg6 (Rect.unit (s := S256x512) ![0, 0] S256x512.size inb_S256x512_S256x512_0_0)
    (k0_pay27 v206 v208
      (k0_pay17 v206 v208 (k0_pay8 v2 v132 v186 v203 0#32 K04 K00 V04 V00) (k0_pay10 v206 v208 (k0_pay9 v132) K05 K01 V05 V01)
        (k0_pay13 v206 v208 (k0_pay11 v209) (k0_pay12 v208 K06 K02) V06 V02) (k0_pay14 v209) (k0_pay15 v208 K07 K03) (k0_pay16 V07) V03)
      (k0_pay20 (k0_pay18 v208 V14 V10) (k0_pay19 v206 v208 v209 K14 K10))
      (k0_pay23 (k0_pay21 v208 V15 V11) (k0_pay22 v206 v208 v209 K15 K11))
      (k0_pay24 v206 v208 v209 K16 K12 V16 V12) (k0_pay25 v209) (k0_pay26 K17) K13 V17 V13 wo)
    Finset.univ (View.stores_vmem h_S256x512 (harg6.storeExact_slice rfl _ packedbf16_S256x512_S256x512_0_0) (fun _ => rfl)) (.inl rfl))

/-- The slot of the second scratch buffer that holds this device's rows. -/
abbrev rsRaw (d0 : Dev nD) : Memref sig .tc .vmem S8x512 .bf16 :=
  (arg7.slice (Rect.unit (s := S32x8x512) (k0_off2 d0) S1x8x512.size (k0_off2_inb d0)) (fun _ => rfl)).squeeze S8x512 squeezes_S1x8x512_S8x512

/-- The rows of the first scratch buffer that go to the device addressed at step `r`. -/
abbrev pbRaw (d0 : Dev nD) (r : Fin 31) : Memref sig .tc .vmem S8x512 .bf16 :=
  arg6.slice (Rect.unit (s := S256x512) (k0_off3 d0 (BitVec.ofNat 32 (1 + r.val))) S8x512.size (k0_off3_inb d0 r)) (fun _ => rfl)

/-- The rows this device reduces. -/
abbrev ownRaw (a : Memref sig .tc .vmem S256x512 .bf16) (d0 : Dev nD) : Memref sig .tc .vmem S8x512 .bf16 :=
  a.slice (Rect.unit (s := S256x512) (k0_off8 d0) S8x512.size (k0_off8_inb d0)) (fun _ => rfl)

def psendTo (d0 : Dev nD) (r : Fin 31) (dst : Dev nD) : PG F PUnit :=
  Prog.lift (.enqueueDma (pbRaw arg6 d0 r) (.remote (Dev.tc dst) (rsRaw arg7 d0) (.dma (semStep arg9 r)))
    (.dma ((arg10.slice (Rect.unit (s := S32) (k0_off1 d0) S1.size (k0_off1_inb d0))).squeeze S_ squeezes_S1_S_).sem)
    (harg6.wordExact_slice rfl _ (k0_off3_wordsbf16 d0 r)) ((harg7.wordExact_slice rfl _ (k0_off2_wordsbf16 d0)).reshape _ _) ⟨⟨rfl, Or.inl rfl⟩, trivial⟩)

/-- A device's own rows go to its own slot without a transfer. -/
def keepOwn (d0 : Dev nD) : PG F PUnit := do
  let v810 : Vec F S8x512 .bf16 ← Prog.lift (.load arg6 (Rect.unit (s := S256x512) (k0_off4 d0) S8x512.size (k0_off4_inb d0)).toLoadRect (View.loadsAt_vmem h_S8x512))
  let v813 : Vec F S1x8x512 .bf16 ← Prog.lift (.load arg7 (Rect.unit (s := S32x8x512) (k0_off5 d0) S1x8x512.size (k0_off5_inb d0)).toLoadRect (View.loadsAt_vmem h_S1x8x512))
  Prog.lift (.store arg7 (Rect.unit (s := S32x8x512) (k0_off5 d0) S1x8x512.size (k0_off5_inb d0)) (k0_pay28 v810) Finset.univ (View.stores_vmem h_S1x8x512 (harg7.storeExact_slice rfl _ (k0_off5_packedbf16 d0)) (fun _ => rfl)) (.inl rfl))

def precv (d0 : Dev nD) (r : Fin 31) : PG F PUnit :=
  Prog.lift (.waitDma2 ((arg10.slice (Rect.unit (s := S32) (k0_off6 d0 (BitVec.ofNat 32 (1 + r.val))) S1.size (k0_off6_inb d0 r))).squeeze S_ squeezes_S1_S_).sem
    (ownRaw arg6 d0)
    ((arg7.slice (Rect.unit (s := S32x8x512) (k0_off7 d0 (BitVec.ofNat 32 (1 + r.val))) S1x8x512.size (k0_off7_inb d0 r)) (fun _ => rfl)).squeeze S8x512 squeezes_S1x8x512_S8x512)
    (harg6.wordExact_slice rfl _ (k0_off8_wordsbf16 d0)) ((harg7.wordExact_slice rfl _ (k0_off7_wordsbf16 d0 r)).reshape _ _))

def psent (d0 : Dev nD) (r : Fin 31) : PG F PUnit :=
  Prog.lift (.waitDma2 (semStep arg9 r) (rsRaw arg7 d0) (pbRaw arg6 d0 r)
    ((harg7.wordExact_slice rfl _ (k0_off2_wordsbf16 d0)).reshape _ _) (harg6.wordExact_slice rfl _ (k0_off3_wordsbf16 d0 r)))

/-- Add up the 32 devices' contributions to this device's rows. -/
def reduce (d0 : Dev nD) : PG F PUnit := do
  let v1312 : Vec F S32x8x512 .bf16 ← Prog.lift (.load arg7 (Rect.unit (s := S32x8x512) ![0, 0, 0] S32x8x512.size inb_S32x8x512_S32x8x512_0_0_0).toLoadRect (View.loadsAt_vmem h_S32x8x512))
  let v1318 : Vec F S8x512 .bf16 ← Prog.lift (.load arg8 (Rect.unit (s := S256x512) (k0_off4 d0) S8x512.size (k0_off4_inb d0)).toLoadRect (View.loadsAt_vmem h_S8x512))
  Prog.lift (.store arg8 (Rect.unit (s := S256x512) (k0_off4 d0) S8x512.size (k0_off4_inb d0)) (k0_pay29 v1312) Finset.univ (View.stores_vmem h_S8x512 (harg8.storeExact_slice rfl _ (k0_off4_packedbf16 d0)) (fun _ => rfl)) (.inl rfl))

def gsendTo (d0 : Dev nD) (r : Fin 31) (dst : Dev nD) : PG F PUnit :=
  Prog.lift (.enqueueDma (ownRaw arg8 d0) (.remote (Dev.tc dst) (ownRaw arg8 d0) (.dma (semStep arg11 r)))
    (.dma ((arg12.slice (Rect.unit (s := S32) (k0_off1 d0) S1.size (k0_off1_inb d0))).squeeze S_ squeezes_S1_S_).sem)
    (harg8.wordExact_slice rfl _ (k0_off8_wordsbf16 d0)) (harg8.wordExact_slice rfl _ (k0_off8_wordsbf16 d0)) ⟨⟨rfl, Or.inl rfl⟩, trivial⟩)

/-- The rows heard from the device of step `r`. -/
abbrev gbRaw (d0 : Dev nD) (r : Fin 31) : Memref sig .tc .vmem S8x512 .bf16 :=
  arg8.slice (Rect.unit (s := S256x512) (k0_off9 d0 (BitVec.ofNat 32 (1 + r.val))) S8x512.size (k0_off9_inb d0 r)) (fun _ => rfl)

def grecv (d0 : Dev nD) (r : Fin 31) : PG F PUnit :=
  Prog.lift (.waitDma2 ((arg12.slice (Rect.unit (s := S32) (k0_off6 d0 (BitVec.ofNat 32 (1 + r.val))) S1.size (k0_off6_inb d0 r))).squeeze S_ squeezes_S1_S_).sem
    (gbRaw arg8 d0 r) (gbRaw arg8 d0 r)
    (harg8.wordExact_slice rfl _ (k0_off9_wordsbf16 d0 r)) (harg8.wordExact_slice rfl _ (k0_off9_wordsbf16 d0 r)))

/-- The gathered rows are the result. -/
def finish : PG F PUnit := do
  let v2034 : Vec F S256x512 .bf16 ← Prog.lift (.load arg8 (Rect.unit (s := S256x512) ![0, 0] S256x512.size inb_S256x512_S256x512_0_0).toLoadRect (View.loadsAt_vmem h_S256x512))
  let _ ← Prog.lift (.load arg5 (Rect.unit (s := S256x512) ![0, 0] S256x512.size inb_S256x512_S256x512_0_0).toLoadRect (View.loadsAt_vmem h_S256x512))
  Prog.lift (.store arg5 (Rect.unit (s := S256x512) ![0, 0] S256x512.size inb_S256x512_S256x512_0_0) (k0_pay30 v2034) Finset.univ (View.stores_vmem_bits_univ h_S256x512 rfl) (.inl rfl))

def gsent (d0 : Dev nD) (r : Fin 31) : PG F PUnit :=
  Prog.lift (.waitDma2 (semStep arg11 r) (ownRaw arg8 d0) (ownRaw arg8 d0)
    (harg8.wordExact_slice rfl _ (k0_off8_wordsbf16 d0)) (harg8.wordExact_slice rfl _ (k0_off8_wordsbf16 d0)))

/-- The body, phase by phase. -/
def phases : PG F PUnit := do
  let d0 : Dev nD ← Prog.lift .deviceId
  each (fun r => signalTo (nxt d0 r)) steps
  compute arg0 arg1 arg2 arg3 arg4 arg6 harg6 d0
  semWaitWord (SemArray.scalar (d := ![]) (sig.barrier 0 rfl)).sem 31#32
  each (fun r => psendTo arg6 harg6 arg7 harg7 arg9 arg10 d0 r (nxt d0 r)) steps
  keepOwn arg6 arg7 harg7 d0
  each (precv arg6 harg6 arg7 harg7 arg10 d0) steps
  each (psent arg6 harg6 arg7 harg7 arg9 d0) steps
  reduce arg7 arg8 harg8 d0
  each (fun r => gsendTo arg8 harg8 arg11 arg12 d0 r (nxt d0 r)) steps
  each (grecv arg8 harg8 arg12 d0) steps
  finish arg5 arg8
  each (gsent arg8 harg8 arg11 d0) steps
end

/-- The printed body's text over the exchanges' operations, grouped as it is printed. -/
def grouped (arg0 : Memref sig .tc .vmem S256x512 .f32) (harg0 : arg0.IsWhole) (arg1 : Memref sig .tc .vmem S512x256 .f32) (harg1 : arg1.IsWhole)
    (arg2 : Memref sig .tc .vmem S2x128x8x64 .bf16) (harg2 : arg2.IsWhole) (arg3 : Memref sig .tc .vmem S2x128x8x64 .bf16) (harg3 : arg3.IsWhole)
    (arg4 : Memref sig .tc .vmem S256x512 .f32) (harg4 : arg4.IsWhole) (arg5 : Memref sig .tc .vmem S256x512 .f32) (harg5 : arg5.IsWhole)
    (arg6 : Memref sig .tc .vmem S256x512 .bf16) (harg6 : arg6.IsWhole) (arg7 : Memref sig .tc .vmem S32x8x512 .bf16) (harg7 : arg7.IsWhole)
    (arg8 : Memref sig .tc .vmem S256x512 .bf16) (harg8 : arg8.IsWhole) (arg9 arg10 arg11 arg12 : DmaSems sig S32) : PG F PUnit := do
  let ⟨d0, v2⟩ : Σ' (d0 : Dev nD), BitVec 32 ← (do
      let ⟨d0, v2, v3, v24, c32_i32_20⟩ : Σ' (d0 : Dev nD) (v2 : BitVec 32) (v3 : Sems sig S_) (v24 : BitVec 32), BitVec 32 ← (do
          let d0 : Dev nD ← Prog.lift .deviceId
          let v0 : BitVec 32 := Dev.word d0
          let v1 : BitVec 32 := Scalar.divsi v0 1#32
          let v2 : BitVec 32 := Scalar.remsi v1 32#32
          let v3 : Sems sig S_ := SemArray.scalar (sig.barrier 0 rfl)
          signalTo ⟨k0_dev1 d0, k0_dev1_lt d0⟩
          signalTo ⟨k0_dev2 d0, k0_dev2_lt d0⟩
          signalTo ⟨k0_dev3 d0, k0_dev3_lt d0⟩
          signalTo ⟨k0_dev4 d0, k0_dev4_lt d0⟩
          signalTo ⟨k0_dev5 d0, k0_dev5_lt d0⟩
          let v24 : BitVec 32 := Scalar.addi v2 6#32
          pure ⟨d0, v2, v3, v24, 32#32⟩ : PG F (Σ' (d0 : Dev nD) (v2 : BitVec 32) (v3 : Sems sig S_) (v24 : BitVec 32), BitVec 32))
      let ⟨v48, c32_i32_44⟩ : Σ' (v48 : BitVec 32), BitVec 32 ← (do
          signalTo ⟨k0_dev6 d0, k0_dev6_lt d0⟩
          signalTo ⟨k0_dev7 d0, k0_dev7_lt d0⟩
          signalTo ⟨k0_dev8 d0, k0_dev8_lt d0⟩
          signalTo ⟨k0_dev9 d0, k0_dev9_lt d0⟩
          signalTo ⟨k0_dev10 d0, k0_dev10_lt d0⟩
          signalTo ⟨k0_dev11 d0, k0_dev11_lt d0⟩
          let v48 : BitVec 32 := Scalar.addi v2 12#32
          pure ⟨v48, 32#32⟩ : PG F (Σ' (v48 : BitVec 32), BitVec 32))
      let ⟨v72, c32_i32_68⟩ : Σ' (v72 : BitVec 32), BitVec 32 ← (do
          signalTo ⟨k0_dev12 d0, k0_dev12_lt d0⟩
          signalTo ⟨k0_dev13 d0, k0_dev13_lt d0⟩
          signalTo ⟨k0_dev14 d0, k0_dev14_lt d0⟩
          signalTo ⟨k0_dev15 d0, k0_dev15_lt d0⟩
          signalTo ⟨k0_dev16 d0, k0_dev16_lt d0⟩
          signalTo ⟨k0_dev17 d0, k0_dev17_lt d0⟩
          let v72 : BitVec 32 := Scalar.addi v2 18#32
          pure ⟨v72, 32#32⟩ : PG F (Σ' (v72 : BitVec 32), BitVec 32))
      let ⟨v96, c32_i32_92⟩ : Σ' (v96 : BitVec 32), BitVec 32 ← (do
          signalTo ⟨k0_dev18 d0, k0_dev18_lt d0⟩
          signalTo ⟨k0_dev19 d0, k0_dev19_lt d0⟩
          signalTo ⟨k0_dev20 d0, k0_dev20_lt d0⟩
          signalTo ⟨k0_dev21 d0, k0_dev21_lt d0⟩
          signalTo ⟨k0_dev22 d0, k0_dev22_lt d0⟩
          signalTo ⟨k0_dev23 d0, k0_dev23_lt d0⟩
          let v96 : BitVec 32 := Scalar.addi v2 24#32
          pure ⟨v96, 32#32⟩ : PG F (Σ' (v96 : BitVec 32), BitVec 32))
      let ⟨v120, c32_i32_116⟩ : Σ' (v120 : BitVec 32), BitVec 32 ← (do
          signalTo ⟨k0_dev24 d0, k0_dev24_lt d0⟩
          signalTo ⟨k0_dev25 d0, k0_dev25_lt d0⟩
          signalTo ⟨k0_dev26 d0, k0_dev26_lt d0⟩
          signalTo ⟨k0_dev27 d0, k0_dev27_lt d0⟩
          signalTo ⟨k0_dev28 d0, k0_dev28_lt d0⟩
          signalTo ⟨k0_dev29 d0, k0_dev29_lt d0⟩
          let v120 : BitVec 32 := Scalar.addi v2 30#32
          pure ⟨v120, 32#32⟩ : PG F (Σ' (v120 : BitVec 32), BitVec 32))
      let ⟨v132, v157, v158⟩ : Σ' (v132 : FVec F S256x256 .f32) (v157 : IVec S128x128 32), IVec S128x128 32 ← (do
          signalTo ⟨k0_dev30 d0, k0_dev30_lt d0⟩
          signalTo ⟨k0_dev31 d0, k0_dev31_lt d0⟩
          let v128 : Vec F S256x512 .f32 ← Prog.lift (.load arg0 (Rect.unit (s := S256x512) ![0, 0] S256x512.size inb_S256x512_S256x512_0_0).toLoadRect (View.loadsAt_vmem h_S256x512))
          let v130 : Vec F S512x256 .f32 ← Prog.lift (.load arg1 (Rect.unit (s := S512x256) ![0, 0] S512x256.size inb_S512x256_S512x256_0_0).toLoadRect (View.loadsAt_vmem h_S512x256))
          have v158 : IVec S128x128 32 := iota .tc S128x128 32 [1] iota_S128x128_d1_w32
          pure ⟨k0_pay1 v128 v130, k0_pay2, v158⟩ : PG F (Σ' (v132 : FVec F S256x256 .f32) (v157 : IVec S128x128 32), IVec S128x128 32))
      let ⟨v186, v203, c0_i32_147⟩ : Σ' (v186 : IVec S128x128 1) (v203 : IVec S128x128 32), BitVec 32 ← (do
          pure ⟨k0_pay4 v157 v158, k0_pay5 v157 v158, 0#32⟩ : PG F (Σ' (v186 : IVec S128x128 1) (v203 : IVec S128x128 32), BitVec 32))
      let ⟨v206, v208, v209, v236, v237⟩ : Σ' (v206 : IVec S128x128 1) (v208 : BitVec 1) (v209 : FVec F S256x256 .bf16) (v236 : FVec F S128x64 .f32), FVec F S128x64 .bf16 ← (do
          let v207 : BitVec 32 := Scalar.remsi v2 2#32
          let v208 : BitVec 1 := Scalar.cmpi .eq v207 1#32
          let v211 : Vec F S1x128x1x64 .bf16 ← Prog.lift (.load arg2 (Rect.unit (s := S2x128x8x64) ![0, 0, 4, 0] S1x128x1x64.size inb_S2x128x8x64_S1x128x1x64_0_0_4_0).toLoadRect (View.loadsAt_vmem h_S1x128x1x64))
          let v213 : Vec F S1x128x1x64 .bf16 ← Prog.lift (.load arg2 (Rect.unit (s := S2x128x8x64) ![0, 0, 0, 0] S1x128x1x64.size inb_S2x128x8x64_S1x128x1x64_0_0_0_0).toLoadRect (View.loadsAt_vmem h_S1x128x1x64))
          let v216 : Vec F S1x128x1x64 .bf16 ← Prog.lift (.load arg3 (Rect.unit (s := S2x128x8x64) ![0, 0, 4, 0] S1x128x1x64.size inb_S2x128x8x64_S1x128x1x64_0_0_4_0).toLoadRect (View.loadsAt_vmem h_S1x128x1x64))
          let v218 : Vec F S1x128x1x64 .bf16 ← Prog.lift (.load arg3 (Rect.unit (s := S2x128x8x64) ![0, 0, 0, 0] S1x128x1x64.size inb_S2x128x8x64_S1x128x1x64_0_0_0_0).toLoadRect (View.loadsAt_vmem h_S1x128x1x64))
          pure ⟨k0_pay6 v186 v203 c0_i32_147, v208, k0_pay7 v132, k0_pay8 v2 v132 v186 v203 c0_i32_147 v211 v213 v216 v218, k0_pay9 v132⟩ : PG F (Σ' (v206 : IVec S128x128 1) (v208 : BitVec 1) (v209 : FVec F S256x256 .bf16) (v236 : FVec F S128x64 .f32), FVec F S128x64 .bf16))
      let ⟨v263, v264, v269⟩ : Σ' (v263 : FVec F S128x64 .f32) (v264 : FVec F S128x64 .bf16), FVec F S128x64 .bf16 ← (do
          let v238 : Vec F S1x128x1x64 .bf16 ← Prog.lift (.load arg2 (Rect.unit (s := S2x128x8x64) ![0, 0, 5, 0] S1x128x1x64.size inb_S2x128x8x64_S1x128x1x64_0_0_5_0).toLoadRect (View.loadsAt_vmem h_S1x128x1x64))
          let v240 : Vec F S1x128x1x64 .bf16 ← Prog.lift (.load arg2 (Rect.unit (s := S2x128x8x64) ![0, 0, 1, 0] S1x128x1x64.size inb_S2x128x8x64_S1x128x1x64_0_0_1_0).toLoadRect (View.loadsAt_vmem h_S1x128x1x64))
          let v243 : Vec F S1x128x1x64 .bf16 ← Prog.lift (.load arg3 (Rect.unit (s := S2x128x8x64) ![0, 0, 5, 0] S1x128x1x64.size inb_S2x128x8x64_S1x128x1x64_0_0_5_0).toLoadRect (View.loadsAt_vmem h_S1x128x1x64))
          let v245 : Vec F S1x128x1x64 .bf16 ← Prog.lift (.load arg3 (Rect.unit (s := S2x128x8x64) ![0, 0, 1, 0] S1x128x1x64.size inb_S2x128x8x64_S1x128x1x64_0_0_1_0).toLoadRect (View.loadsAt_vmem h_S1x128x1x64))
          let v265 : Vec F S1x128x1x64 .bf16 ← Prog.lift (.load arg2 (Rect.unit (s := S2x128x8x64) ![0, 0, 6, 0] S1x128x1x64.size inb_S2x128x8x64_S1x128x1x64_0_0_6_0).toLoadRect (View.loadsAt_vmem h_S1x128x1x64))
          let v267 : Vec F S1x128x1x64 .bf16 ← Prog.lift (.load arg2 (Rect.unit (s := S2x128x8x64) ![0, 0, 2, 0] S1x128x1x64.size inb_S2x128x8x64_S1x128x1x64_0_0_2_0).toLoadRect (View.loadsAt_vmem h_S1x128x1x64))
          pure ⟨k0_pay10 v206 v208 v237 v238 v240 v243 v245, k0_pay11 v209, k0_pay12 v208 v265 v267⟩ : PG F (Σ' (v263 : FVec F S128x64 .f32) (v264 : FVec F S128x64 .bf16), FVec F S128x64 .bf16))
      let ⟨v290, v291, v296, v298, v299⟩ : Σ' (v290 : FVec F S128x64 .f32) (v291 : FVec F S128x64 .bf16) (v296 : FVec F S128x64 .bf16) (v298 : FVec F S128x64 .bf16), Vec F S1x128x1x64 .bf16 ← (do
          let v270 : Vec F S1x128x1x64 .bf16 ← Prog.lift (.load arg3 (Rect.unit (s := S2x128x8x64) ![0, 0, 6, 0] S1x128x1x64.size inb_S2x128x8x64_S1x128x1x64_0_0_6_0).toLoadRect (View.loadsAt_vmem h_S1x128x1x64))
          let v272 : Vec F S1x128x1x64 .bf16 ← Prog.lift (.load arg3 (Rect.unit (s := S2x128x8x64) ![0, 0, 2, 0] S1x128x1x64.size inb_S2x128x8x64_S1x128x1x64_0_0_2_0).toLoadRect (View.loadsAt_vmem h_S1x128x1x64))
          let v292 : Vec F S1x128x1x64 .bf16 ← Prog.lift (.load arg2 (Rect.unit (s := S2x128x8x64) ![0, 0, 7, 0] S1x128x1x64.size inb_S2x128x8x64_S1x128x1x64_0_0_7_0).toLoadRect (View.loadsAt_vmem h_S1x128x1x64))
          let v294 : Vec F S1x128x1x64 .bf16 ← Prog.lift (.load arg2 (Rect.unit (s := S2x128x8x64) ![0, 0, 3, 0] S1x128x1x64.size inb_S2x128x8x64_S1x128x1x64_0_0_3_0).toLoadRect (View.loadsAt_vmem h_S1x128x1x64))
          let v297 : Vec F S1x128x1x64 .bf16 ← Prog.lift (.load arg3 (Rect.unit (s := S2x128x8x64) ![0, 0, 7, 0] S1x128x1x64.size inb_S2x128x8x64_S1x128x1x64_0_0_7_0).toLoadRect (View.loadsAt_vmem h_S1x128x1x64))
          let v299 : Vec F S1x128x1x64 .bf16 ← Prog.lift (.load arg3 (Rect.unit (s := S2x128x8x64) ![0, 0, 3, 0] S1x128x1x64.size inb_S2x128x8x64_S1x128x1x64_0_0_3_0).toLoadRect (View.loadsAt_vmem h_S1x128x1x64))
          pure ⟨k0_pay13 v206 v208 v264 v269 v270 v272, k0_pay14 v209, k0_pay15 v208 v292 v294, k0_pay16 v297, v299⟩ : PG F (Σ' (v290 : FVec F S128x64 .f32) (v291 : FVec F S128x64 .bf16) (v296 : FVec F S128x64 .bf16) (v298 : FVec F S128x64 .bf16), Vec F S1x128x1x64 .bf16))
      let ⟨v318, v329, v334⟩ : Σ' (v318 : FVec F S128x256 .f32) (v329 : FVec F S128x64 .bf16), FVec F S128x128 .f32 ← (do
          let v320 : Vec F S1x128x1x64 .bf16 ← Prog.lift (.load arg2 (Rect.unit (s := S2x128x8x64) ![1, 0, 4, 0] S1x128x1x64.size inb_S2x128x8x64_S1x128x1x64_1_0_4_0).toLoadRect (View.loadsAt_vmem h_S1x128x1x64))
          let v322 : Vec F S1x128x1x64 .bf16 ← Prog.lift (.load arg2 (Rect.unit (s := S2x128x8x64) ![1, 0, 0, 0] S1x128x1x64.size inb_S2x128x8x64_S1x128x1x64_1_0_0_0).toLoadRect (View.loadsAt_vmem h_S1x128x1x64))
          let v325 : Vec F S1x128x1x64 .bf16 ← Prog.lift (.load arg3 (Rect.unit (s := S2x128x8x64) ![1, 0, 4, 0] S1x128x1x64.size inb_S2x128x8x64_S1x128x1x64_1_0_4_0).toLoadRect (View.loadsAt_vmem h_S1x128x1x64))
          let v327 : Vec F S1x128x1x64 .bf16 ← Prog.lift (.load arg3 (Rect.unit (s := S2x128x8x64) ![1, 0, 0, 0] S1x128x1x64.size inb_S2x128x8x64_S1x128x1x64_1_0_0_0).toLoadRect (View.loadsAt_vmem h_S1x128x1x64))
          pure ⟨k0_pay17 v206 v208 v236 v263 v290 v291 v296 v298 v299, k0_pay18 v208 v325 v327, k0_pay19 v206 v208 v209 v320 v322⟩ : PG F (Σ' (v318 : FVec F S128x256 .f32) (v329 : FVec F S128x64 .bf16), FVec F S128x128 .f32))
      let ⟨v345, v356, v370⟩ : Σ' (v345 : FVec F S128x64 .f32) (v356 : FVec F S128x64 .bf16), FVec F S128x128 .f32 ← (do
          let v347 : Vec F S1x128x1x64 .bf16 ← Prog.lift (.load arg2 (Rect.unit (s := S2x128x8x64) ![1, 0, 5, 0] S1x128x1x64.size inb_S2x128x8x64_S1x128x1x64_1_0_5_0).toLoadRect (View.loadsAt_vmem h_S1x128x1x64))
          let v349 : Vec F S1x128x1x64 .bf16 ← Prog.lift (.load arg2 (Rect.unit (s := S2x128x8x64) ![1, 0, 1, 0] S1x128x1x64.size inb_S2x128x8x64_S1x128x1x64_1_0_1_0).toLoadRect (View.loadsAt_vmem h_S1x128x1x64))
          let v352 : Vec F S1x128x1x64 .bf16 ← Prog.lift (.load arg3 (Rect.unit (s := S2x128x8x64) ![1, 0, 5, 0] S1x128x1x64.size inb_S2x128x8x64_S1x128x1x64_1_0_5_0).toLoadRect (View.loadsAt_vmem h_S1x128x1x64))
          let v354 : Vec F S1x128x1x64 .bf16 ← Prog.lift (.load arg3 (Rect.unit (s := S2x128x8x64) ![1, 0, 1, 0] S1x128x1x64.size inb_S2x128x8x64_S1x128x1x64_1_0_1_0).toLoadRect (View.loadsAt_vmem h_S1x128x1x64))
          pure ⟨k0_pay20 v329 v334, k0_pay21 v208 v352 v354, k0_pay22 v206 v208 v209 v347 v349⟩ : PG F (Σ' (v345 : FVec F S128x64 .f32) (v356 : FVec F S128x64 .bf16), FVec F S128x128 .f32))
      let ⟨v372, v399, v400, v402⟩ : Σ' (v372 : FVec F S128x64 .f32) (v399 : FVec F S128x64 .f32) (v400 : FVec F S128x64 .bf16), FVec F S128x64 .bf16 ← (do
          let v374 : Vec F S1x128x1x64 .bf16 ← Prog.lift (.load arg2 (Rect.unit (s := S2x128x8x64) ![1, 0, 6, 0] S1x128x1x64.size inb_S2x128x8x64_S1x128x1x64_1_0_6_0).toLoadRect (View.loadsAt_vmem h_S1x128x1x64))
          let v376 : Vec F S1x128x1x64 .bf16 ← Prog.lift (.load arg2 (Rect.unit (s := S2x128x8x64) ![1, 0, 2, 0] S1x128x1x64.size inb_S2x128x8x64_S1x128x1x64_1_0_2_0).toLoadRect (View.loadsAt_vmem h_S1x128x1x64))
          let v379 : Vec F S1x128x1x64 .bf16 ← Prog.lift (.load arg3 (Rect.unit (s := S2x128x8x64) ![1, 0, 6, 0] S1x128x1x64.size inb_S2x128x8x64_S1x128x1x64_1_0_6_0).toLoadRect (View.loadsAt_vmem h_S1x128x1x64))
          let v381 : Vec F S1x128x1x64 .bf16 ← Prog.lift (.load arg3 (Rect.unit (s := S2x128x8x64) ![1, 0, 2, 0] S1x128x1x64.size inb_S2x128x8x64_S1x128x1x64_1_0_2_0).toLoadRect (View.loadsAt_vmem h_S1x128x1x64))
          let v401 : Vec F S1x128x1x64 .bf16 ← Prog.lift (.load arg2 (Rect.unit (s := S2x128x8x64) ![1, 0, 7, 0] S1x128x1x64.size inb_S2x128x8x64_S1x128x1x64_1_0_7_0).toLoadRect (View.loadsAt_vmem h_S1x128x1x64))
          pure ⟨k0_pay23 v356 v370, k0_pay24 v206 v208 v209 v374 v376 v379 v381, k0_pay25 v209, k0_pay26 v401⟩ : PG F (Σ' (v372 : FVec F S128x64 .f32) (v399 : FVec F S128x64 .f32) (v400 : FVec F S128x64 .bf16), FVec F S128x64 .bf16))
      let c1_i32_325 : BitVec 32 ← (do
          let v403 : Vec F S1x128x1x64 .bf16 ← Prog.lift (.load arg2 (Rect.unit (s := S2x128x8x64) ![1, 0, 3, 0] S1x128x1x64.size inb_S2x128x8x64_S1x128x1x64_1_0_3_0).toLoadRect (View.loadsAt_vmem h_S1x128x1x64))
          let v406 : Vec F S1x128x1x64 .bf16 ← Prog.lift (.load arg3 (Rect.unit (s := S2x128x8x64) ![1, 0, 7, 0] S1x128x1x64.size inb_S2x128x8x64_S1x128x1x64_1_0_7_0).toLoadRect (View.loadsAt_vmem h_S1x128x1x64))
          let v408 : Vec F S1x128x1x64 .bf16 ← Prog.lift (.load arg3 (Rect.unit (s := S2x128x8x64) ![1, 0, 3, 0] S1x128x1x64.size inb_S2x128x8x64_S1x128x1x64_1_0_3_0).toLoadRect (View.loadsAt_vmem h_S1x128x1x64))
          let v429 : Vec F S256x512 .f32 ← Prog.lift (.load arg4 (Rect.unit (s := S256x512) ![0, 0] S256x512.size inb_S256x512_S256x512_0_0).toLoadRect (View.loadsAt_vmem h_S256x512))
          let v433 : Vec F S256x512 .bf16 ← Prog.lift (.load arg6 (Rect.unit (s := S256x512) ![0, 0] S256x512.size inb_S256x512_S256x512_0_0).toLoadRect (View.loadsAt_vmem h_S256x512))
          Prog.lift (.store arg6 (Rect.unit (s := S256x512) ![0, 0] S256x512.size inb_S256x512_S256x512_0_0) (k0_pay27 v206 v208 v318 v345 v372 v399 v400 v402 v403 v406 v408 v429) Finset.univ (View.stores_vmem h_S256x512 (harg6.storeExact_slice rfl _ packedbf16_S256x512_S256x512_0_0) (fun _ => rfl)) (.inl rfl))
          semWaitWord v3.sem 31#32
          pure 1#32 : PG F (BitVec 32))
      (do
          psendTo arg6 harg6 arg7 harg7 arg9 arg10 d0 0 ⟨k0_dev32 d0, k0_dev32_lt d0⟩
          psendTo arg6 harg6 arg7 harg7 arg9 arg10 d0 1 ⟨k0_dev33 d0, k0_dev33_lt d0⟩
          pure ⟨⟩ : PG F (PUnit))
      (do
          psendTo arg6 harg6 arg7 harg7 arg9 arg10 d0 2 ⟨k0_dev34 d0, k0_dev34_lt d0⟩
          psendTo arg6 harg6 arg7 harg7 arg9 arg10 d0 3 ⟨k0_dev35 d0, k0_dev35_lt d0⟩
          psendTo arg6 harg6 arg7 harg7 arg9 arg10 d0 4 ⟨k0_dev36 d0, k0_dev36_lt d0⟩
          pure ⟨⟩ : PG F (PUnit))
      let ⟨v533, c8_i32_399⟩ : Σ' (v533 : BitVec 32), BitVec 32 ← (do
          psendTo arg6 harg6 arg7 harg7 arg9 arg10 d0 5 ⟨k0_dev37 d0, k0_dev37_lt d0⟩
          psendTo arg6 harg6 arg7 harg7 arg9 arg10 d0 6 ⟨k0_dev38 d0, k0_dev38_lt d0⟩
          psendTo arg6 harg6 arg7 harg7 arg9 arg10 d0 7 ⟨k0_dev39 d0, k0_dev39_lt d0⟩
          let v532 : BitVec 32 := Scalar.addi v2 9#32
          let v533 : BitVec 32 := Scalar.remsi v532 32#32
          pure ⟨v533, 8#32⟩ : PG F (Σ' (v533 : BitVec 32), BitVec 32))
      (do
          psendTo arg6 harg6 arg7 harg7 arg9 arg10 d0 8 ⟨k0_dev40 d0, k0_dev40_lt d0⟩
          psendTo arg6 harg6 arg7 harg7 arg9 arg10 d0 9 ⟨k0_dev41 d0, k0_dev41_lt d0⟩
          pure ⟨⟩ : PG F (PUnit))
      (do
          psendTo arg6 harg6 arg7 harg7 arg9 arg10 d0 10 ⟨k0_dev42 d0, k0_dev42_lt d0⟩
          psendTo arg6 harg6 arg7 harg7 arg9 arg10 d0 11 ⟨k0_dev43 d0, k0_dev43_lt d0⟩
          psendTo arg6 harg6 arg7 harg7 arg9 arg10 d0 12 ⟨k0_dev44 d0, k0_dev44_lt d0⟩
          pure ⟨⟩ : PG F (PUnit))
      let v631 : BitVec 32 ← (do
          psendTo arg6 harg6 arg7 harg7 arg9 arg10 d0 13 ⟨k0_dev45 d0, k0_dev45_lt d0⟩
          psendTo arg6 harg6 arg7 harg7 arg9 arg10 d0 14 ⟨k0_dev46 d0, k0_dev46_lt d0⟩
          psendTo arg6 harg6 arg7 harg7 arg9 arg10 d0 15 ⟨k0_dev47 d0, k0_dev47_lt d0⟩
          let v628 : BitVec 32 := Scalar.addi v2 17#32
          let v629 : BitVec 32 := Scalar.remsi v628 32#32
          let v631 : BitVec 32 := Scalar.muli v629 1#32
          pure v631 : PG F (BitVec 32))
      let ⟨v664, c32_i32_497⟩ : Σ' (v664 : BitVec 32), BitVec 32 ← (do
          psendTo arg6 harg6 arg7 harg7 arg9 arg10 d0 16 ⟨k0_dev48 d0, k0_dev48_lt d0⟩
          psendTo arg6 harg6 arg7 harg7 arg9 arg10 d0 17 ⟨k0_dev49 d0, k0_dev49_lt d0⟩
          psendTo arg6 harg6 arg7 harg7 arg9 arg10 d0 18 ⟨k0_dev50 d0, k0_dev50_lt d0⟩
          let v664 : BitVec 32 := Scalar.addi v2 20#32
          pure ⟨v664, 32#32⟩ : PG F (Σ' (v664 : BitVec 32), BitVec 32))
      (do
          psendTo arg6 harg6 arg7 harg7 arg9 arg10 d0 19 ⟨k0_dev51 d0, k0_dev51_lt d0⟩
          psendTo arg6 harg6 arg7 harg7 arg9 arg10 d0 20 ⟨k0_dev52 d0, k0_dev52_lt d0⟩
          pure ⟨⟩ : PG F (PUnit))
      (do
          psendTo arg6 harg6 arg7 harg7 arg9 arg10 d0 21 ⟨k0_dev53 d0, k0_dev53_lt d0⟩
          psendTo arg6 harg6 arg7 harg7 arg9 arg10 d0 22 ⟨k0_dev54 d0, k0_dev54_lt d0⟩
          psendTo arg6 harg6 arg7 harg7 arg9 arg10 d0 23 ⟨k0_dev55 d0, k0_dev55_lt d0⟩
          pure ⟨⟩ : PG F (PUnit))
      let v761 : BitVec 32 ← (do
          psendTo arg6 harg6 arg7 harg7 arg9 arg10 d0 24 ⟨k0_dev56 d0, k0_dev56_lt d0⟩
          psendTo arg6 harg6 arg7 harg7 arg9 arg10 d0 25 ⟨k0_dev57 d0, k0_dev57_lt d0⟩
          psendTo arg6 harg6 arg7 harg7 arg9 arg10 d0 26 ⟨k0_dev58 d0, k0_dev58_lt d0⟩
          let v760 : BitVec 32 := Scalar.addi v2 28#32
          let v761 : BitVec 32 := Scalar.remsi v760 32#32
          pure v761 : PG F (BitVec 32))
      let c31_i32_595 : BitVec 32 ← (do
          psendTo arg6 harg6 arg7 harg7 arg9 arg10 d0 27 ⟨k0_dev59 d0, k0_dev59_lt d0⟩
          psendTo arg6 harg6 arg7 harg7 arg9 arg10 d0 28 ⟨k0_dev60 d0, k0_dev60_lt d0⟩
          psendTo arg6 harg6 arg7 harg7 arg9 arg10 d0 29 ⟨k0_dev61 d0, k0_dev61_lt d0⟩
          pure 31#32 : PG F (BitVec 32))
      let v828 : BitVec 32 ← (do
          psendTo arg6 harg6 arg7 harg7 arg9 arg10 d0 30 ⟨k0_dev62 d0, k0_dev62_lt d0⟩
          let v810 : Vec F S8x512 .bf16 ← Prog.lift (.load arg6 (Rect.unit (s := S256x512) (k0_off4 d0) S8x512.size (k0_off4_inb d0)).toLoadRect (View.loadsAt_vmem h_S8x512))
          let v813 : Vec F S1x8x512 .bf16 ← Prog.lift (.load arg7 (Rect.unit (s := S32x8x512) (k0_off5 d0) S1x8x512.size (k0_off5_inb d0)).toLoadRect (View.loadsAt_vmem h_S1x8x512))
          Prog.lift (.store arg7 (Rect.unit (s := S32x8x512) (k0_off5 d0) S1x8x512.size (k0_off5_inb d0)) (k0_pay28 v810) Finset.univ (View.stores_vmem h_S1x8x512 (harg7.storeExact_slice rfl _ (k0_off5_packedbf16 d0)) (fun _ => rfl)) (.inl rfl))
          precv arg6 harg6 arg7 harg7 arg10 d0 0
          let v827 : BitVec 32 := Scalar.subi v2 2#32
          let v828 : BitVec 32 := Scalar.addi v827 32#32
          pure v828 : PG F (BitVec 32))
      (do
          precv arg6 harg6 arg7 harg7 arg10 d0 1
          precv arg6 harg6 arg7 harg7 arg10 d0 2
          pure ⟨⟩ : PG F (PUnit))
      (do
          precv arg6 harg6 arg7 harg7 arg10 d0 3
          precv arg6 harg6 arg7 harg7 arg10 d0 4
          precv arg6 harg6 arg7 harg7 arg10 d0 5
          pure ⟨⟩ : PG F (PUnit))
      let v917 : BitVec 32 ← (do
          precv arg6 harg6 arg7 harg7 arg10 d0 6
          precv arg6 harg6 arg7 harg7 arg10 d0 7
          precv arg6 harg6 arg7 harg7 arg10 d0 8
          let v915 : BitVec 32 := Scalar.subi v2 10#32
          let v916 : BitVec 32 := Scalar.addi v915 32#32
          let v917 : BitVec 32 := Scalar.remsi v916 32#32
          pure v917 : PG F (BitVec 32))
      let v948 : BitVec 32 ← (do
          precv arg6 harg6 arg7 harg7 arg10 d0 9
          precv arg6 harg6 arg7 harg7 arg10 d0 10
          precv arg6 harg6 arg7 harg7 arg10 d0 11
          let v948 : BitVec 32 := Scalar.subi v2 13#32
          pure v948 : PG F (BitVec 32))
      (do
          precv arg6 harg6 arg7 harg7 arg10 d0 12
          precv arg6 harg6 arg7 harg7 arg10 d0 13
          pure ⟨⟩ : PG F (PUnit))
      let ⟨v1007, c0_i32_784⟩ : Σ' (v1007 : BitVec 32), BitVec 32 ← (do
          precv arg6 harg6 arg7 harg7 arg10 d0 14
          precv arg6 harg6 arg7 harg7 arg10 d0 15
          precv arg6 harg6 arg7 harg7 arg10 d0 16
          let v1003 : BitVec 32 := Scalar.subi v2 18#32
          let v1004 : BitVec 32 := Scalar.addi v1003 32#32
          let v1005 : BitVec 32 := Scalar.remsi v1004 32#32
          let v1007 : BitVec 32 := Scalar.muli v1005 1#32
          pure ⟨v1007, 0#32⟩ : PG F (Σ' (v1007 : BitVec 32), BitVec 32))
      let v1038 : BitVec 32 ← (do
          precv arg6 harg6 arg7 harg7 arg10 d0 17
          precv arg6 harg6 arg7 harg7 arg10 d0 18
          precv arg6 harg6 arg7 harg7 arg10 d0 19
          let v1036 : BitVec 32 := Scalar.subi v2 21#32
          let v1037 : BitVec 32 := Scalar.addi v1036 32#32
          let v1038 : BitVec 32 := Scalar.remsi v1037 32#32
          pure v1038 : PG F (BitVec 32))
      (do
          precv arg6 harg6 arg7 harg7 arg10 d0 20
          precv arg6 harg6 arg7 harg7 arg10 d0 21
          precv arg6 harg6 arg7 harg7 arg10 d0 22
          pure ⟨⟩ : PG F (PUnit))
      (do
          precv arg6 harg6 arg7 harg7 arg10 d0 23
          precv arg6 harg6 arg7 harg7 arg10 d0 24
          pure ⟨⟩ : PG F (PUnit))
      let ⟨v1126, c1_i32_893⟩ : Σ' (v1126 : BitVec 32), BitVec 32 ← (do
          precv arg6 harg6 arg7 harg7 arg10 d0 25
          precv arg6 harg6 arg7 harg7 arg10 d0 26
          precv arg6 harg6 arg7 harg7 arg10 d0 27
          let v1124 : BitVec 32 := Scalar.subi v2 29#32
          let v1125 : BitVec 32 := Scalar.addi v1124 32#32
          let v1126 : BitVec 32 := Scalar.remsi v1125 32#32
          pure ⟨v1126, 1#32⟩ : PG F (Σ' (v1126 : BitVec 32), BitVec 32))
      (do
          precv arg6 harg6 arg7 harg7 arg10 d0 28
          precv arg6 harg6 arg7 harg7 arg10 d0 29
          precv arg6 harg6 arg7 harg7 arg10 d0 30
          pure ⟨⟩ : PG F (PUnit))
      (do
          psent arg6 harg6 arg7 harg7 arg9 d0 0
          psent arg6 harg6 arg7 harg7 arg9 d0 1
          psent arg6 harg6 arg7 harg7 arg9 d0 2
          psent arg6 harg6 arg7 harg7 arg9 d0 3
          psent arg6 harg6 arg7 harg7 arg9 d0 4
          pure ⟨⟩ : PG F (PUnit))
      (do
          psent arg6 harg6 arg7 harg7 arg9 d0 5
          psent arg6 harg6 arg7 harg7 arg9 d0 6
          psent arg6 harg6 arg7 harg7 arg9 d0 7
          psent arg6 harg6 arg7 harg7 arg9 d0 8
          psent arg6 harg6 arg7 harg7 arg9 d0 9
          psent arg6 harg6 arg7 harg7 arg9 d0 10
          pure ⟨⟩ : PG F (PUnit))
      (do
          psent arg6 harg6 arg7 harg7 arg9 d0 11
          psent arg6 harg6 arg7 harg7 arg9 d0 12
          psent arg6 harg6 arg7 harg7 arg9 d0 13
          psent arg6 harg6 arg7 harg7 arg9 d0 14
          psent arg6 harg6 arg7 harg7 arg9 d0 15
          pure ⟨⟩ : PG F (PUnit))
      (do
          psent arg6 harg6 arg7 harg7 arg9 d0 16
          psent arg6 harg6 arg7 harg7 arg9 d0 17
          psent arg6 harg6 arg7 harg7 arg9 d0 18
          psent arg6 harg6 arg7 harg7 arg9 d0 19
          psent arg6 harg6 arg7 harg7 arg9 d0 20
          psent arg6 harg6 arg7 harg7 arg9 d0 21
          pure ⟨⟩ : PG F (PUnit))
      (do
          psent arg6 harg6 arg7 harg7 arg9 d0 22
          psent arg6 harg6 arg7 harg7 arg9 d0 23
          psent arg6 harg6 arg7 harg7 arg9 d0 24
          psent arg6 harg6 arg7 harg7 arg9 d0 25
          psent arg6 harg6 arg7 harg7 arg9 d0 26
          pure ⟨⟩ : PG F (PUnit))
      let ⟨v1322, c8_i32_1082⟩ : Σ' (v1322 : BitVec 32), BitVec 32 ← (do
          psent arg6 harg6 arg7 harg7 arg9 d0 27
          psent arg6 harg6 arg7 harg7 arg9 d0 28
          psent arg6 harg6 arg7 harg7 arg9 d0 29
          psent arg6 harg6 arg7 harg7 arg9 d0 30
          let v1312 : Vec F S32x8x512 .bf16 ← Prog.lift (.load arg7 (Rect.unit (s := S32x8x512) ![0, 0, 0] S32x8x512.size inb_S32x8x512_S32x8x512_0_0_0).toLoadRect (View.loadsAt_vmem h_S32x8x512))
          let v1318 : Vec F S8x512 .bf16 ← Prog.lift (.load arg8 (Rect.unit (s := S256x512) (k0_off4 d0) S8x512.size (k0_off4_inb d0)).toLoadRect (View.loadsAt_vmem h_S8x512))
          Prog.lift (.store arg8 (Rect.unit (s := S256x512) (k0_off4 d0) S8x512.size (k0_off4_inb d0)) (k0_pay29 v1312) Finset.univ (View.stores_vmem h_S8x512 (harg8.storeExact_slice rfl _ (k0_off4_packedbf16 d0)) (fun _ => rfl)) (.inl rfl))
          let v1321 : BitVec 32 := Scalar.addi v2 1#32
          let v1322 : BitVec 32 := Scalar.remsi v1321 32#32
          pure ⟨v1322, 8#32⟩ : PG F (Σ' (v1322 : BitVec 32), BitVec 32))
      let c4_i32_1106 : BitVec 32 ← (do
          gsendTo arg8 harg8 arg11 arg12 d0 0 ⟨k0_dev63 d0, k0_dev63_lt d0⟩
          gsendTo arg8 harg8 arg11 arg12 d0 1 ⟨k0_dev64 d0, k0_dev64_lt d0⟩
          gsendTo arg8 harg8 arg11 arg12 d0 2 ⟨k0_dev65 d0, k0_dev65_lt d0⟩
          pure 4#32 : PG F (BitVec 32))
      (do
          gsendTo arg8 harg8 arg11 arg12 d0 3 ⟨k0_dev66 d0, k0_dev66_lt d0⟩
          gsendTo arg8 harg8 arg11 arg12 d0 4 ⟨k0_dev67 d0, k0_dev67_lt d0⟩
          pure ⟨⟩ : PG F (PUnit))
      let v1421 : BitVec 32 ← (do
          gsendTo arg8 harg8 arg11 arg12 d0 5 ⟨k0_dev68 d0, k0_dev68_lt d0⟩
          gsendTo arg8 harg8 arg11 arg12 d0 6 ⟨k0_dev69 d0, k0_dev69_lt d0⟩
          gsendTo arg8 harg8 arg11 arg12 d0 7 ⟨k0_dev70 d0, k0_dev70_lt d0⟩
          let v1417 : BitVec 32 := Scalar.addi v2 9#32
          let v1418 : BitVec 32 := Scalar.remsi v1417 32#32
          let v1421 : BitVec 32 := Scalar.muli v1418 1#32
          pure v1421 : PG F (BitVec 32))
      let ⟨v1454, c8_i32_1180⟩ : Σ' (v1454 : BitVec 32), BitVec 32 ← (do
          gsendTo arg8 harg8 arg11 arg12 d0 8 ⟨k0_dev71 d0, k0_dev71_lt d0⟩
          gsendTo arg8 harg8 arg11 arg12 d0 9 ⟨k0_dev72 d0, k0_dev72_lt d0⟩
          gsendTo arg8 harg8 arg11 arg12 d0 10 ⟨k0_dev73 d0, k0_dev73_lt d0⟩
          let v1453 : BitVec 32 := Scalar.addi v2 12#32
          let v1454 : BitVec 32 := Scalar.remsi v1453 32#32
          pure ⟨v1454, 8#32⟩ : PG F (Σ' (v1454 : BitVec 32), BitVec 32))
      (do
          gsendTo arg8 harg8 arg11 arg12 d0 11 ⟨k0_dev74 d0, k0_dev74_lt d0⟩
          gsendTo arg8 harg8 arg11 arg12 d0 12 ⟨k0_dev75 d0, k0_dev75_lt d0⟩
          pure ⟨⟩ : PG F (PUnit))
      (do
          gsendTo arg8 harg8 arg11 arg12 d0 13 ⟨k0_dev76 d0, k0_dev76_lt d0⟩
          gsendTo arg8 harg8 arg11 arg12 d0 14 ⟨k0_dev77 d0, k0_dev77_lt d0⟩
          gsendTo arg8 harg8 arg11 arg12 d0 15 ⟨k0_dev78 d0, k0_dev78_lt d0⟩
          pure ⟨⟩ : PG F (PUnit))
      let v1550 : BitVec 32 ← (do
          gsendTo arg8 harg8 arg11 arg12 d0 16 ⟨k0_dev79 d0, k0_dev79_lt d0⟩
          gsendTo arg8 harg8 arg11 arg12 d0 17 ⟨k0_dev80 d0, k0_dev80_lt d0⟩
          gsendTo arg8 harg8 arg11 arg12 d0 18 ⟨k0_dev81 d0, k0_dev81_lt d0⟩
          let v1549 : BitVec 32 := Scalar.addi v2 20#32
          let v1550 : BitVec 32 := Scalar.remsi v1549 32#32
          pure v1550 : PG F (BitVec 32))
      let ⟨v1585, c32_i32_1278⟩ : Σ' (v1585 : BitVec 32), BitVec 32 ← (do
          gsendTo arg8 harg8 arg11 arg12 d0 19 ⟨k0_dev82 d0, k0_dev82_lt d0⟩
          gsendTo arg8 harg8 arg11 arg12 d0 20 ⟨k0_dev83 d0, k0_dev83_lt d0⟩
          gsendTo arg8 harg8 arg11 arg12 d0 21 ⟨k0_dev84 d0, k0_dev84_lt d0⟩
          let v1585 : BitVec 32 := Scalar.addi v2 23#32
          pure ⟨v1585, 32#32⟩ : PG F (Σ' (v1585 : BitVec 32), BitVec 32))
      (do
          gsendTo arg8 harg8 arg11 arg12 d0 22 ⟨k0_dev85 d0, k0_dev85_lt d0⟩
          gsendTo arg8 harg8 arg11 arg12 d0 23 ⟨k0_dev86 d0, k0_dev86_lt d0⟩
          pure ⟨⟩ : PG F (PUnit))
      (do
          gsendTo arg8 harg8 arg11 arg12 d0 24 ⟨k0_dev87 d0, k0_dev87_lt d0⟩
          gsendTo arg8 harg8 arg11 arg12 d0 25 ⟨k0_dev88 d0, k0_dev88_lt d0⟩
          gsendTo arg8 harg8 arg11 arg12 d0 26 ⟨k0_dev89 d0, k0_dev89_lt d0⟩
          pure ⟨⟩ : PG F (PUnit))
      let ⟨v1682, c8_i32_1352⟩ : Σ' (v1682 : BitVec 32), BitVec 32 ← (do
          gsendTo arg8 harg8 arg11 arg12 d0 27 ⟨k0_dev90 d0, k0_dev90_lt d0⟩
          gsendTo arg8 harg8 arg11 arg12 d0 28 ⟨k0_dev91 d0, k0_dev91_lt d0⟩
          gsendTo arg8 harg8 arg11 arg12 d0 29 ⟨k0_dev92 d0, k0_dev92_lt d0⟩
          let v1681 : BitVec 32 := Scalar.addi v2 31#32
          let v1682 : BitVec 32 := Scalar.remsi v1681 32#32
          pure ⟨v1682, 8#32⟩ : PG F (Σ' (v1682 : BitVec 32), BitVec 32))
      let c3_i32_1378 : BitVec 32 ← (do
          gsendTo arg8 harg8 arg11 arg12 d0 30 ⟨k0_dev93 d0, k0_dev93_lt d0⟩
          grecv arg8 harg8 arg12 d0 0
          grecv arg8 harg8 arg12 d0 1
          pure 3#32 : PG F (BitVec 32))
      (do
          grecv arg8 harg8 arg12 d0 2
          grecv arg8 harg8 arg12 d0 3
          pure ⟨⟩ : PG F (PUnit))
      let v1772 : BitVec 32 ← (do
          grecv arg8 harg8 arg12 d0 4
          grecv arg8 harg8 arg12 d0 5
          grecv arg8 harg8 arg12 d0 6
          let v1770 : BitVec 32 := Scalar.subi v2 8#32
          let v1771 : BitVec 32 := Scalar.addi v1770 32#32
          let v1772 : BitVec 32 := Scalar.remsi v1771 32#32
          pure v1772 : PG F (BitVec 32))
      let ⟨v1804, c32_i32_1460⟩ : Σ' (v1804 : BitVec 32), BitVec 32 ← (do
          grecv arg8 harg8 arg12 d0 7
          grecv arg8 harg8 arg12 d0 8
          grecv arg8 harg8 arg12 d0 9
          let v1803 : BitVec 32 := Scalar.subi v2 11#32
          let v1804 : BitVec 32 := Scalar.addi v1803 32#32
          pure ⟨v1804, 32#32⟩ : PG F (Σ' (v1804 : BitVec 32), BitVec 32))
      (do
          grecv arg8 harg8 arg12 d0 10
          grecv arg8 harg8 arg12 d0 11
          pure ⟨⟩ : PG F (PUnit))
      (do
          grecv arg8 harg8 arg12 d0 12
          grecv arg8 harg8 arg12 d0 13
          grecv arg8 harg8 arg12 d0 14
          pure ⟨⟩ : PG F (PUnit))
      pure ⟨d0, v2⟩ : PG F (Σ' (d0 : Dev nD), BitVec 32))
  let ⟨v1893, c8_i32_1542⟩ : Σ' (v1893 : BitVec 32), BitVec 32 ← (do
      grecv arg8 harg8 arg12 d0 15
      grecv arg8 harg8 arg12 d0 16
      grecv arg8 harg8 arg12 d0 17
      let v1891 : BitVec 32 := Scalar.subi v2 19#32
      let v1892 : BitVec 32 := Scalar.addi v1891 32#32
      let v1893 : BitVec 32 := Scalar.remsi v1892 32#32
      pure ⟨v1893, 8#32⟩ : PG F (Σ' (v1893 : BitVec 32), BitVec 32))
  let ⟨v1924, c32_i32_1569⟩ : Σ' (v1924 : BitVec 32), BitVec 32 ← (do
      grecv arg8 harg8 arg12 d0 18
      grecv arg8 harg8 arg12 d0 19
      grecv arg8 harg8 arg12 d0 20
      let v1924 : BitVec 32 := Scalar.subi v2 22#32
      pure ⟨v1924, 32#32⟩ : PG F (Σ' (v1924 : BitVec 32), BitVec 32))
  (do
      grecv arg8 harg8 arg12 d0 21
      grecv arg8 harg8 arg12 d0 22
      pure ⟨⟩ : PG F (PUnit))
  let v1984 : BitVec 32 ← (do
      grecv arg8 harg8 arg12 d0 23
      grecv arg8 harg8 arg12 d0 24
      grecv arg8 harg8 arg12 d0 25
      let v1979 : BitVec 32 := Scalar.subi v2 27#32
      let v1980 : BitVec 32 := Scalar.addi v1979 32#32
      let v1981 : BitVec 32 := Scalar.remsi v1980 32#32
      let v1984 : BitVec 32 := Scalar.muli v1981 1#32
      pure v1984 : PG F (BitVec 32))
  let ⟨v2014, c8_i32_1651⟩ : Σ' (v2014 : BitVec 32), BitVec 32 ← (do
      grecv arg8 harg8 arg12 d0 26
      grecv arg8 harg8 arg12 d0 27
      grecv arg8 harg8 arg12 d0 28
      let v2012 : BitVec 32 := Scalar.subi v2 30#32
      let v2013 : BitVec 32 := Scalar.addi v2012 32#32
      let v2014 : BitVec 32 := Scalar.remsi v2013 32#32
      pure ⟨v2014, 8#32⟩ : PG F (Σ' (v2014 : BitVec 32), BitVec 32))
  (do
      grecv arg8 harg8 arg12 d0 29
      grecv arg8 harg8 arg12 d0 30
      let v2034 : Vec F S256x512 .bf16 ← Prog.lift (.load arg8 (Rect.unit (s := S256x512) ![0, 0] S256x512.size inb_S256x512_S256x512_0_0).toLoadRect (View.loadsAt_vmem h_S256x512))
      let v2036 : Vec F S256x512 .f32 ← Prog.lift (.load arg5 (Rect.unit (s := S256x512) ![0, 0] S256x512.size inb_S256x512_S256x512_0_0).toLoadRect (View.loadsAt_vmem h_S256x512))
      Prog.lift (.store arg5 (Rect.unit (s := S256x512) ![0, 0] S256x512.size inb_S256x512_S256x512_0_0) (k0_pay30 v2034) Finset.univ (View.stores_vmem_bits_univ h_S256x512 rfl) (.inl rfl))
      gsent arg8 harg8 arg11 d0 0
      pure ⟨⟩ : PG F (PUnit))
  (do
      gsent arg8 harg8 arg11 d0 1
      gsent arg8 harg8 arg11 d0 2
      gsent arg8 harg8 arg11 d0 3
      gsent arg8 harg8 arg11 d0 4
      gsent arg8 harg8 arg11 d0 5
      gsent arg8 harg8 arg11 d0 6
      gsent arg8 harg8 arg11 d0 7
      pure ⟨⟩ : PG F (PUnit))
  (do
      gsent arg8 harg8 arg11 d0 8
      gsent arg8 harg8 arg11 d0 9
      gsent arg8 harg8 arg11 d0 10
      gsent arg8 harg8 arg11 d0 11
      gsent arg8 harg8 arg11 d0 12
      gsent arg8 harg8 arg11 d0 13
      gsent arg8 harg8 arg11 d0 14
      pure ⟨⟩ : PG F (PUnit))
  (do
      gsent arg8 harg8 arg11 d0 15
      gsent arg8 harg8 arg11 d0 16
      gsent arg8 harg8 arg11 d0 17
      gsent arg8 harg8 arg11 d0 18
      gsent arg8 harg8 arg11 d0 19
      gsent arg8 harg8 arg11 d0 20
      pure ⟨⟩ : PG F (PUnit))
  (do
      gsent arg8 harg8 arg11 d0 21
      gsent arg8 harg8 arg11 d0 22
      gsent arg8 harg8 arg11 d0 23
      gsent arg8 harg8 arg11 d0 24
      gsent arg8 harg8 arg11 d0 25
      gsent arg8 harg8 arg11 d0 26
      gsent arg8 harg8 arg11 d0 27
      pure ⟨⟩ : PG F (PUnit))
  gsent arg8 harg8 arg11 d0 28
  gsent arg8 harg8 arg11 d0 29
  gsent arg8 harg8 arg11 d0 30
  pure ⟨⟩

set_option maxRecDepth 100000 in
/-- The printed body says these operations in this grouping. -/
theorem body_grouped (arg0 : Memref sig .tc .vmem S256x512 .f32) (harg0 : arg0.IsWhole) (arg1 : Memref sig .tc .vmem S512x256 .f32) (harg1 : arg1.IsWhole)
    (arg2 : Memref sig .tc .vmem S2x128x8x64 .bf16) (harg2 : arg2.IsWhole) (arg3 : Memref sig .tc .vmem S2x128x8x64 .bf16) (harg3 : arg3.IsWhole)
    (arg4 : Memref sig .tc .vmem S256x512 .f32) (harg4 : arg4.IsWhole) (arg5 : Memref sig .tc .vmem S256x512 .f32) (harg5 : arg5.IsWhole)
    (arg6 : Memref sig .tc .vmem S256x512 .bf16) (harg6 : arg6.IsWhole) (arg7 : Memref sig .tc .vmem S32x8x512 .bf16) (harg7 : arg7.IsWhole)
    (arg8 : Memref sig .tc .vmem S256x512 .bf16) (harg8 : arg8.IsWhole) (arg9 arg10 arg11 arg12 : DmaSems sig S32) :
    cc0__body (F := F) arg0 harg0 arg1 harg1 arg2 harg2 arg3 harg3 arg4 harg4 arg5 harg5 arg6 harg6 arg7 harg7 arg8 harg8 arg9 arg10 arg11 arg12
      = grouped arg0 harg0 arg1 harg1 arg2 harg2 arg3 harg3 arg4 harg4 arg5 harg5 arg6 harg6 arg7 harg7 arg8 harg8 arg9 arg10 arg11 arg12 := rfl

set_option maxRecDepth 100000 in
set_option maxHeartbeats 0 in
/-- The printed body is its phases. -/
theorem body_eq (arg0 : Memref sig .tc .vmem S256x512 .f32) (harg0 : arg0.IsWhole) (arg1 : Memref sig .tc .vmem S512x256 .f32) (harg1 : arg1.IsWhole)
    (arg2 : Memref sig .tc .vmem S2x128x8x64 .bf16) (harg2 : arg2.IsWhole) (arg3 : Memref sig .tc .vmem S2x128x8x64 .bf16) (harg3 : arg3.IsWhole)
    (arg4 : Memref sig .tc .vmem S256x512 .f32) (harg4 : arg4.IsWhole) (arg5 : Memref sig .tc .vmem S256x512 .f32) (harg5 : arg5.IsWhole)
    (arg6 : Memref sig .tc .vmem S256x512 .bf16) (harg6 : arg6.IsWhole) (arg7 : Memref sig .tc .vmem S32x8x512 .bf16) (harg7 : arg7.IsWhole)
    (arg8 : Memref sig .tc .vmem S256x512 .bf16) (harg8 : arg8.IsWhole) (arg9 arg10 arg11 arg12 : DmaSems sig S32) :
    cc0__body (F := F) arg0 harg0 arg1 harg1 arg2 harg2 arg3 harg3 arg4 harg4 arg5 harg5 arg6 harg6 arg7 harg7 arg8 harg8 arg9 arg10 arg11 arg12
      = phases arg0 arg1 arg2 arg3 arg4 arg5 arg6 harg6 arg7 harg7 arg8 harg8 arg9 arg10 arg11 arg12 := by
  rw [body_grouped]
  simp only [grouped, bind_assoc, pure_bind]
  simp only [phases, compute, keepOwn, reduce, finish, each, steps, bind_assoc, pure_bind]
  simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, k0_dev63_eq, k0_dev64_eq, k0_dev65_eq, k0_dev66_eq, k0_dev67_eq, k0_dev68_eq, k0_dev69_eq, k0_dev70_eq, k0_dev71_eq, k0_dev72_eq, k0_dev73_eq, k0_dev74_eq, k0_dev75_eq, k0_dev76_eq, k0_dev77_eq, k0_dev78_eq, k0_dev79_eq, k0_dev80_eq, k0_dev81_eq, k0_dev82_eq, k0_dev83_eq, k0_dev84_eq, k0_dev85_eq, k0_dev86_eq, k0_dev87_eq, k0_dev88_eq, k0_dev89_eq, k0_dev90_eq, k0_dev91_eq, k0_dev92_eq, k0_dev93_eq]
  rfl

end Cert.KernelIdeal.Body

end
-- ==== Proof.Canon.lean ====
/-
# The slices and the semaphores the exchanges use

Device `s`'s rows are rows `8 s … 8 s + 7`: its slice of the first scratch buffer (`pbCh`), of the third (`gbCh`), and the slot of
the second that holds what device `s` contributes (`rsSl`). Each exchange's operation is said over these names, and what a buffer
holds once all its slices have landed is a function of the devices' parts of the projection.
-/
module

public import proofs.«01_k».proof.Proof.Phases
public import Idealize.ShloMosaic.Lib.Rounds
public import Idealize.ShloMosaic.Lib.Pipeline.RegionTalk
public import Idealize.ShloMosaic.Lib.Pipeline.Kit
public import Idealize.ShloMosaic.Lib.StableHlo
public import Idealize.ShloMosaic.Lib.Tactic
public import Idealize.ShloMosaic.Lib.Transfers
public import Idealize.ShloMosaic.Lib.Ring
public import Idealize.ShloMosaic.Lib.ValueIdxCore

@[expose] public section

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

variable {F : FTy → Type} [FloatOps F]

abbrev pbM : Memref sig .tc .vmem S256x512 .bf16 := Memref.whole cc0_scratch0
abbrev rsM : Memref sig .tc .vmem S32x8x512 .bf16 := Memref.whole cc0_scratch1
abbrev gbM : Memref sig .tc .vmem S256x512 .bf16 := Memref.whole cc0_scratch2

theorem inb_rows (t : Fin 32) : ∀ a, (![8 * t.val, 0] : Fin S256x512.rank → ℕ) a + S8x512.size a ≤ S256x512.size a := by
  have h := t.isLt
  intro a
  fin_cases a
  · show 8 * t.val + 8 ≤ 256
    omega
  · show 0 + 512 ≤ 512
    omega

theorem inb_slot (s : Fin 32) : ∀ a, (![s.val, 0, 0] : Fin S32x8x512.rank → ℕ) a + S1x8x512.size a ≤ S32x8x512.size a := by
  have h := s.isLt
  intro a
  fin_cases a
  · show s.val + 1 ≤ 32
    omega
  · show 0 + 8 ≤ 8
    omega
  · show 0 + 512 ≤ 512
    omega

abbrev rowsR (t : Fin 32) : Rect S256x512 := Rect.unit (s := S256x512) ![8 * t.val, 0] S8x512.size (inb_rows t)
abbrev slotR (s : Fin 32) : Rect S32x8x512 := Rect.unit (s := S32x8x512) ![s.val, 0, 0] S1x8x512.size (inb_slot s)

/-- Device `t`'s rows of the first scratch buffer, of the third; the slot of the second that device `s` fills. -/
abbrev pbCh (t : Fin 32) : Memref sig .tc .vmem S8x512 .bf16 := pbM.slice (rowsR t) (fun _ => rfl)
abbrev gbCh (t : Fin 32) : Memref sig .tc .vmem S8x512 .bf16 := gbM.slice (rowsR t) (fun _ => rfl)
abbrev rsSl (s : Fin 32) : Memref sig .tc .vmem S8x512 .bf16 := (rsM.slice (slotR s) (fun _ => rfl)).squeeze S8x512 squeezes_S1x8x512_S8x512

/-! ## Semaphores -/

abbrev barS : Sem sig := (SemArray.scalar (d := ![]) (sig.barrier 0 rfl)).sem
abbrev psS (r : Fin 32) : DmaSem sig := semAt cc0_scratch3 r
abbrev prS (r : Fin 32) : DmaSem sig := semAt cc0_scratch4 r
abbrev gsS (r : Fin 32) : DmaSem sig := semAt cc0_scratch5 r
abbrev grS (r : Fin 32) : DmaSem sig := semAt cc0_scratch6 r
/-- Step `r` as an index of a semaphore array. -/
abbrev up (r : Fin 31) : Fin 32 := ⟨r.val, by have := r.isLt; omega⟩

/-- What a semaphore is for. -/
inductive Use
  | bar | ps (r : Fin 32) | pr (r : Fin 32) | gs (r : Fin 32) | gr (r : Fin 32) | none
  deriving DecidableEq

def useOf (d : ℕ) : Use :=
  if h : 6 ≤ d ∧ d < 38 then .ps ⟨d - 6, by omega⟩
  else if h : 38 ≤ d ∧ d < 70 then .pr ⟨d - 38, by omega⟩
  else if h : 70 ≤ d ∧ d < 102 then .gs ⟨d - 70, by omega⟩
  else if h : 102 ≤ d ∧ d < 134 then .gr ⟨d - 102, by omega⟩
  else .none

def use : SemLoc sig → Use
  | .reg _ => .bar
  | .dma d => useOf d.val

theorem psS_val (r : Fin 32) : (psS r).val = 6 + r.val := by revert r; decide
theorem prS_val (r : Fin 32) : (prS r).val = 38 + r.val := by revert r; decide
theorem gsS_val (r : Fin 32) : (gsS r).val = 70 + r.val := by revert r; decide
theorem grS_val (r : Fin 32) : (grS r).val = 102 + r.val := by revert r; decide

theorem useOf_ps (r : Fin 32) : useOf (6 + r.val) = .ps r := by revert r; decide
theorem useOf_pr (r : Fin 32) : useOf (38 + r.val) = .pr r := by revert r; decide
theorem useOf_gs (r : Fin 32) : useOf (70 + r.val) = .gs r := by revert r; decide
theorem useOf_gr (r : Fin 32) : useOf (102 + r.val) = .gr r := by revert r; decide

theorem use_bar : use (.reg barS) = .bar := rfl
theorem use_ps (r : Fin 32) : use (.dma (psS r)) = .ps r := by rw [← useOf_ps r, ← psS_val r]; rfl
theorem use_pr (r : Fin 32) : use (.dma (prS r)) = .pr r := by rw [← useOf_pr r, ← prS_val r]; rfl
theorem use_gs (r : Fin 32) : use (.dma (gsS r)) = .gs r := by rw [← useOf_gs r, ← gsS_val r]; rfl
theorem use_gr (r : Fin 32) : use (.dma (grS r)) = .gr r := by rw [← useOf_gr r, ← grS_val r]; rfl

/-! ## The exchanges' operations, over these names -/

theorem off1 (c : Dev nD) : k0_off1 c = ![c.val] := k0_off1_eq c
theorem off3 (c : Dev nD) (r : Fin 31) : k0_off3 c (BitVec.ofNat 32 (1 + r.val)) = ![8 * (nxt c r).val, 0] := k0_off3_eq c r
theorem off6 (c : Dev nD) (r : Fin 31) : k0_off6 c (BitVec.ofNat 32 (1 + r.val)) = ![(prv c r).val] := k0_off6_eq c r
theorem off7 (c : Dev nD) (r : Fin 31) : k0_off7 c (BitVec.ofNat 32 (1 + r.val)) = ![(prv c r).val, 0, 0] := k0_off7_eq c r
theorem off9 (c : Dev nD) (r : Fin 31) : k0_off9 c (BitVec.ofNat 32 (1 + r.val)) = ![8 * (prv c r).val, 0] := k0_off9_eq c r

theorem slice_congr {s : Shape} {sp : Space} {e : EltTy} (a : Memref sig .tc sp s e) {off off' : Fin s.rank → ℕ} (h : off = off') {t : Fin s.rank → ℕ}
    (i : ∀ a, off a + t a ≤ s.size a) (i' : ∀ a, off' a + t a ≤ s.size a) :
    a.slice (Rect.unit (s := s) off t i) (fun _ => rfl) = a.slice (Rect.unit (s := s) off' t i') (fun _ => rfl) := by
  subst h; rfl

theorem slot_congr {off off' : Fin S32x8x512.rank → ℕ} (h : off = off') (i : ∀ a, off a + S1x8x512.size a ≤ S32x8x512.size a)
    (i' : ∀ a, off' a + S1x8x512.size a ≤ S32x8x512.size a) :
    (rsM.slice (Rect.unit (s := S32x8x512) off S1x8x512.size i) (fun _ => rfl)).squeeze S8x512 squeezes_S1x8x512_S8x512
      = (rsM.slice (Rect.unit (s := S32x8x512) off' S1x8x512.size i') (fun _ => rfl)).squeeze S8x512 squeezes_S1x8x512_S8x512 := by
  subst h; rfl

theorem sem_congr (a : DmaSems sig S32) {off : Fin S32.rank → ℕ} {t : Fin 32} (h : off = ![t.val]) (i : ∀ a, off a + S1.size a ≤ S32.size a) :
    ((a.slice (Rect.unit (s := S32) off S1.size i)).squeeze S_ squeezes_S1_S_).sem = semAt a t := by
  subst h; rfl

theorem enqueue_congr {src src' : Memref sig .tc .vmem S8x512 .bf16} {d : Dev nD} {dst dst' : Memref sig .tc .vmem S8x512 .bf16} {sS : SemLoc sig} {sem sem' : DmaSem sig}
    (h₁ : src = src') (h₂ : dst = dst') (h₃ : sem = sem') (hw hw' hs) :
    ∃ (gw : src'.view.WordExact) (gw' : dst'.view.WordExact) (gs : _), (Prog.lift (.enqueueDma src (.remote (Dev.tc d) dst sS) (.dma sem) hw hw' hs) : PG F PUnit)
      = Prog.lift (.enqueueDma src' (.remote (Dev.tc d) dst' sS) (.dma sem') gw gw' gs) := by
  subst h₁ h₂ h₃; exact ⟨hw, hw', hs, rfl⟩

theorem wait_congr {sem sem' : DmaSem sig} {src src' dst dst' : Memref sig .tc .vmem S8x512 .bf16} (h₁ : src = src') (h₂ : dst = dst') (h₃ : sem = sem') (hw hw') :
    ∃ (gw : src'.view.WordExact) (gw' : dst'.view.WordExact), (Prog.lift (.waitDma2 sem src dst hw hw') : PG F PUnit) = Prog.lift (.waitDma2 sem' src' dst' gw gw') := by
  subst h₁ h₂ h₃; exact ⟨hw, hw', rfl⟩

variable (c : Dev nD) (r : Fin 31)

theorem rsRaw_eq : rsRaw rsM c = rsSl c := slot_congr (k0_off2_eq c) _ _
theorem rsRecv_eq : (rsM.slice (Rect.unit (s := S32x8x512) (k0_off7 c (BitVec.ofNat 32 (1 + r.val))) S1x8x512.size (k0_off7_inb c r)) (fun _ => rfl)).squeeze S8x512 squeezes_S1x8x512_S8x512
    = rsSl (prv c r) := slot_congr (off7 c r) _ _
theorem pbRaw_eq : pbRaw pbM c r = pbCh (nxt c r) := slice_congr pbM (off3 c r) _ _
theorem pbOwn_eq : ownRaw pbM c = pbCh c := slice_congr pbM (k0_off8_eq c) _ _
theorem gbOwn_eq : ownRaw gbM c = gbCh c := slice_congr gbM (k0_off8_eq c) _ _
theorem gbRaw_eq : gbRaw gbM c r = gbCh (prv c r) := slice_congr gbM (off9 c r) _ _

theorem psendTo_eq (h6 : pbM.IsWhole) (h7 : rsM.IsWhole) (d : Dev nD) :
    ∃ (gw : (pbCh (nxt c r)).view.WordExact) (gw' : (rsSl c).view.WordExact) (gs : _),
      (psendTo pbM h6 rsM h7 cc0_scratch3 cc0_scratch4 c r d : PG F PUnit)
        = Prog.lift (.enqueueDma (pbCh (nxt c r)) (.remote (Dev.tc d) (rsSl c) (.dma (psS (up r)))) (.dma (prS c)) gw gw' gs) :=
  enqueue_congr (pbRaw_eq c r) (rsRaw_eq c) (sem_congr cc0_scratch4 (off1 c) _) _ _ _

theorem precv_eq (h6 : pbM.IsWhole) (h7 : rsM.IsWhole) :
    ∃ (gw : (pbCh c).view.WordExact) (gw' : (rsSl (prv c r)).view.WordExact),
      (precv pbM h6 rsM h7 cc0_scratch4 c r : PG F PUnit) = Prog.lift (.waitDma2 (prS (prv c r)) (pbCh c) (rsSl (prv c r)) gw gw') :=
  wait_congr (pbOwn_eq c) (rsRecv_eq c r) (sem_congr cc0_scratch4 (off6 c r) _) _ _

theorem psent_eq (h6 : pbM.IsWhole) (h7 : rsM.IsWhole) :
    ∃ (gw : (rsSl c).view.WordExact) (gw' : (pbCh (nxt c r)).view.WordExact),
      (psent pbM h6 rsM h7 cc0_scratch3 c r : PG F PUnit) = Prog.lift (.waitDma2 (psS (up r)) (rsSl c) (pbCh (nxt c r)) gw gw') :=
  wait_congr (rsRaw_eq c) (pbRaw_eq c r) rfl _ _

theorem gsendTo_eq (h8 : gbM.IsWhole) (d : Dev nD) :
    ∃ (gw : (gbCh c).view.WordExact) (gw' : (gbCh c).view.WordExact) (gs : _),
      (gsendTo gbM h8 cc0_scratch5 cc0_scratch6 c r d : PG F PUnit)
        = Prog.lift (.enqueueDma (gbCh c) (.remote (Dev.tc d) (gbCh c) (.dma (gsS (up r)))) (.dma (grS c)) gw gw' gs) :=
  enqueue_congr (gbOwn_eq c) (gbOwn_eq c) (sem_congr cc0_scratch6 (off1 c) _) _ _ _

theorem grecv_eq (h8 : gbM.IsWhole) :
    ∃ (gw : (gbCh (prv c r)).view.WordExact) (gw' : (gbCh (prv c r)).view.WordExact),
      (grecv gbM h8 cc0_scratch6 c r : PG F PUnit) = Prog.lift (.waitDma2 (grS (prv c r)) (gbCh (prv c r)) (gbCh (prv c r)) gw gw') :=
  wait_congr (gbRaw_eq c r) (gbRaw_eq c r) (sem_congr cc0_scratch6 (off6 c r) _) _ _

theorem gsent_eq (h8 : gbM.IsWhole) :
    ∃ (gw : (gbCh c).view.WordExact) (gw' : (gbCh c).view.WordExact),
      (gsent gbM h8 cc0_scratch5 c r : PG F PUnit) = Prog.lift (.waitDma2 (gsS (up r)) (gbCh c) (gbCh c) gw gw') :=
  wait_congr (gbOwn_eq c) (gbOwn_eq c) rfl _ _

/-! ## Contents -/

section
variable (P : Dev nD → Vec F S256x512 .bf16)

/-- What device `t`'s second scratch buffer holds once every slot is filled: in slot `s`, device `s`'s part of `t`'s rows. -/
def rsF (t : Dev nD) : Vec F S32x8x512 .bf16 := fun i =>
  P (i 0) (ix2 (⟨8 * t.val + (i 1).val, by have h0 : t.val < 32 := t.isLt; have h : (i 1).val < 8 := (i 1).isLt; omega⟩ : Fin 256) (i 2 : Fin 512))

/-- Device `s`'s rows, added up. -/
def redF (s : Dev nD) : Vec F S8x512 .bf16 := k0_pay29 (rsF P s)

/-- What every device's third scratch buffer holds at the end: each device's rows, added up. -/
def gbF : Vec F S256x512 .bf16 := fun i =>
  redF P (⟨(i 0).val / 8, by have h : (i 0).val < 256 := (i 0).isLt; show _ < 32; omega⟩ : Fin 32)
    (ix2 (⟨(i 0).val % 8, Nat.mod_lt _ (by decide)⟩ : Fin 8) (i 1 : Fin 512))

theorem pbCh_emb (t : Fin 32) (x : S8x512.Idx) :
    (pbCh t).view.emb x = (ix2 (⟨8 * t.val + (x 0).val, by have := t.isLt; have h : (x 0).val < 8 := (x 0).isLt; omega⟩ : Fin 256) (x 1 : Fin 512) : S256x512.Idx) := by
  funext a
  match a with
  | ⟨0, _⟩ => exact Fin.ext (by show 8 * t.val + 1 * (x 0).val = 8 * t.val + (x 0).val; omega)
  | ⟨1, _⟩ => exact Fin.ext (by show 0 + 1 * (x 1).val = (x 1).val; omega)

theorem gbCh_emb (t : Fin 32) (x : S8x512.Idx) :
    (gbCh t).view.emb x = (ix2 (⟨8 * t.val + (x 0).val, by have := t.isLt; have h : (x 0).val < 8 := (x 0).isLt; omega⟩ : Fin 256) (x 1 : Fin 512) : S256x512.Idx) := by
  funext a
  match a with
  | ⟨0, _⟩ => exact Fin.ext (by show 8 * t.val + 1 * (x 0).val = 8 * t.val + (x 0).val; omega)
  | ⟨1, _⟩ => exact Fin.ext (by show 0 + 1 * (x 1).val = (x 1).val; omega)

theorem unsq (h : S8x512.numel = S1x8x512.numel) (x : S8x512.Idx) :
    Shape.reshapeEquiv h x = (ix3 (0 : Fin 1) (x 0 : Fin 8) (x 1 : Fin 512) : S1x8x512.Idx) :=
  Shape.reshapeEquiv_eq_of_rowMajor h (by
    rw [Shape.rowMajor_val_three, Shape.rowMajor_val_two]
    show (0 * 8 + (x 0).val) * 512 + (x 1).val = (x 0).val * 512 + (x 1).val
    omega)

theorem rsSl_emb (s : Fin 32) (x : S8x512.Idx) :
    (rsSl s).view.emb x = (ix3 (s : Fin 32) (x 0 : Fin 8) (x 1 : Fin 512) : S32x8x512.Idx) := by
  show (slotR s).emb (Shape.reshapeEquiv _ x) = _
  rw [unsq]
  funext a
  match a with
  | ⟨0, _⟩ => exact Fin.ext (by show s.val + 1 * 0 = s.val; omega)
  | ⟨1, _⟩ => exact Fin.ext (by show 0 + 1 * (x 0).val = (x 0).val; omega)
  | ⟨2, _⟩ => exact Fin.ext (by show 0 + 1 * (x 1).val = (x 1).val; omega)

/-- A slot filled with device `s`'s part of `t`'s rows holds what it should. -/
theorem landed_rs (s t : Dev nD) (fd : Vec F S32x8x512 .bf16) :
    ∀ i ∈ (rsSl s).view.set, (rsSl s).view.write (Elt F) fd ((pbCh t).view.read (Elt F) (P s)) Finset.univ i = rsF P t i := by
  intro i hi
  obtain ⟨x, -, rfl⟩ := Finset.mem_map.mp hi
  rw [View.write_emb_of_mem _ _ (Finset.mem_univ x), View.read_apply, cast_cast, cast_eq, pbCh_emb, rsSl_emb]
  rfl

/-- Device `s`'s rows landed hold what they should. -/
theorem landed_gb (s : Dev nD) (fd : Vec F S256x512 .bf16) :
    ∀ i ∈ (gbCh s).view.set, (gbCh s).view.write (Elt F) fd ((gbCh s).view.read (Elt F) (gbF P)) Finset.univ i = gbF P i := by
  intro i hi
  obtain ⟨x, -, rfl⟩ := Finset.mem_map.mp hi
  rw [View.write_emb_of_mem _ _ (Finset.mem_univ x), View.read_apply, cast_cast, cast_eq]

end

/-! ## The slices partition their buffers -/

theorem rows_disjoint (s t : Fin 32) (h : s ≠ t) : Disjoint (rowsR s).set (rowsR t).set := by
  rw [Finset.disjoint_left]
  intro i hs ht
  have h0 := (Rect.mem_set_unit.mp hs) 0
  have h1 := (Rect.mem_set_unit.mp ht) 0
  change 8 * s.val ≤ (i 0).val ∧ (i 0).val < 8 * s.val + 8 at h0
  change 8 * t.val ≤ (i 0).val ∧ (i 0).val < 8 * t.val + 8 at h1
  exact h (Fin.ext (by omega))

theorem rows_cover : Finset.univ.biUnion (fun t : Fin 32 => (rowsR t).set) = (Finset.univ : Finset S256x512.Idx) := by
  ext i
  simp only [Finset.mem_biUnion, Finset.mem_univ, true_and, iff_true]
  have h : (i 0).val < 256 := (i 0).isLt
  have h' : (i 1).val < 512 := (i 1).isLt
  refine ⟨⟨(i 0).val / 8, by omega⟩, Rect.mem_set_unit.mpr fun a => ?_⟩
  match a with
  | ⟨0, _⟩ => exact ⟨by show 8 * ((i 0).val / 8) ≤ (i 0).val; omega, by show (i 0).val < 8 * ((i 0).val / 8) + 8; omega⟩
  | ⟨1, _⟩ => exact ⟨Nat.zero_le _, by show (i 1).val < 0 + 512; omega⟩

theorem slot_disjoint (s t : Fin 32) (h : s ≠ t) : Disjoint (slotR s).set (slotR t).set := by
  rw [Finset.disjoint_left]
  intro i hs ht
  have h0 := (Rect.mem_set_unit.mp hs) 0
  have h1 := (Rect.mem_set_unit.mp ht) 0
  change s.val ≤ (i 0).val ∧ (i 0).val < s.val + 1 at h0
  change t.val ≤ (i 0).val ∧ (i 0).val < t.val + 1 at h1
  exact h (Fin.ext (by omega))

theorem slot_cover : Finset.univ.biUnion (fun t : Fin 32 => (slotR t).set) = (Finset.univ : Finset S32x8x512.Idx) := by
  ext i
  simp only [Finset.mem_biUnion, Finset.mem_univ, true_and, iff_true]
  have h : (i 0).val < 32 := (i 0).isLt
  have h1 : (i 1).val < 8 := (i 1).isLt
  have h2 : (i 2).val < 512 := (i 2).isLt
  refine ⟨⟨(i 0).val, h⟩, Rect.mem_set_unit.mpr fun a => ?_⟩
  match a with
  | ⟨0, _⟩ => exact ⟨le_refl _, by show (i 0).val < (i 0).val + 1; omega⟩
  | ⟨1, _⟩ => exact ⟨Nat.zero_le _, by show (i 1).val < 0 + 8; omega⟩
  | ⟨2, _⟩ => exact ⟨Nat.zero_le _, by show (i 2).val < 0 + 512; omega⟩

theorem pbCh_set (t : Fin 32) : (pbCh t).view.set = (rowsR t).set := View.set_slice_whole _ _
theorem gbCh_set (t : Fin 32) : (gbCh t).view.set = (rowsR t).set := View.set_slice_whole _ _
theorem rsSl_set (s : Fin 32) : (rsSl s).view.set = (slotR s).set := by
  show ((rsM.slice (slotR s) (fun _ => rfl)).view.reshape S8x512 _).set = _
  rw [View.set_reshape]
  exact View.set_slice_whole _ _

end Cert.KernelIdeal.Body
-- ==== Proof.Sched.lean ====
/-
# The schedule

Each device's cells: its barrier, paid one unit by every other device together with that device's slots; a cell per other device
for the rows that device adds to this one's, and one for the rows it gathers; a cell per step of each exchange for the rows sent.
-/
module

public import proofs.«01_k».proof.Proof.Canon

@[expose] public section

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Cells -/

abbrev barC (c : Dev nD) : GSem nD τ sig := ((c : Thread nD τ), .reg barS)
abbrev psC (c : Dev nD) (r : Fin 32) : GSem nD τ sig := ((c : Thread nD τ), .dma (psS r))
abbrev prC (c : Dev nD) (s : Fin 32) : GSem nD τ sig := ((c : Thread nD τ), .dma (prS s))
abbrev gsC (c : Dev nD) (r : Fin 32) : GSem nD τ sig := ((c : Thread nD τ), .dma (gsS r))
abbrev grC (c : Dev nD) (s : Fin 32) : GSem nD τ sig := ((c : Thread nD τ), .dma (grS s))

/-- The units of one transfer. -/
abbrev N : ℕ := (rsSl 0).view.dmaCredit
theorem N_pos : 0 < N := View.dmaCredit_pos _ (by decide)
theorem credit_rs (s : Fin 32) : (rsSl s).view.dmaCredit = N := rfl
theorem credit_pb (s : Fin 32) : (pbCh s).view.dmaCredit = N := rfl
theorem credit_gb (s : Fin 32) : (gbCh s).view.dmaCredit = N := rfl

/-! ## Slices held -/

abbrev rsPts (c : Dev nD) (s : Fin 32) (f : Vec F S32x8x512 .bf16) : sProp 𝕄 :=
  (rsSl s).view.loc (c : Thread nD τ) ↦[(rsSl s).view.set]{fullShare} f
abbrev pbPts (c : Dev nD) (t : Fin 32) (f : Vec F S256x512 .bf16) : sProp 𝕄 :=
  (pbCh t).view.loc (c : Thread nD τ) ↦[(pbCh t).view.set]{fullShare} f
abbrev gbPts (c : Dev nD) (t : Fin 32) (q : PosShare TreeShare) (f : Vec F S256x512 .bf16) : sProp 𝕄 :=
  (gbCh t).view.loc (c : Thread nD τ) ↦[(gbCh t).view.set]{q} f

variable (P : Dev nD → Vec F S256x512 .bf16)

/-! ## The payloads -/

/-- To `c`'s barrier from `s`: the slots on `s` that `c` fills, and that the cells `c` signals there are open. -/
def barPay (c s : Dev nD) : sProp 𝕄 :=
  iprop((∃ f, rsPts (F := F) s c f) ∗ (∃ f, gbPts (F := F) s c fullShare f) ∗ reached ER (prC s c) 0 ∗ reached ER (grC s c) 0)

/-- The rows a device sent at step `r` come back to it. -/
def psPay (c : Dev nD) (r : Fin 32) : sProp 𝕄 := if h : r.val < 31 then pbPts c (nxt c ⟨r.val, h⟩) (P c) else iprop(emp)

def payOf (c : Dev nD) (d : Dev nD) : Use → sProp 𝕄
  | .bar => barPay c d
  | .ps r => psPay P c r
  | .pr s => rsPts c s (rsF P c)
  | .gs r => gbPts c c (shareTokN fullShare r.val) (gbF P)
  | .gr s => gbPts c s fullShare (gbF P)
  | .none => iprop(emp)

def dutiesOf (c : Dev nD) : Use → Finset (Dev nD)
  | .bar => Finset.univ.erase c
  | .ps r => if r.val < 31 then {c} else ∅
  | .pr s => if s = c then ∅ else {s}
  | .gs r => if r.val < 31 then {c} else ∅
  | .gr s => if s = c then ∅ else {s}
  | .none => ∅

def sched : Schedule (GSem nD τ sig) (Dev nD) 𝕄 where
  duties g r := if r = 0 ∧ g.1.2 = .tc then dutiesOf g.1.1 (use g.2) else ∅
  unitless _ := False
  amount g _ _ := if use g.2 = .bar then 1 else N
  payload g _ d := payOf P g.1.1 d (use g.2)
  amount_pos g _ _ _ := by
    by_cases h : use g.2 = .bar
    · rw [if_pos h]; exact Nat.one_pos
    · rw [if_neg h]; exact N_pos

instance sched_storable (g : GSem nD τ sig) (r : ℕ) (d : Dev nD) : BI.Storable (upEmb : UEmb _ 𝕄) ((sched P).payload g r d) := by
  show BI.Storable upEmb (payOf P g.1.1 d (use g.2))
  cases use g.2 <;> unfold payOf <;> dsimp only <;> (try unfold barPay) <;> (try unfold psPay) <;> (repeat' split) <;> infer_instance

section
variable (c : Dev nD)

theorem duties_tc (sm : SemLoc sig) : (sched P).duties ((c : Thread nD τ), sm) 0 = dutiesOf c (use sm) := by
  dsimp only [sched]; exact if_pos ⟨rfl, rfl⟩
theorem duties_later (g : GSem nD τ sig) : ∀ r, 1 ≤ r → (sched P).duties g r = ∅ := fun r hr => by
  dsimp only [sched]; exact if_neg (fun h => by omega)
theorem payload_tc (sm : SemLoc sig) (d : Dev nD) : (sched P).payload ((c : Thread nD τ), sm) 0 d = payOf P c d (use sm) := rfl

theorem duties_bar : (sched P).duties (barC c) 0 = Finset.univ.erase c := duties_tc P c _
theorem duties_pr (s : Dev nD) (h : s ≠ c) : (sched P).duties (prC c s) 0 = {s} := by
  rw [duties_tc, use_pr]; exact if_neg h
theorem duties_gr (s : Dev nD) (h : s ≠ c) : (sched P).duties (grC c s) 0 = {s} := by
  rw [duties_tc, use_gr]; exact if_neg h
theorem duties_ps (r : Fin 31) : (sched P).duties (psC c (up r)) 0 = {c} := by
  rw [duties_tc, use_ps]; exact if_pos r.isLt
theorem duties_gs (r : Fin 31) : (sched P).duties (gsC c (up r)) 0 = {c} := by
  rw [duties_tc, use_gs]; exact if_pos r.isLt

theorem amount_bar (d : Dev nD) : (sched P).amount (barC c) 0 d = 1 := rfl
theorem amount_pr (s d : Dev nD) : (sched P).amount (prC c s) 0 d = N := by
  dsimp only [sched]; rw [use_pr]; rfl
theorem amount_gr (s d : Dev nD) : (sched P).amount (grC c s) 0 d = N := by
  dsimp only [sched]; rw [use_gr]; rfl
theorem amount_ps (r : Fin 32) (d : Dev nD) : (sched P).amount (psC c r) 0 d = N := by
  dsimp only [sched]; rw [use_ps]; rfl
theorem amount_gs (r : Fin 32) (d : Dev nD) : (sched P).amount (gsC c r) 0 d = N := by
  dsimp only [sched]; rw [use_gs]; rfl

theorem expect_bar : (sched P).expect (barC c) 0 = 31 := by
  unfold Schedule.expect Schedule.amountOf
  rw [duties_bar, Finset.sum_congr rfl (fun d _ => amount_bar P c d), Finset.sum_const, Finset.card_erase_of_mem (Finset.mem_univ c)]
  rfl
theorem expect_one (g : GSem nD τ sig) (d : Dev nD) (hd : (sched P).duties g 0 = {d}) (n : ℕ) (hn : (sched P).amount g 0 d = n) :
    (sched P).expect g 0 = n := by
  unfold Schedule.expect Schedule.amountOf; rw [hd, Finset.sum_singleton, hn]
theorem rest_one (g : GSem nD τ sig) (d : Dev nD) (hd : (sched P).duties g 0 = {d}) :
    bigSep ((sched P).duties g 0 \ ∅) (fun u => (sched P).payload g 0 u) = (sched P).payload g 0 d := by
  rw [Finset.sdiff_empty, hd, bigSep_singleton]

theorem pay_bar (d : Dev nD) : (sched P).payload (barC c) 0 d = barPay c d := rfl
theorem pay_pr (s d : Dev nD) : (sched P).payload (prC c s) 0 d = rsPts c s (rsF P c) := by rw [payload_tc, use_pr]; rfl
theorem pay_gr (s d : Dev nD) : (sched P).payload (grC c s) 0 d = gbPts c s fullShare (gbF P) := by rw [payload_tc, use_gr]; rfl
theorem pay_ps (r : Fin 31) (d : Dev nD) : (sched P).payload (psC c (up r)) 0 d = pbPts c (nxt c r) (P c) := by
  rw [payload_tc, use_ps]; exact dif_pos r.isLt
theorem pay_gs (r : Fin 31) (d : Dev nD) : (sched P).payload (gsC c (up r)) 0 d = gbPts c c (shareTokN fullShare r.val) (gbF P) := by
  rw [payload_tc, use_gs]; rfl

end

/-! ## The other devices, by step -/

theorem nxt_ne (c : Dev nD) (r : Fin 31) : nxt c r ≠ c := by
  intro h
  have h' : (c.val + r.val + 1) % 32 = c.val := congrArg Fin.val h
  have := r.isLt
  have h0 : c.val < 32 := c.isLt
  omega

theorem prv_ne (c : Dev nD) (r : Fin 31) : prv c r ≠ c := by
  intro h
  have h' : ((c.val + 31) - r.val) % 32 = c.val := congrArg Fin.val h
  have := r.isLt
  have h0 : c.val < 32 := c.isLt
  omega

theorem nxt_inj (c : Dev nD) : Function.Injective (nxt c) := by
  intro r s h
  have h' : (c.val + r.val + 1) % 32 = (c.val + s.val + 1) % 32 := congrArg Fin.val h
  have := r.isLt
  have := s.isLt
  have h0 : c.val < 32 := c.isLt
  exact Fin.ext (by omega)

theorem prv_inj (c : Dev nD) : Function.Injective (prv c) := by
  intro r s h
  have h' : ((c.val + 31) - r.val) % 32 = ((c.val + 31) - s.val) % 32 := congrArg Fin.val h
  have := r.isLt
  have := s.isLt
  have h0 : c.val < 32 := c.isLt
  exact Fin.ext (by omega)

theorem others (f : Fin 31 → Dev nD) (hf : Function.Injective f) (c : Dev nD) (hc : ∀ r, f r ≠ c) :
    Finset.univ.erase c = Finset.univ.map ⟨f, hf⟩ := by
  symm
  apply Finset.eq_of_subset_of_card_le
  · intro d hd
    obtain ⟨r, -, rfl⟩ := Finset.mem_map.mp hd
    exact Finset.mem_erase.mpr ⟨hc r, Finset.mem_univ _⟩
  · rw [Finset.card_map, Finset.card_erase_of_mem (Finset.mem_univ c)]
    exact le_refl 31

/-- A family over the other devices is a family over the steps. -/
theorem sep_nxt (c : Dev nD) (Φ : Dev nD → sProp 𝕄) : bigSep (Finset.univ.erase c) Φ = bigSep Finset.univ (fun r : Fin 31 => Φ (nxt c r)) := by
  rw [others (nxt c) (nxt_inj c) c (nxt_ne c), bigSep_map]; rfl
theorem sep_prv (c : Dev nD) (Φ : Dev nD → sProp 𝕄) : bigSep (Finset.univ.erase c) Φ = bigSep Finset.univ (fun r : Fin 31 => Φ (prv c r)) := by
  rw [others (prv c) (prv_inj c) c (prv_ne c), bigSep_map]; rfl
theorem all_nxt (c : Dev nD) (Φ : Dev nD → sProp 𝕄) : bigSep Finset.univ Φ = iprop(Φ c ∗ bigSep Finset.univ (fun r : Fin 31 => Φ (nxt c r))) := by
  rw [bigSep_univ_split c, ← sep_nxt]; rfl
theorem all_prv (c : Dev nD) (Φ : Dev nD → sProp 𝕄) : bigSep Finset.univ Φ = iprop(Φ c ∗ bigSep Finset.univ (fun r : Fin 31 => Φ (prv c r))) := by
  rw [bigSep_univ_split c, ← sep_prv]; rfl

theorem rest_bar (c : Dev nD) :
    bigSep ((sched P).duties (barC c) 0 \ ∅) (fun u => (sched P).payload (barC c) 0 u) = bigSep Finset.univ (fun r : Fin 31 => barPay c (nxt c r)) := by
  rw [Finset.sdiff_empty, duties_bar, sep_nxt]; rfl

/-! ## What a device owes -/

/-- What is still owed of a family from step `k` on. -/
def debt (f : Fin 31 → CellTallies nD τ sig Unit) (k : ℕ) : CellTallies nD τ sig Unit := ∑ i ∈ Finset.univ.filter (fun i : Fin 31 => k ≤ i.val), f i

theorem debt_step (f : Fin 31 → CellTallies nD τ sig Unit) (r : Fin 31) : debt f r.val = debt f (r.val + 1) + f r := by
  unfold debt
  have h : Finset.univ.filter (fun i : Fin 31 => r.val ≤ i.val) = insert r (Finset.univ.filter (fun i : Fin 31 => r.val + 1 ≤ i.val)) := by
    ext i
    simp only [Finset.mem_filter, Finset.mem_univ, true_and, Finset.mem_insert]
    constructor
    · intro h
      by_cases e : i = r
      · exact .inl e
      · exact .inr (by have : i.val ≠ r.val := fun h' => e (Fin.ext h'); omega)
    · rintro (rfl | h) <;> omega
  rw [h, Finset.sum_insert (by simp), add_comm]

theorem debt_done (f : Fin 31 → CellTallies nD τ sig Unit) : debt f 31 = 0 := by
  unfold debt
  rw [Finset.filter_false_of_mem (fun i _ => by have := i.isLt; omega), Finset.sum_empty]

theorem debt_all (f : Fin 31 → CellTallies nD τ sig Unit) : debt f 0 = ∑ i, f i := by
  unfold debt; rw [Finset.filter_true_of_mem (fun i _ => Nat.zero_le _)]

theorem debt_pos (f : Fin 31 → CellTallies nD τ sig Unit) (k : ℕ) (g : GSem nD τ sig) (u : Unit) (h : 0 < debt f k g u) : ∃ i, 0 < f i g u := by
  by_contra hn
  simp only [not_exists, not_lt] at hn
  have : debt f k g u = 0 := by
    unfold debt
    rw [Finset.sum_apply, Finsupp.finset_sum_apply]
    exact Finset.sum_eq_zero fun i _ => Nat.le_zero.mp (hn i)
  omega

def dueBar (c : Dev nD) (r : Fin 31) : CellTallies nD τ sig Unit := tallyAt (barC (nxt c r)) () 1
def duePr (c : Dev nD) (r : Fin 31) : CellTallies nD τ sig Unit := tallyAt (prC (nxt c r) c) () N
def dueGr (c : Dev nD) (r : Fin 31) : CellTallies nD τ sig Unit := tallyAt (grC (nxt c r) c) () N

/-- What a device owes when its kernel starts. -/
def O₀ (c : Dev nD) : CellTallies nD τ sig Unit := debt (dueGr c) 0 + debt (duePr c) 0 + debt (dueBar c) 0

def L (g : GSem nD τ sig) : Finset Unit := if g.1.2 = .tc then {()} else ∅
def lvOf : Use → ℕ
  | .bar => 1
  | .pr _ => 2
  | .gr _ => 3
  | _ => 0
/-- The order of the waits: the barriers, then the rows added up, then the rows gathered. -/
def lv (g : GSem nD τ sig) (_ : Unit) : ℕ := lvOf (use g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact absurd h (Nat.lt_irrefl 0)

/-- Owed only to cells of the named use. -/
theorem due_gr (c : Dev nD) (k : ℕ) (g : GSem nD τ sig) (u : Unit) (h : 0 < debt (dueGr c) k g u) : g.1.2 = .tc ∧ lv g u = 3 := by
  obtain ⟨i, hi⟩ := debt_pos _ _ _ _ h
  rw [tally_pos hi]
  exact ⟨rfl, by show lvOf (use (.dma (grS c))) = 3; rw [use_gr]; rfl⟩
theorem due_pr (c : Dev nD) (k : ℕ) (g : GSem nD τ sig) (u : Unit) (h : 0 < debt (duePr c) k g u) : g.1.2 = .tc ∧ lv g u = 2 := by
  obtain ⟨i, hi⟩ := debt_pos _ _ _ _ h
  rw [tally_pos hi]
  exact ⟨rfl, by show lvOf (use (.dma (prS c))) = 2; rw [use_pr]; rfl⟩
theorem due_bar (c : Dev nD) (k : ℕ) (g : GSem nD τ sig) (u : Unit) (h : 0 < debt (dueBar c) k g u) : g.1.2 = .tc ∧ lv g u = 1 := by
  obtain ⟨i, hi⟩ := debt_pos _ _ _ _ h
  rw [tally_pos hi]
  exact ⟨rfl, rfl⟩

theorem mayWait (c : Dev nD) (sm : SemLoc sig) (O : CellTallies nD τ sig Unit)
    (h : ∀ (g : GSem nD τ sig) (u : Unit), 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

end Cert.KernelIdeal.Body
-- ==== Proof.Steps.lean ====
/-
# One step of each exchange

An exchange is one operation for each of 31 steps, so it is enough to know what one step takes and what it gives (`wp_each`). The
steps: tell a device this one has started; send the rows; wait for a transfer that landed here or left from here.
-/
module

public import proofs.«01_k».proof.Proof.Sched

@[expose] public section

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

abbrev 𝒱₀ : Variants := Variants.none

/-- The weakest precondition of a piece of the body on device `c`. -/
abbrev wpB (c : Dev nD) (p : PG F PUnit) (K : PUnit → sProp 𝕄) : sProp 𝕄 := wp frame (wpE (defs₀ (F := F)) 𝒱₀ (c : Thread nD τ) none) Set.univ p K

theorem wpB_bind (c : Dev nD) (p : PG F PUnit) (k : PUnit → PG F PUnit) (K : PUnit → sProp 𝕄) :
    wpB c (p >>= k) K = wpB c p (fun a => wpB c (k a) K) := wp_bind ..

/-- A family conjoined along a list. -/
def sepL (Φ : Fin 31 → sProp 𝕄) : List (Fin 31) → sProp 𝕄
  | [] => iprop(emp)
  | r :: l => iprop(Φ r ∗ sepL Φ l)

theorem sepL_eq (Φ : Fin 31 → sProp 𝕄) (l : List (Fin 31)) (h : l.Nodup) : sepL Φ l = bigSep l.toFinset Φ := by
  induction l with
  | nil => rw [List.toFinset_nil, bigSep_empty]; rfl
  | cons r l ih =>
    rw [List.nodup_cons] at h
    rw [List.toFinset_cons, bigSep_insert (by rw [List.mem_toFinset]; exact h.1), ← ih h.2]; rfl

/-- Steps numbered one after another from `k`. -/
theorem wp_each_from (c : Dev nD) (A : sProp 𝕄) [BI.Persistent A] (In Out : Fin 31 → sProp 𝕄) (St : ℕ → sProp 𝕄) (f : Fin 31 → PG F PUnit)
    (step : ∀ (r : Fin 31) (K : PUnit → sProp 𝕄), iprop(A ∗ In r ∗ St r.val ∗ ((Out r ∗ St (r.val + 1)) -∗ K ⟨⟩)) ⊢ wpB c (f r) K)
    (l : List (Fin 31)) : ∀ (k : ℕ) (hl : l.map Fin.val = List.range' k l.length) (K : PUnit → sProp 𝕄),
      iprop(A ∗ sepL In l ∗ St k ∗ ((sepL Out l ∗ St (k + l.length)) -∗ K ⟨⟩)) ⊢ wpB c (each f l) K := by
  induction l with
  | nil =>
    intro k hl K
    show _ ⊢ wpB c (.ret ⟨⟩) K
    rw [wpB, wp_ret]
    iintro ⟨-, -, HS, HK⟩
    imodintro
    iapply HK
    isplitr; · iempintro
    iexact HS
  | cons r l ih =>
    intro k hl K
    rw [show sepL In (r :: l) = iprop(In r ∗ sepL In l) from rfl, show sepL Out (r :: l) = iprop(Out r ∗ sepL Out l) from rfl]
    rw [List.map_cons, List.length_cons, List.range'_succ, List.cons.injEq] at hl
    show _ ⊢ wpB c (f r >>= fun _ => each f l) K
    rw [wpB_bind]
    iintro ⟨#HA, ⟨HI, HIs⟩, HS, HK⟩
    iapply (step r)
    isplitr; · iexact HA
    isplitl [HI]; · iexact HI
    rw [hl.1]
    isplitl [HS]; · iexact HS
    iintro ⟨HO, HS⟩
    iapply (ih (k + 1) hl.2 K)
    isplitr; · iexact HA
    isplitl [HIs]; · iexact HIs
    isplitl [HS]; · iexact HS
    iintro ⟨HOs, HS⟩
    iapply HK
    isplitl [HO HOs]
    · isplitl [HO]; · iexact HO
      iexact HOs
    · rw [List.length_cons, show k + (l.length + 1) = k + 1 + l.length by omega]
      iexact HS

/-- An exchange from its step. -/
theorem wp_each (c : Dev nD) (A : sProp 𝕄) [BI.Persistent A] (In Out : Fin 31 → sProp 𝕄) (St : ℕ → sProp 𝕄) (f : Fin 31 → PG F PUnit)
    (step : ∀ (r : Fin 31) (K : PUnit → sProp 𝕄), iprop(A ∗ In r ∗ St r.val ∗ ((Out r ∗ St (r.val + 1)) -∗ K ⟨⟩)) ⊢ wpB c (f r) K)
    (K : PUnit → sProp 𝕄) :
    iprop(A ∗ bigSep Finset.univ In ∗ St 0 ∗ ((bigSep Finset.univ Out ∗ St 31) -∗ K ⟨⟩)) ⊢ wpB c (each f steps) K := by
  have h := wp_each_from c A In Out St f step steps 0 (by decide) K
  rw [sepL_eq _ _ (by decide), sepL_eq _ _ (by decide), show steps.toFinset = Finset.univ by decide] at h
  exact h

/-- One member of a family held whole. -/
theorem pick {I : Type} [Fintype I] [DecidableEq I] (Φ : I → sProp 𝕄) (i : I) : bigSep Finset.univ Φ ⊢ Φ i := bigSep_elim (Finset.mem_univ i)

/-! ## The cells, named -/

/-- The scoped cells: exchange and index. -/
abbrev J : Type := Fin 4 × Fin 32

def semOf : J → DmaSem sig
  | (0, i) => psS i
  | (1, i) => prS i
  | (2, i) => gsS i
  | (3, i) => grS i

abbrev cellJ (d : Dev nD) (j : J) : GSem nD τ sig := ((d : Thread nD τ), .dma (semOf j))

variable (P : Dev nD → Vec F S256x512 .bf16) (κ : GSem nD τ sig → ℕ)

/-- What every device may know of every cell: its invariant, and that the barriers are open. -/
def records : sProp 𝕄 :=
  iprop(bigSep Finset.univ (fun d : Dev nD => iprop(cellInv ER (sched P) (κ (barC d)) (barC d) ∗ reached ER (barC d) 0))
    ∗ bigSep Finset.univ (fun d : Dev nD => bigSep Finset.univ (fun j : J => cellInv ER (sched P) (κ (cellJ d j)) (cellJ d j)))
    ∗ levAts L lv)

instance records_persistent : BI.Persistent (records P κ) := by unfold records; infer_instance

/-- That a device's own scoped cells are open. -/
def opened (c : Dev nD) : sProp 𝕄 := bigSep Finset.univ (fun j : J => (reached ER (cellJ c j) 0 : sProp 𝕄))

instance opened_persistent (c : Dev nD) : BI.Persistent (opened (F := F) c) := by unfold opened; infer_instance

/-- What a device knows while its kernel runs. -/
abbrev known (c : Dev nD) : sProp 𝕄 := iprop(records P κ ∗ opened c)

theorem known_bar (c d : Dev nD) : known P κ c ⊢ iprop(cellInv ER (sched P) (κ (barC d)) (barC d) ∗ reached ER (barC d) 0) := by
  unfold known records
  iintro ⟨⟨H, -, -⟩, -⟩
  iapply (pick (fun d : Dev nD => iprop(cellInv ER (sched P) (κ (barC d)) (barC d) ∗ reached ER (barC d) 0)) d)
  iexact H

theorem known_cell (c d : Dev nD) (j : J) : known P κ c ⊢ cellInv ER (sched P) (κ (cellJ d j)) (cellJ d j) := by
  unfold known records
  iintro ⟨⟨-, H, -⟩, -⟩
  ihave H := (pick (fun d : Dev nD => bigSep Finset.univ (fun j : J => cellInv ER (sched P) (κ (cellJ d j)) (cellJ d j))) d) $$ H
  iapply (pick (fun j : J => cellInv ER (sched P) (κ (cellJ d j)) (cellJ d j)) j)
  iexact H

theorem known_open (c : Dev nD) (j : J) : known P κ c ⊢ (reached ER (cellJ c j) 0 : sProp 𝕄) := by
  unfold known opened
  iintro ⟨-, H⟩
  iapply (pick (fun j : J => (reached ER (cellJ c j) 0 : sProp 𝕄)) j)
  iexact H

theorem known_may (c : Dev nD) (sm : SemLoc sig) (O : CellTallies nD τ sig Unit)
    (h : ∀ (g : GSem nD τ sig) (u : Unit), 0 < O g u → g.1.2 = .tc ∧ lv ((c : Thread nD τ), sm) () < lv g u) :
    known P κ c ⊢ MayWait (c : Thread nD τ) sm () O := by
  unfold known records
  iintro ⟨⟨-, -, H⟩, -⟩
  iapply (mayWait c sm O h)
  iexact H

/-! ## The steps -/

/-- What a device owes, whatever it has waited for. -/
abbrev owesAny (c : Dev nD) (O : CellTallies nD τ sig Unit) : sProp 𝕄 := iprop(∃ W, owes (c : Thread nD τ) O W)

variable (c : Dev nD)

def sigIn (r : Fin 31) : sProp 𝕄 :=
  iprop(dutyTok ER (barC (nxt c r)) 0 c ∗ (∃ f, rsPts (F := F) c (nxt c r) f) ∗ (∃ f, gbPts (F := F) c (nxt c r) fullShare f))

/-- Tell a device this one has started, and lend it the slots it fills here. -/
theorem step_signal (O : CellTallies nD τ sig Unit) (r : Fin 31) (K : PUnit → sProp 𝕄) :
    iprop(known P κ c ∗ sigIn c r ∗ owesAny c (O + debt (dueBar c) r.val) ∗ ((iprop(emp) ∗ owesAny c (O + debt (dueBar c) (r.val + 1))) -∗ K ⟨⟩))
      ⊢ wpB c (signalTo (nxt c r)) K := by
  unfold sigIn
  show _ ⊢ wpB c (.op (.semSignal (nxt c r : Thread nD τ) barS ((1 : ℕ) : ℤ)) .ret) K
  iintro ⟨#Hk, ⟨Ht, Hrs, Hgb⟩, ⟨%W, HO⟩, HK⟩
  ihave #Hb := (known_bar P κ c (nxt c r)) $$ Hk
  icases Hb with ⟨#HI, #Hr⟩
  ihave #Hpr := (known_open P κ c (1, nxt c r)) $$ Hk
  ihave #Hgr := (known_open P κ c (3, nxt c r)) $$ Hk
  iapply (Rounds.wp_signal 𝒱₀ ER (sched P) (c : Thread nD τ) none (dst := (nxt c r : Thread nD τ)) (sem := barS) (r := 0) (d := c) (κ := κ (barC (nxt c r)))
      (by rw [duties_bar]; exact Finset.mem_erase.mpr ⟨(nxt_ne c r).symm, Finset.mem_univ _⟩) (amount_bar P (nxt c r) c) () (O₀ := O + debt (dueBar c) r.val) (O + debt (dueBar c) (r.val + 1))
      (by rw [debt_step (dueBar c) r, add_assoc]; rfl)) $$ [HO Ht Hrs Hgb]
  · isplitr; · iexact HI
    isplitl [HO]; · iexact HO
    isplitl [Ht]; · iexact Ht
    isplitl [Hrs Hgb]
    · rw [pay_bar]; unfold barPay
      isplitl [Hrs]; · iexact Hrs
      isplitl [Hgb]; · iexact Hgb
      isplitr; · iexact Hpr
      iexact Hgr
    · iexact Hr
  iintro HO
  rw [wp_ret]
  imodintro
  iapply HK
  isplitr; · iempintro
  iexists W
  iexact HO

/-- A wait for one transfer on one of a device's own cells. -/
theorem step_wait (j : J) (d : Dev nD) (hd : (sched P).duties (cellJ c j) 0 = {d}) (ha : (sched P).amount (cellJ c j) 0 d = N)
    (pay : sProp 𝕄) (hp : (sched P).payload (cellJ c j) 0 d = pay) (O : CellTallies nD τ sig Unit)
    (hO : ∀ (g : GSem nD τ sig) (u : Unit), 0 < O g u → g.1.2 = .tc ∧ lv (cellJ c j) () < lv g u)
    (src dst : Memref sig .tc .vmem S8x512 .bf16) (hw : src.view.WordExact) (hw' : dst.view.WordExact) (hc : dst.view.dmaCredit = N) (K : PUnit → sProp 𝕄) :
    iprop(known P κ c ∗ (cred (tallyAt (cellJ c j) () N) ∗ atPos ER (cellJ c j) 0 ∅ 0) ∗ owesAny c O
        ∗ (((atPos ER (cellJ c j) 1 ∅ 0 ∗ pay) ∗ owesAny c O) -∗ K ⟨⟩))
      ⊢ wpB c (Prog.lift (.waitDma2 (semOf j) src dst hw hw')) K := by
  show _ ⊢ wpB c (.op (.waitDma2 (semOf j) src dst hw hw') .ret) K
  iintro ⟨#Hk, ⟨Hc, Hat⟩, ⟨%W, HO⟩, HK⟩
  ihave #HI := (known_cell P κ c c j) $$ Hk
  iapply (Rounds.wp_wait_rest_token 𝒱₀ ER (sched P) (c : Thread nD τ) none (κ := κ (cellJ c j))
      (wpE_waitDma2_eq 𝒱₀ (c : Thread nD τ) none Set.univ) (Set.mem_univ _) () (O := O) (W := W) (R := 0) (m := 0) (T := ∅)
      (by rw [hc]; exact (Nat.zero_add _).trans (expect_one P (cellJ c j) d hd N ha).symm)) $$ [Hc HO Hat]
  · isplitr; · iexact HI
    isplitl [Hc]; · rw [hc]; iexact Hc
    isplitl [HO]; · iexact HO
    isplitr; · iapply (known_may P κ c (.dma (semOf j)) O hO); iexact Hk
    iexact Hat
  iintro ⟨HO, Hat, -, Hpay⟩
  ihave Hp := (Entails.of_eq ((rest_one P (cellJ c j) d hd).trans hp)) $$ Hpay
  rw [wp_ret]
  imodintro
  iapply HK
  isplitl [Hat Hp]
  · isplitl [Hat]; · iexact Hat
    iexact Hp
  · iexists (insert (SemLoc.dma (semOf j), ()) W)
    iexact HO

end Cert.KernelIdeal.Body
-- ==== Proof.Sends.lean ====
/-
# The exchanges

Sending a device its rows: the rows leave with the message, and come back when it has left; the slot they land in was lent at
the barrier. With the steps of `Steps`, each exchange as a whole.
-/
module

public import proofs.«01_k».proof.Proof.Steps

@[expose] public section

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (P : Dev nD → Vec F S256x512 .bf16) (κ : GSem nD τ sig → ℕ) (c : Dev nD)

/-- What step `r` of the first exchange needs: the rows, the slot they go to, and the right to signal both cells. -/
def psendIn (r : Fin 31) : sProp 𝕄 :=
  iprop(pbPts c (nxt c r) (P c) ∗ (∃ f, rsPts (F := F) (nxt c r) c f) ∗ reached ER (prC (nxt c r) c) 0
    ∗ dutyTok ER (psC c (up r)) 0 c ∗ dutyTok ER (prC (nxt c r) c) 0 c)

theorem step_psend (O : CellTallies nD τ sig Unit) (h6 : pbM.IsWhole) (h7 : rsM.IsWhole) (r : Fin 31) (K : PUnit → sProp 𝕄) :
    iprop(known P κ c ∗ psendIn P c r ∗ owesAny c (O + debt (duePr c) r.val)
        ∗ ((cred (tallyAt (psC c (up r)) () N) ∗ owesAny c (O + debt (duePr c) (r.val + 1))) -∗ K ⟨⟩))
      ⊢ wpB c (psendTo pbM h6 rsM h7 cc0_scratch3 cc0_scratch4 c r (nxt c r)) K := by
  obtain ⟨gw, gw', gs, e⟩ := psendTo_eq (F := F) c r h6 h7 (nxt c r)
  rw [e]
  unfold psendIn
  show _ ⊢ wpB c (.op (.enqueueDma (pbCh (nxt c r)) (.remote (Dev.tc (nxt c r)) (rsSl c) (.dma (psS (up r)))) (.dma (prS c)) gw gw' gs) .ret) K
  iintro ⟨#Hk, ⟨Hpb, ⟨%fd, Hrs⟩, #Hr, Ht₁, Ht₂⟩, ⟨%W, HO⟩, HK⟩
  ihave #HI₁ := (known_cell P κ c c (0, up r)) $$ Hk
  ihave #HI₂ := (known_cell P κ c (nxt c r) (1, c)) $$ Hk
  ihave #Hr₁ := (known_open P κ c (0, up r)) $$ Hk
  iapply (Rounds.wp_send_pointsTo 𝒱₀ ER (sched P) (c : Thread nD τ) none (c' := (nxt c r : Thread nD τ)) (src := pbCh (nxt c r)) (dst := rsSl c)
      (sS := .dma (psS (up r))) (sem := .dma (prS c)) (q := fullShare) (fs := P c) (fd := fd) (r₁ := 0) (r₂ := 0) (d₁ := c) (d₂ := c)
      (κ₁ := κ (psC c (up r))) (κ₂ := κ (prC (nxt c r) c))
      (by rw [duties_ps]; exact Finset.mem_singleton_self _) (by rw [duties_pr P (nxt c r) c (nxt_ne c r).symm]; exact Finset.mem_singleton_self _)
      () () N rfl (amount_ps P c (up r) c) (amount_pr P (nxt c r) c c) (O₀ := O + debt (duePr c) r.val) (O + debt (duePr c) (r.val + 1))
      (by rw [debt_step (duePr c) r, add_assoc]; rfl) (Entails.of_eq (pay_ps P c r c).symm)
      (by rw [pay_pr]; exact Entails.of_eq (pointsTo_congr (landed_rs P c (nxt c r) fd)))) $$ [Hpb Hrs HO Ht₁ Ht₂]
  · isplitr; · iexact HI₁
    isplitr; · iexact HI₂
    isplitl [Hpb]; · iexact Hpb
    isplitl [Hrs]; · iexact Hrs
    isplitl [HO]; · iexact HO
    isplitl [Ht₁]; · iexact Ht₁
    isplitr; · iexact Hr₁
    isplitl [Ht₂]; · iexact Ht₂
    iexact Hr
  iintro ⟨Hc, HO⟩
  rw [wp_ret]
  imodintro
  iapply HK
  isplitl [Hc]; · iexact Hc
  iexists W
  iexact HO

/-- What step `r` of the second exchange needs. -/
def gsendIn (r : Fin 31) : sProp 𝕄 :=
  iprop(gbPts c c (shareTokN fullShare r.val) (gbF P) ∗ (∃ f, gbPts (F := F) (nxt c r) c fullShare f) ∗ reached ER (grC (nxt c r) c) 0
    ∗ dutyTok ER (gsC c (up r)) 0 c ∗ dutyTok ER (grC (nxt c r) c) 0 c)

theorem step_gsend (O : CellTallies nD τ sig Unit) (h8 : gbM.IsWhole) (r : Fin 31) (K : PUnit → sProp 𝕄) :
    iprop(known P κ c ∗ gsendIn P c r ∗ owesAny c (O + debt (dueGr c) r.val)
        ∗ ((cred (tallyAt (gsC c (up r)) () N) ∗ owesAny c (O + debt (dueGr c) (r.val + 1))) -∗ K ⟨⟩))
      ⊢ wpB c (gsendTo gbM h8 cc0_scratch5 cc0_scratch6 c r (nxt c r)) K := by
  obtain ⟨gw, gw', gs, e⟩ := gsendTo_eq (F := F) c r h8 (nxt c r)
  rw [e]
  unfold gsendIn
  show _ ⊢ wpB c (.op (.enqueueDma (gbCh c) (.remote (Dev.tc (nxt c r)) (gbCh c) (.dma (gsS (up r)))) (.dma (grS c)) gw gw' gs) .ret) K
  iintro ⟨#Hk, ⟨Hgb, ⟨%fd, Hds⟩, #Hr, Ht₁, Ht₂⟩, ⟨%W, HO⟩, HK⟩
  ihave #HI₁ := (known_cell P κ c c (2, up r)) $$ Hk
  ihave #HI₂ := (known_cell P κ c (nxt c r) (3, c)) $$ Hk
  ihave #Hr₁ := (known_open P κ c (2, up r)) $$ Hk
  iapply (Rounds.wp_send_pointsTo 𝒱₀ ER (sched P) (c : Thread nD τ) none (c' := (nxt c r : Thread nD τ)) (src := gbCh c) (dst := gbCh c)
      (sS := .dma (gsS (up r))) (sem := .dma (grS c)) (q := shareTokN fullShare r.val) (fs := gbF P) (fd := fd) (r₁ := 0) (r₂ := 0) (d₁ := c) (d₂ := c)
      (κ₁ := κ (gsC c (up r))) (κ₂ := κ (grC (nxt c r) c))
      (by rw [duties_gs]; exact Finset.mem_singleton_self _) (by rw [duties_gr P (nxt c r) c (nxt_ne c r).symm]; exact Finset.mem_singleton_self _)
      () () N rfl (amount_gs P c (up r) c) (amount_gr P (nxt c r) c c) (O₀ := O + debt (dueGr c) r.val) (O + debt (dueGr c) (r.val + 1))
      (by rw [debt_step (dueGr c) r, add_assoc]; rfl) (Entails.of_eq (pay_gs P c r c).symm)
      (by rw [pay_gr]; exact Entails.of_eq (pointsTo_congr (landed_gb P c fd)))) $$ [Hgb Hds HO Ht₁ Ht₂]
  · isplitr; · iexact HI₁
    isplitr; · iexact HI₂
    isplitl [Hgb]; · iexact Hgb
    isplitl [Hds]; · iexact Hds
    isplitl [HO]; · iexact HO
    isplitl [Ht₁]; · iexact Ht₁
    isplitr; · iexact Hr₁
    isplitl [Ht₂]; · iexact Ht₂
    iexact Hr
  iintro ⟨Hc, HO⟩
  rw [wp_ret]
  imodintro
  iapply HK
  isplitl [Hc]; · iexact Hc
  iexists W
  iexact HO

/-! ## Nothing else is owed above a wait -/

theorem above_gr (g' : GSem nD τ sig) (h3 : lv g' () < 3) (k : ℕ) (g : GSem nD τ sig) (u : Unit) (h : 0 < debt (dueGr c) k g u) : g.1.2 = .tc ∧ lv g' () < lv g u := by
  obtain ⟨h1, h2⟩ := due_gr c k g u h
  exact ⟨h1, by rw [h2]; exact h3⟩

theorem above_prgr (g' : GSem nD τ sig) (h2 : lv g' () < 2) (k k' : ℕ) (g : GSem nD τ sig) (u : Unit) (h : 0 < (debt (dueGr c) k + debt (duePr c) k') g u) :
    g.1.2 = .tc ∧ lv g' () < lv g u := by
  by_cases h0 : 0 < debt (dueGr c) k g u
  · exact above_gr c g' (by omega) k g u h0
  · have h1 : 0 < debt (duePr c) k' g u := by
      have e : (debt (dueGr c) k + debt (duePr c) k') g u = debt (dueGr c) k g u + debt (duePr c) k' g u := rfl
      omega
    obtain ⟨ha, hb⟩ := due_pr c k' g u h1
    exact ⟨ha, by rw [hb]; exact h2⟩

theorem above_none (g' : GSem nD τ sig) (g : GSem nD τ sig) (u : Unit) (h : 0 < (0 : CellTallies nD τ sig Unit) g u) : g.1.2 = .tc ∧ lv g' () < lv g u :=
  absurd h (Nat.lt_irrefl 0)

theorem lv_pr (s : Fin 32) : lv (prC c s) () = 2 := by show lvOf (use (.dma (prS s))) = 2; rw [use_pr]; rfl
theorem lv_ps (s : Fin 32) : lv (psC c s) () = 0 := by show lvOf (use (.dma (psS s))) = 0; rw [use_ps]; rfl
theorem lv_gs (s : Fin 32) : lv (gsC c s) () = 0 := by show lvOf (use (.dma (gsS s))) = 0; rw [use_gs]; rfl

/-- What a wait on a cell takes, and what it leaves beside its payload. -/
abbrev waitIn (g : GSem nD τ sig) : sProp 𝕄 := iprop(cred (tallyAt g () N) ∗ atPos ER g 0 ∅ 0)

theorem step_precv (h6 : pbM.IsWhole) (h7 : rsM.IsWhole) (r : Fin 31) (K : PUnit → sProp 𝕄) :
    iprop(known P κ c ∗ waitIn (prC c (prv c r)) ∗ owesAny c (debt (dueGr c) 0)
        ∗ (((atPos ER (prC c (prv c r)) 1 ∅ 0 ∗ rsPts c (prv c r) (rsF P c)) ∗ owesAny c (debt (dueGr c) 0)) -∗ K ⟨⟩))
      ⊢ wpB c (precv pbM h6 rsM h7 cc0_scratch4 c r) K := by
  obtain ⟨gw, gw', e⟩ := precv_eq (F := F) c r h6 h7
  rw [e]
  exact step_wait P κ c (1, prv c r) (prv c r) (duties_pr P c (prv c r) (prv_ne c r)) (amount_pr P c (prv c r) _) _ (pay_pr P c (prv c r) _)
    (debt (dueGr c) 0) (above_gr c _ (by show lv (prC c (prv c r)) () < 3; rw [lv_pr]; decide) 0) _ _ gw gw' (credit_rs _) K

theorem step_psent (h6 : pbM.IsWhole) (h7 : rsM.IsWhole) (r : Fin 31) (K : PUnit → sProp 𝕄) :
    iprop(known P κ c ∗ waitIn (psC c (up r)) ∗ owesAny c (debt (dueGr c) 0)
        ∗ (((atPos ER (psC c (up r)) 1 ∅ 0 ∗ pbPts c (nxt c r) (P c)) ∗ owesAny c (debt (dueGr c) 0)) -∗ K ⟨⟩))
      ⊢ wpB c (psent pbM h6 rsM h7 cc0_scratch3 c r) K := by
  obtain ⟨gw, gw', e⟩ := psent_eq (F := F) c r h6 h7
  rw [e]
  exact step_wait P κ c (0, up r) c (duties_ps P c r) (amount_ps P c (up r) _) _ (pay_ps P c r _)
    (debt (dueGr c) 0) (above_gr c _ (by show lv (psC c (up r)) () < 3; rw [lv_ps]; decide) 0) _ _ gw gw' (credit_pb _) K

theorem step_grecv (h8 : gbM.IsWhole) (r : Fin 31) (K : PUnit → sProp 𝕄) :
    iprop(known P κ c ∗ waitIn (grC c (prv c r)) ∗ owesAny c 0
        ∗ (((atPos ER (grC c (prv c r)) 1 ∅ 0 ∗ gbPts c (prv c r) fullShare (gbF P)) ∗ owesAny c 0) -∗ K ⟨⟩))
      ⊢ wpB c (grecv gbM h8 cc0_scratch6 c r) K := by
  obtain ⟨gw, gw', e⟩ := grecv_eq (F := F) c r h8
  rw [e]
  exact step_wait P κ c (3, prv c r) (prv c r) (duties_gr P c (prv c r) (prv_ne c r)) (amount_gr P c (prv c r) _) _ (pay_gr P c (prv c r) _)
    0 (above_none _) _ _ gw gw' (credit_gb _) K

theorem step_gsent (h8 : gbM.IsWhole) (r : Fin 31) (K : PUnit → sProp 𝕄) :
    iprop(known P κ c ∗ waitIn (gsC c (up r)) ∗ owesAny c 0
        ∗ (((atPos ER (gsC c (up r)) 1 ∅ 0 ∗ gbPts c c (shareTokN fullShare r.val) (gbF P)) ∗ owesAny c 0) -∗ K ⟨⟩))
      ⊢ wpB c (gsent gbM h8 cc0_scratch5 c r) K := by
  obtain ⟨gw, gw', e⟩ := gsent_eq (F := F) c r h8
  rw [e]
  exact step_wait P κ c (2, up r) c (duties_gs P c r) (amount_gs P c (up r) _) _ (pay_gs P c r _)
    0 (above_none _) _ _ gw gw' (credit_gb _) K

/-! ## The exchanges, whole -/

/-- What is still owed after the barriers are signalled. -/
abbrev Osend : CellTallies nD τ sig Unit := debt (dueGr c) 0 + debt (duePr c) 0

theorem all_signal (K : PUnit → sProp 𝕄) :
    iprop(known P κ c ∗ bigSep Finset.univ (sigIn (F := F) c) ∗ owesAny c (O₀ c) ∗ (owesAny c (Osend c) -∗ K ⟨⟩))
      ⊢ wpB c (each (fun r => signalTo (nxt c r)) steps) K := by
  have h := wp_each c (known P κ c) (sigIn c) (fun _ => iprop(emp)) (fun k => owesAny c (Osend c + debt (dueBar c) k)) (fun r => signalTo (nxt c r))
    (step_signal P κ c (Osend c)) K
  rw [show Osend c + debt (dueBar c) 31 = Osend c by rw [debt_done, add_zero]] at h
  iintro ⟨#Hk, HI, HO, HK⟩
  iapply h
  isplitr; · iexact Hk
  isplitl [HI]; · iexact HI
  isplitl [HO]; · iexact HO
  iintro ⟨-, HO⟩
  iapply HK; iexact HO

theorem all_psend (h6 : pbM.IsWhole) (h7 : rsM.IsWhole) (K : PUnit → sProp 𝕄) :
    iprop(known P κ c ∗ bigSep Finset.univ (psendIn P c) ∗ owesAny c (Osend c)
        ∗ ((bigSep Finset.univ (fun r : Fin 31 => cred (tallyAt (psC c (up r)) () N)) ∗ owesAny c (debt (dueGr c) 0)) -∗ K ⟨⟩))
      ⊢ wpB c (each (fun r => psendTo pbM h6 rsM h7 cc0_scratch3 cc0_scratch4 c r (nxt c r)) steps) K := by
  have h := wp_each c (known P κ c) (psendIn P c) (fun r => cred (tallyAt (psC c (up r)) () N)) (fun k => owesAny c (debt (dueGr c) 0 + debt (duePr c) k))
    (fun r => psendTo pbM h6 rsM h7 cc0_scratch3 cc0_scratch4 c r (nxt c r)) (step_psend P κ c (debt (dueGr c) 0) h6 h7) K
  rw [show debt (dueGr c) 0 + debt (duePr c) 31 = debt (dueGr c) 0 by rw [debt_done, add_zero]] at h
  exact h

theorem all_gsend (h8 : gbM.IsWhole) (K : PUnit → sProp 𝕄) :
    iprop(known P κ c ∗ bigSep Finset.univ (gsendIn P c) ∗ owesAny c (debt (dueGr c) 0)
        ∗ ((bigSep Finset.univ (fun r : Fin 31 => cred (tallyAt (gsC c (up r)) () N)) ∗ owesAny c 0) -∗ K ⟨⟩))
      ⊢ wpB c (each (fun r => gsendTo gbM h8 cc0_scratch5 cc0_scratch6 c r (nxt c r)) steps) K := by
  have h := wp_each c (known P κ c) (gsendIn P c) (fun r => cred (tallyAt (gsC c (up r)) () N)) (fun k => owesAny c (0 + debt (dueGr c) k))
    (fun r => gsendTo gbM h8 cc0_scratch5 cc0_scratch6 c r (nxt c r)) (step_gsend P κ c 0 h8) K
  rw [show (0 : CellTallies nD τ sig Unit) + debt (dueGr c) 31 = 0 by rw [debt_done, add_zero], zero_add] at h
  exact h

theorem all_wait (g : Fin 31 → GSem nD τ sig) (pay : Fin 31 → sProp 𝕄) (O : CellTallies nD τ sig Unit) (f : Fin 31 → PG F PUnit)
    (step : ∀ (r : Fin 31) (K : PUnit → sProp 𝕄), iprop(known P κ c ∗ waitIn (g r) ∗ owesAny c O
        ∗ (((atPos ER (g r) 1 ∅ 0 ∗ pay r) ∗ owesAny c O) -∗ K ⟨⟩)) ⊢ wpB c (f r) K) (K : PUnit → sProp 𝕄) :
    iprop(known P κ c ∗ bigSep Finset.univ (fun r => waitIn (F := F) (g r)) ∗ owesAny c O
        ∗ ((bigSep Finset.univ (fun r => iprop(atPos ER (g r) 1 ∅ 0 ∗ pay r)) ∗ owesAny c O) -∗ K ⟨⟩))
      ⊢ wpB c (each f steps) K :=
  wp_each c (known P κ c) (fun r => waitIn (g r)) (fun r => iprop(atPos ER (g r) 1 ∅ 0 ∗ pay r)) (fun _ => owesAny c O) f step K

/-- The wait for all other devices to have started. -/
theorem bar_wait (K : PUnit → sProp 𝕄) :
    iprop(known P κ c ∗ (cred (tallyAt (barC c) () 31) ∗ atPos ER (barC c) 0 ∅ 0) ∗ owesAny c (Osend c)
        ∗ ((atPos ER (barC c) 1 ∅ 0 ∗ bigSep Finset.univ (fun r : Fin 31 => barPay (F := F) c (nxt c r)) ∗ owesAny c (Osend c)) -∗ K ⟨⟩))
      ⊢ wpB c (semWaitWord (SemArray.scalar (d := ![]) (sig.barrier 0 rfl)).sem 31#32) K := by
  show _ ⊢ wpB c (.op (.semWait barS ((31 : ℕ) : ℤ)) .ret) K
  iintro ⟨#Hk, ⟨Hc, Hat⟩, ⟨%W, HO⟩, HK⟩
  ihave #Hb := (known_bar P κ c c) $$ Hk
  icases Hb with ⟨#HI, -⟩
  iapply (Rounds.wp_wait_rest_token 𝒱₀ ER (sched P) (c : Thread nD τ) none (κ := κ (barC c))
      (wpE_semWait_eq 𝒱₀ (c : Thread nD τ) none Set.univ) (Set.mem_univ _) () (O := Osend c) (W := W) (R := 0) (m := 0) (T := ∅)
      (by rw [expect_bar])) $$ [Hc HO Hat]
  · isplitr; · iexact HI
    isplitl [Hc]; · iexact Hc
    isplitl [HO]; · iexact HO
    isplitr; · iapply (known_may P κ c (.reg barS) (Osend c) (above_prgr c _ (by show (1 : ℕ) < 2; decide) 0 0)); iexact Hk
    iexact Hat
  iintro ⟨HO, Hat, -, Hpay⟩
  ihave Hp := (Entails.of_eq (rest_bar P c)) $$ Hpay
  rw [wp_ret]
  imodintro
  iapply HK
  isplitl [Hat]; · iexact Hat
  isplitl [Hp]; · iexact Hp
  iexists (insert (SemLoc.reg barS, ()) W)
  iexact HO

end Cert.KernelIdeal.Body
-- ==== Proof.Local.lean ====
/-
# The phases between the exchanges

Reading the operands and computing this device's part of the projection; keeping this device's own rows; adding up; handing
the gathered rows out. Each says what the buffers it touches hold afterwards.
-/
module

public import proofs.«01_k».proof.Proof.Sends
public import Idealize.ShloMosaic.Lib.Pipeline.Value

@[expose] public section

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

/-- One head of the keys or of the values, out of the eight. -/
def headF (f : Vec F S2x128x8x64 .bf16) (b : Fin 2) (h : Fin 8) : Vec F S1x128x1x64 .bf16 :=
  fun j => f ((Rect.unit (s := S2x128x8x64) ![b.val, 0, h.val, 0] S1x128x1x64.size (inb_head b h)).emb j)

/-- Device `d0`'s part of the projection, from its operands. -/
def projF (d0 : Dev nD) (fx : Vec F S256x512 .f32) (fw : Vec F S512x256 .f32) (fk fv : Vec F S2x128x8x64 .bf16) (fo : Vec F S256x512 .f32) : Vec F S256x512 .bf16 :=
  let v2 : BitVec 32 := Scalar.remsi (Scalar.divsi (Dev.word d0) 1#32) 32#32
  let v208 : BitVec 1 := Scalar.cmpi .eq (Scalar.remsi v2 2#32) 1#32
  let v132 : FVec F S256x256 .f32 := k0_pay1 fx fw
  let v158 : IVec S128x128 32 := iota .tc S128x128 32 [1] iota_S128x128_d1_w32
  let v186 : IVec S128x128 1 := k0_pay4 k0_pay2 v158
  let v203 : IVec S128x128 32 := k0_pay5 k0_pay2 v158
  let v206 : IVec S128x128 1 := k0_pay6 v186 v203 0#32
  let v209 : FVec F S256x256 .bf16 := k0_pay7 v132
  (k0_pay27 v206 v208
      (k0_pay17 v206 v208 (k0_pay8 v2 v132 v186 v203 0#32 (headF fk 0 4) (headF fk 0 0) (headF fv 0 4) (headF fv 0 0)) (k0_pay10 v206 v208 (k0_pay9 v132) (headF fk 0 5) (headF fk 0 1) (headF fv 0 5) (headF fv 0 1))
        (k0_pay13 v206 v208 (k0_pay11 v209) (k0_pay12 v208 (headF fk 0 6) (headF fk 0 2)) (headF fv 0 6) (headF fv 0 2)) (k0_pay14 v209) (k0_pay15 v208 (headF fk 0 7) (headF fk 0 3)) (k0_pay16 (headF fv 0 7)) (headF fv 0 3))
      (k0_pay20 (k0_pay18 v208 (headF fv 1 4) (headF fv 1 0)) (k0_pay19 v206 v208 v209 (headF fk 1 4) (headF fk 1 0)))
      (k0_pay23 (k0_pay21 v208 (headF fv 1 5) (headF fv 1 1)) (k0_pay22 v206 v208 v209 (headF fk 1 5) (headF fk 1 1)))
      (k0_pay24 v206 v208 v209 (headF fk 1 6) (headF fk 1 2) (headF fv 1 6) (headF fv 1 2)) (k0_pay25 v209) (k0_pay26 (headF fk 1 7)) (headF fk 1 3) (headF fv 1 7) (headF fv 1 3) fo)

variable (c : Dev nD)

/-- Held elements of a memref's buffer. -/
abbrev pts {s : Shape} {e : EltTy} (m : Memref sig .tc .vmem s e) (S : Finset m.view.ty.shape.Idx) (q : PosShare TreeShare) (f : m.view.ty.Contents (Elt F)) : sProp 𝕄 :=
  m.view.loc (c : Thread nD τ) ↦[S]{q} f

theorem load_step {s : Shape} {e : EltTy} (m : Memref sig .tc .vmem s e) (r : Rect s) (hl : m.view.LoadsAt r.toLoadRect) (k : Vec F r.shape e → PG F PUnit)
    (S : Finset m.view.ty.shape.Idx) (q : PosShare TreeShare) (f : m.view.ty.Contents (Elt F)) (hS : (m.access r).set ⊆ S) (K : PUnit → sProp 𝕄) :
    pts c m S q f ⊢ iprop((pts c m S q f -∗ wpB c (k ((m.access r).read (Elt F) f)) K) -∗ wpB c (Prog.lift (.load m r.toLoadRect hl) >>= k) K) :=
  wp_load_rect (Q := K) 𝒱₀ (c : Thread nD τ) none Set.univ (m := m) (r := r) (hl := hl) (k := k) (S := S) (q := q) (f := f) hS

theorem store_step {s : Shape} {e : EltTy} (m : Memref sig .tc .vmem s e) (r : Rect s) (w : Vec F r.shape e) (hx : (m.access r).Stores Finset.univ) (hm)
    (S : Finset m.view.ty.shape.Idx) (f : m.view.ty.Contents (Elt F)) (hS : (m.access r).set ⊆ S) (K : PUnit → sProp 𝕄) :
    pts c m S fullShare f ⊢ iprop((pts c m S fullShare ((m.access r).write (Elt F) f w Finset.univ) -∗ K ⟨⟩)
      -∗ wpB c (Prog.lift (.store m r w Finset.univ hx hm)) K) := by
  iintro H HK
  iapply (wp_store 𝒱₀ (c : Thread nD τ) none Set.univ (m := m) (r := r) (w := w) (Mk := Finset.univ) (hx := hx) (hm := hm) (k := .ret) (S := S) (f := f) hS) $$ H
  iintro H
  rw [wp_ret]
  imodintro
  iapply HK; iexact H

theorem load_all {s : Shape} {e : EltTy} (m : Memref sig .tc .vmem s e) (r : Rect s) (hl : m.view.LoadsAt r.toLoadRect) (k : Vec F r.shape e → PG F PUnit)
    (q : PosShare TreeShare) (f : m.view.ty.Contents (Elt F)) (K : PUnit → sProp 𝕄) :
    pts c m Finset.univ q f ⊢ iprop((pts c m Finset.univ q f -∗ wpB c (k ((m.access r).read (Elt F) f)) K) -∗ wpB c (Prog.lift (.load m r.toLoadRect hl) >>= k) K) :=
  load_step c m r hl k Finset.univ q f (Finset.subset_univ _) K

theorem store_all {s : Shape} {e : EltTy} (m : Memref sig .tc .vmem s e) (r : Rect s) (w : Vec F r.shape e) (hx : (m.access r).Stores Finset.univ) (hm)
    (f : m.view.ty.Contents (Elt F)) (K : PUnit → sProp 𝕄) :
    pts c m Finset.univ fullShare f ⊢ iprop((pts c m Finset.univ fullShare ((m.access r).write (Elt F) f w Finset.univ) -∗ K ⟨⟩)
      -∗ wpB c (Prog.lift (.store m r w Finset.univ hx hm)) K) :=
  store_step c m r w hx hm Finset.univ f (Finset.subset_univ _) K

abbrev xM : Memref sig .tc .vmem S256x512 .f32 := Memref.whole cc0_stg0_0
abbrev wM : Memref sig .tc .vmem S512x256 .f32 := Memref.whole cc0_stg1_0
abbrev kM : Memref sig .tc .vmem S2x128x8x64 .bf16 := Memref.whole cc0_stg2_0
abbrev vM : Memref sig .tc .vmem S2x128x8x64 .bf16 := Memref.whole cc0_stg3_0
abbrev oM : Memref sig .tc .vmem S256x512 .f32 := Memref.whole cc0_stg4_0
abbrev outM : Memref sig .tc .vmem S256x512 .f32 := Memref.whole cc0_stg5_0

theorem zero2 : (![0, 0] : Fin 2 → ℕ) = fun _ => 0 := by decide
theorem zero3 : (![0, 0, 0] : Fin 3 → ℕ) = fun _ => 0 := by decide

theorem all_x (f : Vec F S256x512 .f32) : (xM.access (Rect.unit (s := S256x512) ![0, 0] S256x512.size inb_S256x512_S256x512_0_0)).read (Elt F) f = f :=
  Memref.read_access_unit_zero (Elt F) cc0_stg0_0 zero2 _ f
theorem all_w (f : Vec F S512x256 .f32) : (wM.access (Rect.unit (s := S512x256) ![0, 0] S512x256.size inb_S512x256_S512x256_0_0)).read (Elt F) f = f :=
  Memref.read_access_unit_zero (Elt F) cc0_stg1_0 zero2 _ f
theorem all_o (f : Vec F S256x512 .f32) : (oM.access (Rect.unit (s := S256x512) ![0, 0] S256x512.size inb_S256x512_S256x512_0_0)).read (Elt F) f = f :=
  Memref.read_access_unit_zero (Elt F) cc0_stg4_0 zero2 _ f
theorem all_pb (f w : Vec F S256x512 .bf16) : (pbM.access (Rect.unit (s := S256x512) ![0, 0] S256x512.size inb_S256x512_S256x512_0_0)).write (Elt F) f w Finset.univ = w :=
  Memref.write_access_unit_zero_univ (Elt F) cc0_scratch0 zero2 _ f w
theorem all_rs (f : Vec F S32x8x512 .bf16) : (rsM.access (Rect.unit (s := S32x8x512) ![0, 0, 0] S32x8x512.size inb_S32x8x512_S32x8x512_0_0_0)).read (Elt F) f = f :=
  Memref.read_access_unit_zero (Elt F) cc0_scratch1 zero3 _ f
theorem all_gb (f : Vec F S256x512 .bf16) : (gbM.access (Rect.unit (s := S256x512) ![0, 0] S256x512.size inb_S256x512_S256x512_0_0)).read (Elt F) f = f :=
  Memref.read_access_unit_zero (Elt F) cc0_scratch2 zero2 _ f
theorem all_out (f w : Vec F S256x512 .f32) : (outM.access (Rect.unit (s := S256x512) ![0, 0] S256x512.size inb_S256x512_S256x512_0_0)).write (Elt F) f w Finset.univ = w :=
  Memref.write_access_unit_zero_univ (Elt F) cc0_stg5_0 zero2 _ f w

/-- A buffer held whole, read through a memref that is all of it. -/
abbrev allPts {s : Shape} {e : EltTy} (m : Memref sig .tc .vmem s e) (f : m.view.ty.Contents (Elt F)) : sProp 𝕄 := pts c m Finset.univ fullShare f

theorem compute_wp (harg6 : pbM.IsWhole) (fx : Vec F S256x512 .f32) (fw : Vec F S512x256 .f32) (fk fv : Vec F S2x128x8x64 .bf16) (fo : Vec F S256x512 .f32)
    (K : PUnit → sProp 𝕄) :
    iprop((allPts c xM fx ∗ allPts c wM fw ∗ allPts c kM fk ∗ allPts c vM fv ∗ allPts c oM fo) ∗ (∃ f, allPts (F := F) c pbM f)
        ∗ (((allPts c xM fx ∗ allPts c wM fw ∗ allPts c kM fk ∗ allPts c vM fv ∗ allPts c oM fo) ∗ allPts c pbM (projF c fx fw fk fv fo)) -∗ K ⟨⟩))
      ⊢ wpB c (compute xM wM kM vM oM pbM harg6 c) K := by
  unfold compute
  iintro ⟨⟨Hx, Hw, Hk, Hv, Ho⟩, ⟨%f, Hp⟩, HK⟩
  iapply (load_all c xM _ _ _ fullShare fx K) $$ Hx
  iintro Hx
  iapply (load_all c wM _ _ _ fullShare fw K) $$ Hw
  iintro Hw
  rw [all_x, all_w]
  iterate 8
    iapply (load_all c kM _ _ _ fullShare fk K) $$ Hk
    iintro Hk
    iapply (load_all c kM _ _ _ fullShare fk K) $$ Hk
    iintro Hk
    iapply (load_all c vM _ _ _ fullShare fv K) $$ Hv
    iintro Hv
    iapply (load_all c vM _ _ _ fullShare fv K) $$ Hv
    iintro Hv
  iapply (load_all c oM _ _ _ fullShare fo K) $$ Ho
  iintro Ho
  iapply (load_all c pbM _ _ _ fullShare f K) $$ Hp
  iintro Hp
  rw [all_o]
  iapply (store_all c pbM _ _ _ _ f K) $$ Hp
  iintro Hp
  rw [all_pb]
  iapply HK
  isplitl [Hx Hw Hk Hv Ho]
  · isplitl [Hx]; · iexact Hx
    isplitl [Hw]; · iexact Hw
    isplitl [Hk]; · iexact Hk
    isplitl [Hv]; · iexact Hv
    iexact Ho
  · iexact Hp

/-! ## Keeping this device's own rows -/

variable (P : Dev nD → Vec F S256x512 .bf16)

theorem pay28_apply (v : Vec F S8x512 .bf16) (j : S1x8x512.Idx) : k0_pay28 v j = v (ix2 (j 1 : Fin 8) (j 2 : Fin 512) : S8x512.Idx) := by
  unfold k0_pay28
  rw [shapeCast_self]
  refine shapeCast_apply v _ j _ ?_
  rw [Shape.rowMajor_val_three, Shape.rowMajor_val_two]
  show (j 1).val * 512 + (j 2).val = ((j 0).val * 8 + (j 1).val) * 512 + (j 2).val
  have h : (j 0).val < 1 := (j 0).isLt
  omega

theorem rows_pb : (pbM.access (rowsR c)).set = (pbCh c).view.set := rfl
theorem rows_gb : (gbM.access (rowsR c)).set = (gbCh c).view.set := rfl
theorem rows_rs : (rsM.access (slotR c)).set = (rsSl c).view.set := (View.set_slice_whole _ _).trans (rsSl_set c).symm

theorem slotR_emb (x : S1x8x512.Idx) : (slotR c).emb x = (ix3 (c : Fin 32) (x 1 : Fin 8) (x 2 : Fin 512) : S32x8x512.Idx) := by
  have h : (x 0).val < 1 := (x 0).isLt
  funext a
  match a with
  | ⟨0, _⟩ => exact Fin.ext (by show c.val + 1 * (x 0).val = c.val; omega)
  | ⟨1, _⟩ => exact Fin.ext (by show 0 + 1 * (x 1).val = (x 1).val; omega)
  | ⟨2, _⟩ => exact Fin.ext (by show 0 + 1 * (x 2).val = (x 2).val; omega)

/-- The gathered rows, device by device. -/
theorem gbF_at (x : S8x512.Idx) :
    gbF P (ix2 (⟨8 * c.val + (x 0).val, by have h0 : c.val < 32 := c.isLt; have h : (x 0).val < 8 := (x 0).isLt; omega⟩ : Fin 256) (x 1 : Fin 512) : S256x512.Idx) = redF P c x := by
  have h : (x 0).val < 8 := (x 0).isLt
  unfold gbF
  congr 1
  · exact Fin.ext (by show (8 * c.val + (x 0).val) / 8 = c.val; omega)
  · funext a
    match a with
    | ⟨0, _⟩ => exact Fin.ext (by show (8 * c.val + (x 0).val) % 8 = (x 0).val; omega)
    | ⟨1, _⟩ => rfl

theorem kept (f : Vec F S32x8x512 .bf16) : ∀ i ∈ (rsSl c).view.set,
    (rsM.access (slotR c)).write (Elt F) f (k0_pay28 ((pbM.access (rowsR c)).read (Elt F) (P c))) Finset.univ i = rsF P c i := by
  intro i hi
  rw [← rows_rs] at hi
  obtain ⟨x, -, rfl⟩ := Finset.mem_map.mp hi
  refine (View.write_emb_of_mem (v := rsM.access (slotR c)) (Val := Elt F) f (k0_pay28 ((pbM.access (rowsR c)).read (Elt F) (P c))) (Finset.mem_univ x)).trans ?_
  show k0_pay28 ((pbM.access (rowsR c)).read (Elt F) (P c)) x = rsF P c ((slotR c).emb x)
  rw [slotR_emb, pay28_apply]
  show P c ((pbCh c).view.emb (ix2 (x 1 : Fin 8) (x 2 : Fin 512) : S8x512.Idx)) = _
  rw [pbCh_emb]
  rfl

theorem keepOwn_wp (h6 : pbM.IsWhole) (h7 : rsM.IsWhole) (K : PUnit → sProp 𝕄) :
    iprop(pbPts c c (P c) ∗ (∃ f, rsPts (F := F) c c f) ∗ ((pbPts c c (P c) ∗ rsPts c c (rsF P c)) -∗ K ⟨⟩))
      ⊢ wpB c (keepOwn pbM rsM h7 c) K := by
  unfold keepOwn
  have gen : ∀ (o4 : Fin S256x512.rank → ℕ) (o5 : Fin S32x8x512.rank → ℕ) (e4 : o4 = ![8 * c.val, 0]) (e5 : o5 = ![c.val, 0, 0])
      (i4 : ∀ a, o4 a + S8x512.size a ≤ S256x512.size a) (i5 : ∀ a, o5 a + S1x8x512.size a ≤ S32x8x512.size a)
      (l4 : pbM.view.LoadsAt (Rect.unit (s := S256x512) o4 S8x512.size i4).toLoadRect) (l5 : rsM.view.LoadsAt (Rect.unit (s := S32x8x512) o5 S1x8x512.size i5).toLoadRect)
      (hx : (rsM.access (Rect.unit (s := S32x8x512) o5 S1x8x512.size i5)).Stores Finset.univ) (hm),
      iprop(pbPts c c (P c) ∗ (∃ f, rsPts (F := F) c c f) ∗ ((pbPts c c (P c) ∗ rsPts c c (rsF P c)) -∗ K ⟨⟩))
        ⊢ wpB c (Prog.lift (.load pbM (Rect.unit (s := S256x512) o4 S8x512.size i4).toLoadRect l4) >>= fun v810 : Vec F S8x512 .bf16 =>
            Prog.lift (.load rsM (Rect.unit (s := S32x8x512) o5 S1x8x512.size i5).toLoadRect l5) >>= fun _ : Vec F S1x8x512 .bf16 =>
              Prog.lift (.store rsM (Rect.unit (s := S32x8x512) o5 S1x8x512.size i5) (k0_pay28 v810) Finset.univ hx hm)) K := by
    intro o4 o5 e4 e5 i4 i5 l4 l5 hx hm
    subst e4 e5
    iintro ⟨Hp, ⟨%f, Hr⟩, HK⟩
    iapply (load_step c pbM (rowsR c) _ _ (pbCh c).view.set fullShare (P c) (rows_pb c).subset K) $$ Hp
    iintro Hp
    iapply (load_step c rsM (slotR c) _ _ (rsSl c).view.set fullShare f (rows_rs c).subset K) $$ Hr
    iintro Hr
    iapply (store_step c rsM (slotR c) _ _ _ (rsSl c).view.set f (rows_rs c).subset K) $$ Hr
    iintro Hr
    iapply HK
    isplitl [Hp]; · iexact Hp
    iapply (Entails.of_eq (pointsTo_congr (kept c P f)))
    iexact Hr
  exact gen _ _ (k0_off4_eq c) (k0_off5_eq c) _ _ _ _ _ _

/-! ## Adding up -/

theorem added (f : Vec F S256x512 .bf16) : ∀ i ∈ (gbCh c).view.set,
    (gbM.access (rowsR c)).write (Elt F) f (k0_pay29 (rsF P c)) Finset.univ i = gbF P i := by
  intro i hi
  rw [← rows_gb] at hi
  obtain ⟨x, -, rfl⟩ := Finset.mem_map.mp hi
  refine (View.write_emb_of_mem (v := gbM.access (rowsR c)) (Val := Elt F) f (k0_pay29 (rsF P c)) (Finset.mem_univ x)).trans ?_
  show redF P c x = gbF P ((gbCh c).view.emb x)
  rw [gbCh_emb, gbF_at]

theorem reduce_wp (h8 : gbM.IsWhole) (K : PUnit → sProp 𝕄) :
    iprop(allPts c rsM (rsF P c) ∗ (∃ f, gbPts (F := F) c c fullShare f) ∗ ((allPts c rsM (rsF P c) ∗ gbPts c c fullShare (gbF P)) -∗ K ⟨⟩))
      ⊢ wpB c (reduce rsM gbM h8 c) K := by
  unfold reduce
  have gen : ∀ (o4 : Fin S256x512.rank → ℕ) (e4 : o4 = ![8 * c.val, 0]) (i4 : ∀ a, o4 a + S8x512.size a ≤ S256x512.size a) (l)
      (l4 : gbM.view.LoadsAt (Rect.unit (s := S256x512) o4 S8x512.size i4).toLoadRect)
      (hx : (gbM.access (Rect.unit (s := S256x512) o4 S8x512.size i4)).Stores Finset.univ) (hm),
      iprop(allPts c rsM (rsF P c) ∗ (∃ f, gbPts (F := F) c c fullShare f) ∗ ((allPts c rsM (rsF P c) ∗ gbPts c c fullShare (gbF P)) -∗ K ⟨⟩))
        ⊢ wpB c (Prog.lift (.load rsM (Rect.unit (s := S32x8x512) ![0, 0, 0] S32x8x512.size inb_S32x8x512_S32x8x512_0_0_0).toLoadRect l) >>= fun v : Vec F S32x8x512 .bf16 =>
            Prog.lift (.load gbM (Rect.unit (s := S256x512) o4 S8x512.size i4).toLoadRect l4) >>= fun _ : Vec F S8x512 .bf16 =>
              Prog.lift (.store gbM (Rect.unit (s := S256x512) o4 S8x512.size i4) (k0_pay29 v) Finset.univ hx hm)) K := by
    intro o4 e4 i4 l l4 hx hm
    subst e4
    iintro ⟨Hr, ⟨%f, Hg⟩, HK⟩
    iapply (load_all c rsM _ _ _ fullShare (rsF P c) K) $$ Hr
    iintro Hr
    rw [all_rs]
    iapply (load_step c gbM (rowsR c) _ _ (gbCh c).view.set fullShare f (rows_gb c).subset K) $$ Hg
    iintro Hg
    iapply (store_step c gbM (rowsR c) _ _ _ (gbCh c).view.set f (rows_gb c).subset K) $$ Hg
    iintro Hg
    iapply HK
    isplitl [Hr]; · iexact Hr
    iapply (Entails.of_eq (pointsTo_congr (added c P f)))
    iexact Hg
  exact gen _ (k0_off4_eq c) _ _ _ _ _

/-! ## Handing the gathered rows out -/

theorem finish_wp (q : PosShare TreeShare) (g : Vec F S256x512 .bf16) (K : PUnit → sProp 𝕄) :
    iprop(pts c gbM Finset.univ q g ∗ (∃ f, allPts (F := F) c outM f) ∗ ((pts c gbM Finset.univ q g ∗ allPts c outM (k0_pay30 g)) -∗ K ⟨⟩))
      ⊢ wpB c (finish outM gbM) K := by
  unfold finish
  iintro ⟨Hg, ⟨%f, Ho⟩, HK⟩
  iapply (load_all c gbM _ _ _ q g K) $$ Hg
  iintro Hg
  rw [all_gb]
  iapply (load_all c outM _ _ _ fullShare f K) $$ Ho
  iintro Ho
  iapply (store_all c outM _ _ _ _ f K) $$ Ho
  iintro Ho
  rw [all_out]
  iapply HK
  isplitl [Hg]; · iexact Hg
  iexact Ho

end Cert.KernelIdeal.Body
-- ==== Proof.Whole.lean ====
/-
# The body, whole

From what a device holds when its kernel starts to what it holds when the kernel returns: the phases in order, the buffers split
into their slices and put together again between them.
-/
module

public import proofs.«01_k».proof.Proof.Local

@[expose] public section

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks)

variable {F : FTy → Type} [FloatOps F]

local notation "𝕄" => MT nD τ sig Unit (Elt F) ℕ UU ℕ

variable (P : Dev nD → Vec F S256x512 .bf16) (κ : GSem nD τ sig → ℕ) (c : Dev nD)

/-! ## Buffers and their slices -/

theorem rs_blocks (f : Vec F S32x8x512 .bf16) : allPts c rsM f = bigSep Finset.univ (fun s : Fin 32 => rsPts c s f) :=
  Ring.pointsTo_blocks (ℓ := rsM.view.loc (c : Thread nD τ)) (fun s : Fin 32 => (rsSl s).view.set)
    (fun s t h => by rw [rsSl_set, rsSl_set]; exact slot_disjoint s t h)
    ((Finset.biUnion_congr rfl fun s _ => rsSl_set s).trans slot_cover) f

theorem pb_blocks (f : Vec F S256x512 .bf16) : allPts c pbM f = bigSep Finset.univ (fun t : Fin 32 => pbPts c t f) :=
  Ring.pointsTo_blocks (ℓ := pbM.view.loc (c : Thread nD τ)) (fun t : Fin 32 => (pbCh t).view.set)
    (fun s t h => by rw [pbCh_set, pbCh_set]; exact rows_disjoint s t h)
    ((Finset.biUnion_congr rfl fun s _ => pbCh_set s).trans rows_cover) f

theorem gb_blocks (q : PosShare TreeShare) (f : Vec F S256x512 .bf16) : pts c gbM Finset.univ q f = bigSep Finset.univ (fun t : Fin 32 => gbPts c t q f) :=
  Ring.pointsTo_blocks (ℓ := gbM.view.loc (c : Thread nD τ)) (fun t : Fin 32 => (gbCh t).view.set)
    (fun s t h => by rw [gbCh_set, gbCh_set]; exact rows_disjoint s t h)
    ((Finset.biUnion_congr rfl fun s _ => gbCh_set s).trans rows_cover) f

theorem toks (t : Fin 32) (f : Vec F S256x512 .bf16) :
    gbPts c t fullShare f = iprop(gbPts c t (shareDrop fullShare 31) f ∗ bigSep Finset.univ (fun r : Fin 31 => gbPts c t (shareTokN fullShare r.val) f)) :=
  BI.Entails.antisymm (pointsTo_toks fullShare 31).1 (pointsTo_toks fullShare 31).2

/-! ## Families -/

theorem some_family {I A : Type} (s : Finset I) (Φ : I → A → sProp 𝕄) (a : A) : bigSep s (fun i => Φ i a) ⊢ bigSep s (fun i => iprop(∃ x, Φ i x)) :=
  bigSep_mono fun i _ => by
    show Φ i a ⊢ iprop(∃ x, Φ i x)
    iintro H; iexists a; iexact H

theorem update_family {I : Type} [DecidableEq I] (s : Finset I) (Φ Ψ : I → sProp 𝕄) (h : ∀ i, Φ i ⊢ iprop(|={Set.univ}=> Ψ i)) :
    bigSep s Φ ⊢ (|={Set.univ}=> bigSep s Ψ : sProp 𝕄) := by
  induction s using Finset.induction_on with
  | empty => rw [bigSep_empty, bigSep_empty]; iintro H; imodintro; iexact H
  | insert i s hi ih =>
    rw [bigSep_insert hi, bigSep_insert hi]
    show iprop(Φ i ∗ bigSep s Φ) ⊢ |={Set.univ}=> iprop(Ψ i ∗ bigSep s Ψ)
    iintro ⟨H, Hs⟩
    imod (h i) $$ H with H
    imod ih $$ Hs with Hs
    imodintro
    isplitl [H]; · iexact H
    iexact Hs

/-- A family over the cells of one send array: the steps' and the last. -/
theorem sep_up (Φ : Fin 32 → sProp 𝕄) : bigSep Finset.univ Φ = iprop(Φ 31 ∗ bigSep Finset.univ (fun r : Fin 31 => Φ (up r))) := by
  rw [bigSep_univ_split (31 : Fin 32)]
  have e : Finset.univ.erase (31 : Fin 32) = Finset.univ.map (⟨up, fun a b h => Fin.ext (congrArg (fun x : Fin 32 => x.val) h)⟩ : Fin 31 ↪ Fin 32) := by decide
  rw [e, bigSep_map]; rfl

theorem sep_cells (Ψ : GSem nD τ sig → sProp 𝕄) : bigSep Finset.univ (fun j : J => Ψ (cellJ c j))
    = iprop(bigSep Finset.univ (fun i : Fin 32 => Ψ (psC c i)) ∗ bigSep Finset.univ (fun i : Fin 32 => Ψ (prC c i))
      ∗ bigSep Finset.univ (fun i : Fin 32 => Ψ (gsC c i)) ∗ bigSep Finset.univ (fun i : Fin 32 => Ψ (grC c i))) := by
  rw [bigSep_univ_prod, bigSep_univ_eq_bigSepL [(0 : Fin 4), (1 : Fin 4), (2 : Fin 4), (3 : Fin 4)] (by decide) (by decide)]
  rfl

theorem shuffle (A Ha B Hb C Hc D Hd : sProp 𝕄) :
    iprop((A ∗ Ha) ∗ (B ∗ Hb) ∗ (C ∗ Hc) ∗ (D ∗ Hd)) = iprop((A ∗ B ∗ C ∗ D) ∗ Ha ∗ Hb ∗ Hc ∗ Hd) := by
  have h : iprop((A ∗ Ha) ∗ (B ∗ Hb) ∗ (C ∗ Hc) ∗ (D ∗ Hd)) ⊢ iprop((A ∗ B ∗ C ∗ D) ∗ Ha ∗ Hb ∗ Hc ∗ Hd) := by
    iintro ⟨⟨A, Ha⟩, ⟨B, Hb⟩, ⟨C, Hc⟩, ⟨D, Hd⟩⟩
    isplitl [A B C D]
    · isplitl [A]; · iexact A
      isplitl [B]; · iexact B
      isplitl [C]; · iexact C
      iexact D
    isplitl [Ha]; · iexact Ha
    isplitl [Hb]; · iexact Hb
    isplitl [Hc]; · iexact Hc
    iexact Hd
  have h' : iprop((A ∗ B ∗ C ∗ D) ∗ Ha ∗ Hb ∗ Hc ∗ Hd) ⊢ iprop((A ∗ Ha) ∗ (B ∗ Hb) ∗ (C ∗ Hc) ∗ (D ∗ Hd)) := by
    iintro ⟨⟨A, B, C, D⟩, Ha, Hb, Hc, Hd⟩
    isplitl [A Ha]; · isplitl [A]; · iexact A
                      iexact Ha
    isplitl [B Hb]; · isplitl [B]; · iexact B
                      iexact Hb
    isplitl [C Hc]; · isplitl [C]; · iexact C
                      iexact Hc
    isplitl [D]; · iexact D
    iexact Hd
  exact BI.Entails.antisymm h h'

/-- A family over a device's scoped cells: the four its exchanges do not use, and the ones they do. -/
theorem sep_used (Ψ : GSem nD τ sig → sProp 𝕄) : bigSep Finset.univ (fun j : J => Ψ (cellJ c j))
    = iprop((Ψ (psC c 31) ∗ Ψ (prC c c) ∗ Ψ (gsC c 31) ∗ Ψ (grC c c))
      ∗ bigSep Finset.univ (fun r : Fin 31 => Ψ (psC c (up r))) ∗ bigSep Finset.univ (fun r : Fin 31 => Ψ (prC c (prv c r)))
      ∗ bigSep Finset.univ (fun r : Fin 31 => Ψ (gsC c (up r))) ∗ bigSep Finset.univ (fun r : Fin 31 => Ψ (grC c (prv c r)))) := by
  rw [sep_cells, sep_up (fun i => Ψ (psC c i)), sep_up (fun i => Ψ (gsC c i)), all_prv c (fun i => Ψ (prC c i)), all_prv c (fun i => Ψ (grC c i))]
  exact shuffle _ _ _ _ _ _ _ _

theorem two (s : Finset (Fin 31)) (A B : Fin 31 → sProp 𝕄) : iprop(bigSep s A ∗ bigSep s B) = bigSep s (fun r => iprop(A r ∗ B r)) := (bigSep_sep s A B).symm

/-! ## Closing the cells -/

theorem close1 (g : GSem nD τ sig) (k : ℕ) : iprop(cellInv ER (sched P) k g ∗ atPos ER g 1 ∅ 0) ⊢ (|={Set.univ}=> semVal g 0 : sProp 𝕄) :=
  Rounds.cell_close ER (sched P) (Set.mem_univ k) id (duties_later P g)

theorem close0 (g : GSem nD τ sig) (k : ℕ) (h : (sched P).duties g 0 = ∅) : iprop(cellInv ER (sched P) k g ∗ atPos ER g 0 ∅ 0) ⊢ (|={Set.univ}=> semVal g 0 : sProp 𝕄) :=
  Rounds.cell_close ER (sched P) (Set.mem_univ k) id (fun r _ => by
    by_cases hr : r = 0
    · rw [hr]; exact h
    · exact duties_later P g r (by omega))

theorem idle_ps : (sched P).duties (psC c 31) 0 = ∅ := by rw [duties_tc, use_ps]; rfl
theorem idle_gs : (sched P).duties (gsC c 31) 0 = ∅ := by rw [duties_tc, use_gs]; rfl
theorem idle_pr : (sched P).duties (prC c c) 0 = ∅ := by rw [duties_tc, use_pr]; exact if_pos rfl
theorem idle_gr : (sched P).duties (grC c c) 0 = ∅ := by rw [duties_tc, use_gr]; exact if_pos rfl

theorem shut (j : J) : iprop(known P κ c ∗ atPos ER (cellJ c j) 1 ∅ 0) ⊢ (|={Set.univ}=> semVal (cellJ c j) 0 : sProp 𝕄) := by
  iintro ⟨Hk, Hat⟩
  iapply (close1 P (cellJ c j) (κ (cellJ c j)))
  isplitl [Hk]; · iapply (known_cell P κ c c j); iexact Hk
  iexact Hat

theorem shut0 (j : J) (h : (sched P).duties (cellJ c j) 0 = ∅) : iprop(known P κ c ∗ atPos ER (cellJ c j) 0 ∅ 0) ⊢ (|={Set.univ}=> semVal (cellJ c j) 0 : sProp 𝕄) := by
  iintro ⟨Hk, Hat⟩
  iapply (close0 P (cellJ c j) (κ (cellJ c j)) h)
  isplitl [Hk]; · iapply (known_cell P κ c c j); iexact Hk
  iexact Hat

theorem shut_family (j : Fin 31 → J) : iprop(known P κ c ∗ bigSep Finset.univ (fun r => (atPos ER (cellJ c (j r)) 1 ∅ 0 : sProp 𝕄)))
    ⊢ (|={Set.univ}=> bigSep Finset.univ (fun r => semVal (cellJ c (j r)) 0) : sProp 𝕄) := by
  have h : ∀ s : Finset (Fin 31), iprop(known P κ c ∗ bigSep s (fun r => (atPos ER (cellJ c (j r)) 1 ∅ 0 : sProp 𝕄)))
      ⊢ (|={Set.univ}=> bigSep s (fun r => semVal (cellJ c (j r)) 0) : sProp 𝕄) := by
    intro s
    induction s using Finset.induction_on with
    | empty => rw [bigSep_empty, bigSep_empty]; iintro ⟨-, H⟩; imodintro; iexact H
    | insert i s hi ih =>
      rw [bigSep_insert hi, bigSep_insert hi]
      show iprop(known P κ c ∗ (atPos ER (cellJ c (j i)) 1 ∅ 0 ∗ bigSep s (fun r => (atPos ER (cellJ c (j r)) 1 ∅ 0 : sProp 𝕄))))
        ⊢ |={Set.univ}=> iprop(semVal (cellJ c (j i)) 0 ∗ bigSep s (fun r => semVal (cellJ c (j r)) 0))
      iintro ⟨#Hk, H, Hs⟩
      imod (shut P κ c (j i)) $$ [H] with H
      · isplitr; · iexact Hk
        iexact H
      imod ih $$ [Hs] with Hs
      · isplitr; · iexact Hk
        iexact Hs
      imodintro
      isplitl [H]; · iexact H
      iexact Hs
  exact h Finset.univ

theorem shut_all :
    iprop(known P κ c
        ∗ (atPos ER (psC c 31) 0 ∅ 0 ∗ atPos ER (prC c c) 0 ∅ 0 ∗ atPos ER (gsC c 31) 0 ∅ 0 ∗ atPos ER (grC c c) 0 ∅ 0)
        ∗ bigSep Finset.univ (fun r : Fin 31 => (atPos ER (psC c (up r)) 1 ∅ 0 : sProp 𝕄)) ∗ bigSep Finset.univ (fun r : Fin 31 => (atPos ER (prC c (prv c r)) 1 ∅ 0 : sProp 𝕄))
        ∗ bigSep Finset.univ (fun r : Fin 31 => (atPos ER (gsC c (up r)) 1 ∅ 0 : sProp 𝕄)) ∗ bigSep Finset.univ (fun r : Fin 31 => (atPos ER (grC c (prv c r)) 1 ∅ 0 : sProp 𝕄)))
      ⊢ (|={Set.univ}=> bigSep Finset.univ (fun j : J => semVal (cellJ c j) 0) : sProp 𝕄) := by
  rw [sep_used c (fun g => semVal g 0)]
  iintro ⟨#Hk, ⟨A, B, C, D⟩, Ha, Hb, Hc, Hd⟩
  imod (shut0 P κ c (0, 31) (idle_ps P c)) $$ [A] with A
  · isplitr; · iexact Hk
    iexact A
  imod (shut0 P κ c (1, c) (idle_pr P c)) $$ [B] with B
  · isplitr; · iexact Hk
    iexact B
  imod (shut0 P κ c (2, 31) (idle_gs P c)) $$ [C] with C
  · isplitr; · iexact Hk
    iexact C
  imod (shut0 P κ c (3, c) (idle_gr P c)) $$ [D] with D
  · isplitr; · iexact Hk
    iexact D
  imod (shut_family P κ c (fun r => (0, up r))) $$ [Ha] with Ha
  · isplitr; · iexact Hk
    iexact Ha
  imod (shut_family P κ c (fun r => (1, prv c r))) $$ [Hb] with Hb
  · isplitr; · iexact Hk
    iexact Hb
  imod (shut_family P κ c (fun r => (2, up r))) $$ [Hc] with Hc
  · isplitr; · iexact Hk
    iexact Hc
  imod (shut_family P κ c (fun r => (3, prv c r))) $$ [Hd] with Hd
  · isplitr; · iexact Hk
    iexact Hd
  imodintro
  isplitl [A B C D]
  · isplitl [A]; · iexact A
    isplitl [B]; · iexact B
    isplitl [C]; · iexact C
    iexact D
  isplitl [Ha]; · iexact Ha
  isplitl [Hb]; · iexact Hb
  isplitl [Hc]; · iexact Hc
  iexact Hd

/-! ## What the phases hand on -/

/-- Before the signals: every slot of another device's is lent to it, a device's own two kept. -/
theorem lend :
    iprop((∃ f, allPts (F := F) c rsM f) ∗ (∃ f, allPts (F := F) c gbM f) ∗ bigSep Finset.univ (fun r : Fin 31 => dutyTok ER (barC (nxt c r)) 0 c))
      ⊢ iprop((∃ f, rsPts (F := F) c c f) ∗ (∃ f, gbPts (F := F) c c fullShare f) ∗ bigSep Finset.univ (sigIn (F := F) c)) := by
  iintro ⟨⟨%f, Hf⟩, ⟨%g, Hg⟩, Ht⟩
  ihave Hf := (Entails.of_eq ((rs_blocks c f).trans (all_nxt c (fun s => rsPts c s f)))) $$ Hf
  ihave Hg := (Entails.of_eq ((gb_blocks c fullShare g).trans (all_nxt c (fun t => gbPts c t fullShare g)))) $$ Hg
  icases Hf with ⟨Hf, Hfs⟩
  icases Hg with ⟨Hg, Hgs⟩
  isplitl [Hf]; · iexists f; iexact Hf
  isplitl [Hg]; · iexists g; iexact Hg
  ihave Hfs := (some_family Finset.univ (fun (r : Fin 31) f => rsPts (F := F) c (nxt c r) f) f) $$ Hfs
  ihave Hgs := (some_family Finset.univ (fun (r : Fin 31) g => gbPts (F := F) c (nxt c r) fullShare g) g) $$ Hgs
  iapply (show iprop(bigSep Finset.univ (fun r : Fin 31 => dutyTok ER (barC (nxt c r)) 0 c) ∗ bigSep Finset.univ (fun r : Fin 31 => iprop(∃ f, rsPts (F := F) c (nxt c r) f))
      ∗ bigSep Finset.univ (fun r : Fin 31 => iprop(∃ g, gbPts (F := F) c (nxt c r) fullShare g))) ⊢ bigSep Finset.univ (sigIn (F := F) c) by
    unfold sigIn; rw [← two, ← two])
  isplitl [Ht]; · iexact Ht
  isplitl [Hfs]; · iexact Hfs
  iexact Hgs

/-- After the barrier: what the first exchange's sends need, and what is kept for the second's. -/
theorem deal :
    iprop(bigSep Finset.univ (fun r : Fin 31 => pbPts c (nxt c r) (P c)) ∗ bigSep Finset.univ (fun r : Fin 31 => barPay (F := F) c (nxt c r))
        ∗ bigSep Finset.univ (fun r : Fin 31 => dutyTok ER (psC c (up r)) 0 c) ∗ bigSep Finset.univ (fun r : Fin 31 => dutyTok ER (prC (nxt c r) c) 0 c))
      ⊢ iprop(bigSep Finset.univ (psendIn P c) ∗ bigSep Finset.univ (fun r : Fin 31 => iprop(∃ f, gbPts (F := F) (nxt c r) c fullShare f))
        ∗ bigSep Finset.univ (fun r : Fin 31 => (reached ER (grC (nxt c r) c) 0 : sProp 𝕄))) := by
  unfold barPay psendIn
  rw [← two, ← two, ← two, ← two, ← two, ← two, ← two]
  iintro ⟨Hp, ⟨Hr, Hg, Hx, Hy⟩, Ha, Hb⟩
  isplitl [Hp Hr Hx Ha Hb]
  · isplitl [Hp]; · iexact Hp
    isplitl [Hr]; · iexact Hr
    isplitl [Hx]; · iexact Hx
    isplitl [Ha]; · iexact Ha
    iexact Hb
  isplitl [Hg]; · iexact Hg
  iexact Hy

theorem waits (g : Fin 31 → GSem nD τ sig) :
    iprop(bigSep Finset.univ (fun r : Fin 31 => cred (tallyAt (g r) () N)) ∗ bigSep Finset.univ (fun r : Fin 31 => (atPos ER (g r) 0 ∅ 0 : sProp 𝕄)))
      ⊢ bigSep Finset.univ (fun r : Fin 31 => waitIn (F := F) (g r)) := by
  unfold waitIn
  rw [← two]

theorem deal_second :
    iprop(gbPts c c fullShare (gbF P) ∗ bigSep Finset.univ (fun r : Fin 31 => iprop(∃ f, gbPts (F := F) (nxt c r) c fullShare f))
        ∗ bigSep Finset.univ (fun r : Fin 31 => (reached ER (grC (nxt c r) c) 0 : sProp 𝕄))
        ∗ bigSep Finset.univ (fun r : Fin 31 => dutyTok ER (gsC c (up r)) 0 c) ∗ bigSep Finset.univ (fun r : Fin 31 => dutyTok ER (grC (nxt c r) c) 0 c))
      ⊢ iprop(gbPts c c (shareDrop fullShare 31) (gbF P) ∗ bigSep Finset.univ (gsendIn P c)) := by
  unfold gsendIn
  rw [toks, ← two, ← two, ← two, ← two]
  iintro ⟨⟨Hd, Hk⟩, Hg, Hx, Ha, Hb⟩
  isplitl [Hd]; · iexact Hd
  isplitl [Hk]; · iexact Hk
  isplitl [Hg]; · iexact Hg
  isplitl [Hx]; · iexact Hx
  isplitl [Ha]; · iexact Ha
  iexact Hb

/-- The received chunks, each split as a device's own is. -/
theorem recv_toks (f : Vec F S256x512 .bf16) :
    bigSep Finset.univ (fun r : Fin 31 => gbPts c (prv c r) fullShare f)
      = iprop(bigSep Finset.univ (fun r : Fin 31 => gbPts c (prv c r) (shareDrop fullShare 31) f)
        ∗ bigSep Finset.univ (fun r : Fin 31 => bigSep Finset.univ (fun i : Fin 31 => gbPts c (prv c r) (shareTokN fullShare i.val) f))) := by
  rw [two]; exact bigSep_congr fun r _ => toks c (prv c r) f

theorem gather (q : PosShare TreeShare) (f : Vec F S256x512 .bf16) :
    iprop(gbPts c c q f ∗ bigSep Finset.univ (fun r : Fin 31 => gbPts c (prv c r) q f)) = pts c gbM Finset.univ q f := by
  rw [gb_blocks, all_prv c]

theorem gather_rs (f : Vec F S32x8x512 .bf16) :
    iprop(rsPts c c f ∗ bigSep Finset.univ (fun r : Fin 31 => rsPts c (prv c r) f)) = allPts c rsM f := by
  rw [rs_blocks, all_prv c]

theorem gather_pb (f : Vec F S256x512 .bf16) :
    iprop(pbPts c c f ∗ bigSep Finset.univ (fun r : Fin 31 => pbPts c (nxt c r) f)) = allPts c pbM f := by
  rw [pb_blocks, all_nxt c]

/-! ## The body -/

/-- A device's part of the protocol when its kernel starts: the rights to pay, its positions, and what it is to be paid. -/
def talkIn : sProp 𝕄 :=
  iprop((bigSep Finset.univ (fun r : Fin 31 => dutyTok ER (barC (nxt c r)) 0 c)
      ∗ bigSep Finset.univ (fun r : Fin 31 => dutyTok ER (psC c (up r)) 0 c) ∗ bigSep Finset.univ (fun r : Fin 31 => dutyTok ER (prC (nxt c r) c) 0 c)
      ∗ bigSep Finset.univ (fun r : Fin 31 => dutyTok ER (gsC c (up r)) 0 c) ∗ bigSep Finset.univ (fun r : Fin 31 => dutyTok ER (grC (nxt c r) c) 0 c))
    ∗ (atPos ER (barC c) 0 ∅ 0 ∗ bigSep Finset.univ (fun j : J => (atPos ER (cellJ c j) 0 ∅ 0 : sProp 𝕄)))
    ∗ (cred (tallyAt (barC c) () 31) ∗ bigSep Finset.univ (fun r : Fin 31 => cred (tallyAt (prC c (prv c r)) () N))
      ∗ bigSep Finset.univ (fun r : Fin 31 => cred (tallyAt (grC c (prv c r)) () N))))

/-- The kernel's scratch buffers, at any contents. -/
def scratchAny : sProp 𝕄 := iprop((∃ f, allPts (F := F) c pbM f) ∗ (∃ f, allPts (F := F) c rsM f) ∗ (∃ f, allPts (F := F) c gbM f))

/-- The phases once the device has read its own number. -/
def after (h6 : pbM.IsWhole) (h7 : rsM.IsWhole) (h8 : gbM.IsWhole) : PG F PUnit :=
  each (fun r => signalTo (nxt c r)) steps >>= fun _ =>
  compute xM wM kM vM oM pbM h6 c >>= fun _ =>
  semWaitWord (SemArray.scalar (d := ![]) (sig.barrier 0 rfl)).sem 31#32 >>= fun _ =>
  each (fun r => psendTo pbM h6 rsM h7 cc0_scratch3 cc0_scratch4 c r (nxt c r)) steps >>= fun _ =>
  keepOwn pbM rsM h7 c >>= fun _ =>
  each (precv pbM h6 rsM h7 cc0_scratch4 c) steps >>= fun _ =>
  each (psent pbM h6 rsM h7 cc0_scratch3 c) steps >>= fun _ =>
  reduce rsM gbM h8 c >>= fun _ =>
  each (fun r => gsendTo gbM h8 cc0_scratch5 cc0_scratch6 c r (nxt c r)) steps >>= fun _ =>
  each (grecv gbM h8 cc0_scratch6 c) steps >>= fun _ =>
  finish outM gbM >>= fun _ =>
  each (gsent gbM h8 cc0_scratch5 c) steps

theorem wp_dev (k : Dev nD → PG F PUnit) (K : PUnit → sProp 𝕄) : wpB c (Prog.lift .deviceId >>= k) K = wpB c (k c) K :=
  wp_deviceId 𝒱₀ (c : Thread nD τ) none Set.univ

theorem wp_phases (h6 : pbM.IsWhole) (h7 : rsM.IsWhole) (h8 : gbM.IsWhole) (K : PUnit → sProp 𝕄) :
    wpB c (phases xM wM kM vM oM outM pbM h6 rsM h7 gbM h8 cc0_scratch3 cc0_scratch4 cc0_scratch5 cc0_scratch6) K = wpB c (after c h6 h7 h8) K := by
  unfold phases after
  rw [wp_dev]

theorem phases_wp (h6 : pbM.IsWhole) (h7 : rsM.IsWhole) (h8 : gbM.IsWhole) (fx : Vec F S256x512 .f32) (fw : Vec F S512x256 .f32) (fk fv : Vec F S2x128x8x64 .bf16) (fo : Vec F S256x512 .f32)
    (hP : projF c fx fw fk fv fo = P c) (K : PUnit → sProp 𝕄) :
    iprop(known P κ c ∗ talkIn (F := F) c ∗ owesAny c (O₀ c) ∗ scratchAny (F := F) c
        ∗ (allPts c xM fx ∗ allPts c wM fw ∗ allPts c kM fk ∗ allPts c vM fv ∗ allPts c oM fo) ∗ (∃ f, allPts (F := F) c outM f)
        ∗ (((allPts c xM fx ∗ allPts c wM fw ∗ allPts c kM fk ∗ allPts c vM fv ∗ allPts c oM fo) ∗ allPts c outM (k0_pay30 (gbF P))
            ∗ scratchAny (F := F) c ∗ owesAny c 0 ∗ semVal (barC c) 0 ∗ bigSep Finset.univ (fun j : J => (semVal (cellJ c j) 0 : sProp 𝕄))) -∗ K ⟨⟩))
      ⊢ wpB c (phases xM wM kM vM oM outM pbM h6 rsM h7 gbM h8 cc0_scratch3 cc0_scratch4 cc0_scratch5 cc0_scratch6) K := by
  rw [wp_phases]
  unfold after
  simp only [wpB_bind]
  unfold talkIn scratchAny
  iintro ⟨#Hk, ⟨⟨Htb, Hta, Htr, Htg, Htx⟩, ⟨HatB, Hat⟩, HcB, Hcr, Hcx⟩, HO, ⟨Hpb, Hrs, Hgb⟩, Hin, Hout, HK⟩
  ihave Hat := (Entails.of_eq (sep_used c (fun g => (atPos ER g 0 ∅ 0 : sProp 𝕄)))) $$ Hat
  icases Hat with ⟨Hidle, Hat1, Hat2, Hat3, Hat4⟩
  -- every device told, and lent its slots
  ihave HS := (lend (F := F) c) $$ [Hrs Hgb Htb]
  · isplitl [Hrs]; · iexact Hrs
    isplitl [Hgb]; · iexact Hgb
    iexact Htb
  icases HS with ⟨Hrs, Hgb, HS⟩
  iapply (all_signal P κ c _)
  isplitr; · iexact Hk
  isplitl [HS]; · iexact HS
  isplitl [HO]; · iexact HO
  iintro HO
  -- the partial product
  iapply (compute_wp c h6 fx fw fk fv fo _)
  isplitl [Hin]; · iexact Hin
  isplitl [Hpb]; · iexact Hpb
  iintro ⟨Hin, Hpb⟩
  ihave Hpb := (Entails.of_eq ((congrArg (allPts c pbM) hP).trans (gather_pb c (P c)).symm)) $$ Hpb
  icases Hpb with ⟨Hpb, Hpbs⟩
  -- all devices have started
  iapply (bar_wait P κ c _)
  isplitr; · iexact Hk
  isplitl [HcB HatB]
  · isplitl [HcB]; · iexact HcB
    iexact HatB
  isplitl [HO]; · iexact HO
  iintro ⟨HatB, Hbar, HO⟩
  ihave HS := (deal P c) $$ [Hpbs Hbar Hta Htr]
  · isplitl [Hpbs]; · iexact Hpbs
    isplitl [Hbar]; · iexact Hbar
    isplitl [Hta]; · iexact Hta
    iexact Htr
  icases HS with ⟨HS, Hds, Hrx⟩
  -- the first exchange
  iapply (all_psend P κ c h6 h7 _)
  isplitr; · iexact Hk
  isplitl [HS]; · iexact HS
  isplitl [HO]; · iexact HO
  iintro ⟨Hca, HO⟩
  iapply (keepOwn_wp c P h6 h7 _)
  isplitl [Hpb]; · iexact Hpb
  isplitl [Hrs]; · iexact Hrs
  iintro ⟨Hpb, Hrs⟩
  ihave HW := (waits (F := F) (fun r => prC c (prv c r))) $$ [Hcr Hat2]
  · isplitl [Hcr]; · iexact Hcr
    iexact Hat2
  iapply (all_wait P κ c _ _ _ _ (step_precv P κ c h6 h7) _)
  isplitr; · iexact Hk
  isplitl [HW]; · iexact HW
  isplitl [HO]; · iexact HO
  iintro ⟨HW, HO⟩
  ihave HW := (Entails.of_eq (two Finset.univ _ _).symm) $$ HW
  icases HW with ⟨Hat2, Hrss⟩
  ihave HW := (waits (F := F) (fun r => psC c (up r))) $$ [Hca Hat1]
  · isplitl [Hca]; · iexact Hca
    iexact Hat1
  iapply (all_wait P κ c _ _ _ _ (step_psent P κ c h6 h7) _)
  isplitr; · iexact Hk
  isplitl [HW]; · iexact HW
  isplitl [HO]; · iexact HO
  iintro ⟨HW, HO⟩
  ihave HW := (Entails.of_eq (two Finset.univ _ _).symm) $$ HW
  icases HW with ⟨Hat1, Hpbs⟩
  ihave Hpb := (Entails.of_eq (gather_pb c (P c))) $$ [Hpb Hpbs]
  · isplitl [Hpb]; · iexact Hpb
    iexact Hpbs
  ihave Hrs := (Entails.of_eq (gather_rs c (rsF P c))) $$ [Hrs Hrss]
  · isplitl [Hrs]; · iexact Hrs
    iexact Hrss
  -- the sum of the rows collected
  iapply (reduce_wp c P h8 _)
  isplitl [Hrs]; · iexact Hrs
  isplitl [Hgb]; · iexact Hgb
  iintro ⟨Hrs, Hgb⟩
  -- the second exchange
  ihave HS := (deal_second P c) $$ [Hgb Hds Hrx Htg Htx]
  · isplitl [Hgb]; · iexact Hgb
    isplitl [Hds]; · iexact Hds
    isplitl [Hrx]; · iexact Hrx
    isplitl [Htg]; · iexact Htg
    iexact Htx
  icases HS with ⟨Hgb, HS⟩
  iapply (all_gsend P κ c h8 _)
  isplitr; · iexact Hk
  isplitl [HS]; · iexact HS
  isplitl [HO]; · iexact HO
  iintro ⟨Hcg, HO⟩
  ihave HW := (waits (F := F) (fun r => grC c (prv c r))) $$ [Hcx Hat4]
  · isplitl [Hcx]; · iexact Hcx
    iexact Hat4
  iapply (all_wait P κ c _ _ _ _ (step_grecv P κ c h8) _)
  isplitr; · iexact Hk
  isplitl [HW]; · iexact HW
  isplitl [HO]; · iexact HO
  iintro ⟨HW, HO⟩
  ihave HW := (Entails.of_eq (two Finset.univ _ _).symm) $$ HW
  icases HW with ⟨Hat4, Hgbs⟩
  ihave Hgbs := (Entails.of_eq (recv_toks c (gbF P))) $$ Hgbs
  icases Hgbs with ⟨Hgbs, Hrest⟩
  ihave Hgb := (Entails.of_eq (gather c (shareDrop fullShare 31) (gbF P))) $$ [Hgb Hgbs]
  · isplitl [Hgb]; · iexact Hgb
    iexact Hgbs
  -- the result
  iapply (finish_wp c (shareDrop fullShare 31) (gbF P) _)
  isplitl [Hgb]; · iexact Hgb
  isplitl [Hout]; · iexact Hout
  iintro ⟨Hgb, Hout⟩
  ihave HW := (waits (F := F) (fun r => gsC c (up r))) $$ [Hcg Hat3]
  · isplitl [Hcg]; · iexact Hcg
    iexact Hat3
  iapply (wp_fupd frame _ Set.univ)
  iapply (all_wait P κ c _ _ _ _ (step_gsent P κ c h8) _)
  isplitr; · iexact Hk
  isplitl [HW]; · iexact HW
  isplitl [HO]; · iexact HO
  iintro ⟨HW, HO⟩
  ihave HW := (Entails.of_eq (two Finset.univ _ _).symm) $$ HW
  icases HW with ⟨Hat3, Hkeep⟩
  ihave Hgb := (Entails.of_eq (gather c (shareDrop fullShare 31) (gbF P)).symm) $$ Hgb
  icases Hgb with ⟨Hgb, Hgbs⟩
  ihave Hgb := (Entails.of_eq (toks c c (gbF P)).symm) $$ [Hgb Hkeep]
  · isplitl [Hgb]; · iexact Hgb
    iexact Hkeep
  ihave Hgbs := (Entails.of_eq (recv_toks c (gbF P)).symm) $$ [Hgbs Hrest]
  · isplitl [Hgbs]; · iexact Hgbs
    iexact Hrest
  ihave Hgb := (Entails.of_eq (gather c fullShare (gbF P))) $$ [Hgb Hgbs]
  · isplitl [Hgb]; · iexact Hgb
    iexact Hgbs
  -- the cells closed
  imod (close1 P (barC c) (κ (barC c))) $$ [HatB] with HvB
  · isplitr
    · ihave #Hb := (known_bar P κ c c) $$ Hk
      icases Hb with ⟨#HI, -⟩
      iexact HI
    iexact HatB
  imod (shut_all P κ c) $$ [Hidle Hat1 Hat2 Hat3 Hat4] with Hv
  · isplitr; · iexact Hk
    isplitl [Hidle]; · iexact Hidle
    isplitl [Hat1]; · iexact Hat1
    isplitl [Hat2]; · iexact Hat2
    isplitl [Hat3]; · iexact Hat3
    iexact Hat4
  imodintro
  iapply HK
  isplitl [Hin]; · iexact Hin
  isplitl [Hout]; · iexact Hout
  isplitl [Hpb Hrs Hgb]
  · isplitl [Hpb]; · iexists (P c); iexact Hpb
    isplitl [Hrs]; · iexists (rsF P c); iexact Hrs
    iexists (gbF P); iexact Hgb
  isplitl [HO]; · iexact HO
  isplitl [HvB]; · iexact HvB
  iexact Hv

end Cert.KernelIdeal.Body
-- ==== Proof.Region.lean ====
/-
# The kernel as a region of the program

The proof data of the one kernel region: what its staging buffers hold, what a device keeps beside them, what it owes; and the body
obligation, from the body's run.
-/
module

public import proofs.«01_k».proof.Proof.Whole
public import proofs.«01_k».proof.Proof.Gen.KernelIdeal.Regions
public import proofs.«01_k».proof.Proof.Gen.KernelIdeal.Points
public import Idealize.ShloMosaic.Lib.Pipeline.RegionTalk

@[expose] public section

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)

variable {F : FTy → Type} [FloatOps F]

local notation "𝕄" => MT nD τ sig Unit (Elt F) ℕ UU ℕ

/-! ## A window that stages its whole array -/

variable (t : Fin cfg0.N)

theorem emb0 (i : S256x512.Idx) : ((cfg0.win 0).blk t).view.emb i = i :=
  funext fun a => Fin.ext (show (0 * S256x512.size a + 1 * (i a).val : ℕ) = (i a).val by rw [Nat.zero_mul, Nat.zero_add, Nat.one_mul])
theorem emb1 (i : S512x256.Idx) : ((cfg0.win 1).blk t).view.emb i = i :=
  funext fun a => Fin.ext (show (0 * S512x256.size a + 1 * (i a).val : ℕ) = (i a).val by rw [Nat.zero_mul, Nat.zero_add, Nat.one_mul])
theorem emb2 (i : S2x128x8x64.Idx) : ((cfg0.win 2).blk t).view.emb i = i :=
  funext fun a => Fin.ext (show (0 * S2x128x8x64.size a + 1 * (i a).val : ℕ) = (i a).val by rw [Nat.zero_mul, Nat.zero_add, Nat.one_mul])
theorem emb3 (i : S2x128x8x64.Idx) : ((cfg0.win 3).blk t).view.emb i = i :=
  funext fun a => Fin.ext (show (0 * S2x128x8x64.size a + 1 * (i a).val : ℕ) = (i a).val by rw [Nat.zero_mul, Nat.zero_add, Nat.one_mul])
theorem emb4 (i : S256x512.Idx) : ((cfg0.win 4).blk t).view.emb i = i :=
  funext fun a => Fin.ext (show (0 * S256x512.size a + 1 * (i a).val : ℕ) = (i a).val by rw [Nat.zero_mul, Nat.zero_add, Nat.one_mul])
theorem emb5 (i : S256x512.Idx) : ((cfg0.win 5).blk t).view.emb i = i :=
  funext fun a => Fin.ext (show (0 * S256x512.size a + 1 * (i a).val : ℕ) = (i a).val by rw [Nat.zero_mul, Nat.zero_add, Nat.one_mul])

theorem read0 (f : Vec F S256x512 .f32) : ((cfg0.win 0).blk t).view.read (Elt F) f = f := funext fun i => congrArg f (emb0 t i)
theorem read1 (f : Vec F S512x256 .f32) : ((cfg0.win 1).blk t).view.read (Elt F) f = f := funext fun i => congrArg f (emb1 t i)
theorem read2 (f : Vec F S2x128x8x64 .bf16) : ((cfg0.win 2).blk t).view.read (Elt F) f = f := funext fun i => congrArg f (emb2 t i)
theorem read3 (f : Vec F S2x128x8x64 .bf16) : ((cfg0.win 3).blk t).view.read (Elt F) f = f := funext fun i => congrArg f (emb3 t i)
theorem read4 (f : Vec F S256x512 .f32) : ((cfg0.win 4).blk t).view.read (Elt F) f = f := funext fun i => congrArg f (emb4 t i)

theorem write5 (g f : Vec F S256x512 .f32) : ((cfg0.win 5).blk t).view.write (Elt F) g f Finset.univ = f := funext fun i => by
  have h := View.write_emb_of_mem (Val := Elt F) (v := ((cfg0.win 5).blk t).view) g f (M := Finset.univ) (Finset.mem_univ i)
  rw [emb5] at h
  exact h

/-! ## The data -/

variable (V : Dev nD → Valuation τ sig (Elt F))

/-- Each device's partial product. -/
def part (c : Dev nD) : Vec F S256x512 .bf16 :=
  projF c (V c main_v5) (V c main_arg1) (V c main_v13) (V c main_v21) (V c main_arg4)

/-- What every device's kernel leaves as its result. -/
def result : Vec F S256x512 .f32 := k0_pay30 (gbF (part V))

variable (c : Dev nD)

/-- What a device has for its kernel beside its buffers. -/
def entry : sProp 𝕄 := iprop((∃ κ, known (part V) κ c ∗ talkIn (F := F) c) ∗ scratchAny (F := F) c ∗ ∃ r, prngReg c r)
/-- What it has of that when the kernel is done. -/
def exit : sProp 𝕄 :=
  iprop((semVal (barC c) 0 ∗ bigSep Finset.univ (fun j : J => (semVal (cellJ c j) 0 : sProp 𝕄))) ∗ scratchAny (F := F) c ∗ ∃ r, prngReg c r)

def dat : Dat τ (Elt F) Unit ℕ UU ℕ cfg0 c where
  A w := V c (Proc.devRef .tc (Pipeline.arrRef spec0 w))
  after w := match w with
    | 0 => fun _ => V c main_v5
    | 1 => fun _ => V c main_arg1
    | 2 => fun _ => V c main_v13
    | 3 => fun _ => V c main_v21
    | 4 => fun _ => V c main_arg4
    | 5 => fun _ => result V
  Φ t := if t.val = 0 then entry V c else exit (F := F) c
  q _ := fullShare
  owed t := if t.val = 0 then O₀ c else 0

theorem owed_first : (dat V c).owed t0_0.castSucc = O₀ c := by
  show (if (t0_0.castSucc : Fin (cfg0.N + 1)).val = 0 then O₀ c else 0) = O₀ c; exact if_pos rfl
theorem owed_last : (dat V c).owed (Fin.last _) = 0 := by
  show (if (Fin.last cfg0.N).val = 0 then O₀ c else 0) = 0
  rw [Fin.val_last, if_neg (by rw [show cfg0.N = 1 from N_0]; decide)]
theorem inv_first : (dat V c).Φ t0_0.castSucc = entry V c := by
  show (if (t0_0.castSucc : Fin (cfg0.N + 1)).val = 0 then entry V c else exit (F := F) c) = entry V c; exact if_pos rfl
theorem inv_last : (dat V c).Φ (Fin.last _) = exit c := by
  show (if (Fin.last cfg0.N).val = 0 then entry V c else exit (F := F) c) = exit c
  rw [Fin.val_last, if_neg (by rw [show cfg0.N = 1 from N_0]; decide)]

theorem owed_succ : (dat V c).owed t0_0.succ = 0 := by
  show (if (t0_0.succ : Fin (cfg0.N + 1)).val = 0 then O₀ c else 0) = 0; exact if_neg (Nat.succ_ne_zero _)
theorem inv_succ : (dat V c).Φ t0_0.succ = exit c := by
  show (if (t0_0.succ : Fin (cfg0.N + 1)).val = 0 then entry V c else exit (F := F) c) = exit c; exact if_neg (Nat.succ_ne_zero _)

theorem before0 (d) : (dat V c).before 0 t d = V c main_v5 := by
  unfold Dat.before; rw [if_pos (fetch0_0 t)]; exact read0 (F := F) t _
theorem before1 (d) : (dat V c).before 1 t d = V c main_arg1 := by
  unfold Dat.before; rw [if_pos (fetch0_1 t)]; exact read1 (F := F) t _
theorem before2 (d) : (dat V c).before 2 t d = V c main_v13 := by
  unfold Dat.before; rw [if_pos (fetch0_2 t)]; exact read2 (F := F) t _
theorem before3 (d) : (dat V c).before 3 t d = V c main_v21 := by
  unfold Dat.before; rw [if_pos (fetch0_3 t)]; exact read3 (F := F) t _
theorem before4 (d) : (dat V c).before 4 t d = V c main_arg4 := by
  unfold Dat.before; rw [if_pos (fetch0_4 t)]; exact read4 (F := F) t _

/-! ## The body obligation -/

theorem owesAt_intro (t : Fin (cfg0.N + 1)) (O : CellTallies nD τ sig Unit) (h : (dat V c).owed t = O) :
    (owesAny c O : sProp 𝕄) ⊢ (dat V c).owesAt () t := by
  unfold Dat.owesAt Pipeline.owesWithin Dat.bound; rw [h]
  iintro ⟨%W, HO⟩; iexists W; isplitr; · ipureintro; exact fun _ _ => Or.inl trivial
  iexact HO
theorem owesAt_elim (t : Fin (cfg0.N + 1)) (O : CellTallies nD τ sig Unit) (h : (dat V c).owed t = O) :
    (dat V c).owesAt () t ⊢ (owesAny c O : sProp 𝕄) := by
  unfold Dat.owesAt Pipeline.owesWithin; rw [h]
  iintro ⟨%W, -, HO⟩; iexists W; iexact HO

/-- A staging buffer held. -/
abbrev stg {s : Shape} {e : EltTy} (b : Memref sig .tc .vmem s e) (X : Vec F s e) : sProp 𝕄 := owns (c : Thread nD τ) b fullShare X

theorem stg_x (X : Vec F S256x512 .f32) : (stg c xM X : sProp 𝕄) = allPts c xM X := owns_whole (c : Thread nD τ) cc0_stg0_0 fullShare X
theorem stg_w (X : Vec F S512x256 .f32) : (stg c wM X : sProp 𝕄) = allPts c wM X := owns_whole (c : Thread nD τ) cc0_stg1_0 fullShare X
theorem stg_k (X : Vec F S2x128x8x64 .bf16) : (stg c kM X : sProp 𝕄) = allPts c kM X := owns_whole (c : Thread nD τ) cc0_stg2_0 fullShare X
theorem stg_v (X : Vec F S2x128x8x64 .bf16) : (stg c vM X : sProp 𝕄) = allPts c vM X := owns_whole (c : Thread nD τ) cc0_stg3_0 fullShare X
theorem stg_o (X : Vec F S256x512 .f32) : (stg c oM X : sProp 𝕄) = allPts c oM X := owns_whole (c : Thread nD τ) cc0_stg4_0 fullShare X
theorem stg_out (X : Vec F S256x512 .f32) : (stg c outM X : sProp 𝕄) = allPts c outM X := owns_whole (c : Thread nD τ) cc0_stg5_0 fullShare X

set_option maxRecDepth 30000 in
theorem bodyAt_eq : bodyAt0 (F := F) t0_0
    = phases xM wM kM vM oM outM pbM (Memref.isWhole_whole _) rsM (Memref.isWhole_whole _) gbM (Memref.isWhole_whole _) cc0_scratch3 cc0_scratch4 cc0_scratch5 cc0_scratch6 :=
  body_eq xM (Memref.isWhole_whole _) wM (Memref.isWhole_whole _) kM (Memref.isWhole_whole _) vM (Memref.isWhole_whole _) oM (Memref.isWhole_whole _)
    outM (Memref.isWhole_whole _) pbM _ rsM _ gbM _ _ _ _ _

theorem body_run (K : PUnit → sProp 𝕄) :
    iprop(entry V c ∗ owesAny c (O₀ c)
        ∗ (stg c xM (V c main_v5) ∗ stg c wM (V c main_arg1) ∗ stg c kM (V c main_v13) ∗ stg c vM (V c main_v21) ∗ stg c oM (V c main_arg4))
        ∗ (∃ X, stg c outM X)
        ∗ ((exit c ∗ owesAny c 0
          ∗ (stg c xM (V c main_v5) ∗ stg c wM (V c main_arg1) ∗ stg c kM (V c main_v13) ∗ stg c vM (V c main_v21) ∗ stg c oM (V c main_arg4))
          ∗ stg c outM (result V)) -∗ K ⟨⟩))
      ⊢ wpB c (bodyAt0 t0_0) K := by
  rw [bodyAt_eq]
  unfold entry exit
  simp only [stg_x, stg_w, stg_k, stg_v, stg_o, stg_out]
  iintro ⟨⟨⟨%κ, #Hk, Ht⟩, Hs, Hp⟩, HO, Hin, Hout, HK⟩
  iapply (phases_wp (part V) κ c _ _ _ (V c main_v5) (V c main_arg1) (V c main_v13) (V c main_v21) (V c main_arg4) rfl K)
  isplitr; · iexact Hk
  isplitl [Ht]; · iexact Ht
  isplitl [HO]; · iexact HO
  isplitl [Hs]; · iexact Hs
  isplitl [Hin]; · iexact Hin
  isplitl [Hout]; · iexact Hout
  iintro ⟨Hin, Hout, Hs, HO, HvB, Hv⟩
  iapply HK
  isplitl [HvB Hv Hs Hp]
  · isplitl [HvB Hv]
    · isplitl [HvB]; · iexact HvB
      iexact Hv
    isplitl [Hs]; · iexact Hs
    iexact Hp
  isplitl [HO]; · iexact HO
  isplitl [Hin]; · iexact Hin
  iexact Hout

set_option maxRecDepth 30000 in
theorem body_obligation : BodyObligation (dat V c) defs₀ 𝒱₀ () Set.univ := fun t => by
  obtain rfl := fin_N0 t
  rw [bigSep_W0, bigSep_W0]
  show iprop((dat V c).Φ t0_0.castSucc ∗ (dat V c).owesAt () t0_0.castSucc
      ∗ (∃ d, stg c xM ((dat V c).before 0 t0_0 d)) ∗ (∃ d, stg c wM ((dat V c).before 1 t0_0 d)) ∗ (∃ d, stg c kM ((dat V c).before 2 t0_0 d))
      ∗ (∃ d, stg c vM ((dat V c).before 3 t0_0 d)) ∗ (∃ d, stg c oM ((dat V c).before 4 t0_0 d)) ∗ (∃ d, stg c outM ((dat V c).before 5 t0_0 d)))
    ⊢ wpB c (bodyAt0 t0_0) (fun _ => iprop((dat V c).Φ t0_0.succ ∗ (dat V c).owesAt () t0_0.succ
      ∗ stg c xM (V c main_v5) ∗ stg c wM (V c main_arg1) ∗ stg c kM (V c main_v13) ∗ stg c vM (V c main_v21) ∗ stg c oM (V c main_arg4)
      ∗ stg c outM (result V)))
  rw [inv_first, inv_succ]
  iintro ⟨He, HO, ⟨%d0, Hx⟩, ⟨%d1, Hw⟩, ⟨%d2, Hk⟩, ⟨%d3, Hv⟩, ⟨%d4, Ho⟩, ⟨%d5, Hout⟩⟩
  iapply (body_run V c _)
  isplitl [He]; · iexact He
  isplitl [HO]; · iapply (owesAt_elim V c _ _ (owed_first V c)); iexact HO
  isplitl [Hx Hw Hk Hv Ho]
  · isplitl [Hx]; · iapply (Entails.of_eq (congrArg (stg c xM) (before0 t0_0 V c d0))); iexact Hx
    isplitl [Hw]; · iapply (Entails.of_eq (congrArg (stg c wM) (before1 t0_0 V c d1))); iexact Hw
    isplitl [Hk]; · iapply (Entails.of_eq (congrArg (stg c kM) (before2 t0_0 V c d2))); iexact Hk
    isplitl [Hv]; · iapply (Entails.of_eq (congrArg (stg c vM) (before3 t0_0 V c d3))); iexact Hv
    iapply (Entails.of_eq (congrArg (stg c oM) (before4 t0_0 V c d4))); iexact Ho
  isplitl [Hout]; · iexists _; iexact Hout
  iintro ⟨He, HO, ⟨Hx, Hw, Hk, Hv, Ho⟩, Hout⟩
  isplitl [He]; · iexact He
  isplitl [HO]; · iapply (owesAt_intro V c _ _ (owed_succ V c)); iexact HO
  isplitl [Hx]; · iexact Hx
  isplitl [Hw]; · iexact Hw
  isplitl [Hk]; · iexact Hk
  isplitl [Hv]; · iexact Hv
  isplitl [Ho]; · iexact Ho
  iexact Hout

end Cert.KernelIdeal.Body
-- ==== Proof.Enter.lean ====
/-
# Entering and leaving the region

The region's segment record: a device comes with its launch holdings, opens its own cells, runs the body, and keeps its barrier cell
at zero.
-/
module

public import proofs.«01_k».proof.Proof.Region

@[expose] public section

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)

variable {F : FTy → Type} [FloatOps F]

local notation "𝕄" => MT nD τ sig Unit (Elt F) ℕ UU ℕ

/-! ## The kernel's own semaphores -/

def osem (j : J) : SemLoc sig := .dma (semOf j)

theorem semOf_val : ∀ j : J, (semOf j).val = 6 + 32 * j.1.val + j.2.val := by
  rintro ⟨k, i⟩
  match k with
  | 0 => exact (psS_val i).trans (by show _ = 6 + 32 * 0 + i.val; omega)
  | 1 => exact (prS_val i).trans (by show _ = 6 + 32 * 1 + i.val; omega)
  | 2 => exact (gsS_val i).trans (by show _ = 6 + 32 * 2 + i.val; omega)
  | 3 => exact (grS_val i).trans (by show _ = 6 + 32 * 3 + i.val; omega)

theorem osem_inj : Function.Injective osem := by
  rintro ⟨k, i⟩ ⟨k', i'⟩ h
  have h1 : semOf (k, i) = semOf (k', i') := SemLoc.dma.inj h
  have h2 : 6 + 32 * k.val + i.val = 6 + 32 * k'.val + i'.val := by
    have := congrArg Fin.val h1; rwa [semOf_val, semOf_val] at this
  have := i.isLt; have := i'.isLt
  exact Prod.ext (Fin.ext (show k.val = k'.val by omega)) (Fin.ext (show i.val = i'.val by omega))

theorem stage_low : ∀ (w : Fin 6) (s : Fin (spec0 w).nbuf), ((spec0 w).sem s).val < 6 := by decide

theorem osem_scoped : ∀ j, (osem j).isScoped .tc = true := by decide

theorem ownFacts : Pipeline.OwnSemFacts spec0 osem where
  isScoped := osem_scoped
  inj := osem_inj
  disj j w s h := by
    have h1 : semOf j = (spec0 w).sem s := SemLoc.dma.inj h
    have h2 := congrArg Fin.val h1
    rw [semOf_val] at h2
    have := stage_low w s
    omega

theorem ownSems_eq (c : Dev nD) : (Pipeline.ownSems0 osem c : sProp 𝕄) = bigSep Finset.univ (fun j : J => (semVal (cellJ c j) 0 : sProp 𝕄)) := rfl

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-! ## Opening a device's cells -/

variable (P : Dev nD → Vec F S256x512 .bf16) (κ : GSem nD τ sig → ℕ) (c : Dev nD)

theorem update_with {I : Type} [DecidableEq I] (R : sProp 𝕄) [BI.Persistent R] (s : Finset I) (Φ Ψ : I → sProp 𝕄)
    (h : ∀ i, iprop(R ∗ Φ i) ⊢ iprop(|={Set.univ}=> Ψ i)) : iprop(R ∗ bigSep s Φ) ⊢ (|={Set.univ}=> bigSep s Ψ : sProp 𝕄) := by
  induction s using Finset.induction_on with
  | empty => rw [bigSep_empty, bigSep_empty]; iintro ⟨-, H⟩; imodintro; iexact H
  | insert i s hi ih =>
    rw [bigSep_insert hi, bigSep_insert hi]
    show iprop(R ∗ (Φ i ∗ bigSep s Φ)) ⊢ |={Set.univ}=> iprop(Ψ i ∗ bigSep s Ψ)
    iintro ⟨#HR, H, Hs⟩
    imod (h i) $$ [H] with H
    · isplitr; · iexact HR
      iexact H
    imod ih $$ [Hs] with Hs
    · isplitr; · iexact HR
      iexact Hs
    imodintro
    isplitl [H]; · iexact H
    iexact Hs

theorem open_one (j : J) : iprop(records P κ ∗ (openTok ER (cellJ c j) ∗ semVal (cellJ c j) 0))
    ⊢ (|={Set.univ}=> iprop(atPos ER (cellJ c j) 0 ∅ 0 ∗ reached ER (cellJ c j) 0) : sProp 𝕄) := by
  unfold records
  iintro ⟨⟨-, H, -⟩, Ho, Hv⟩
  ihave H := (pick (fun d : Dev nD => bigSep Finset.univ (fun j : J => cellInv ER (sched P) (κ (cellJ d j)) (cellJ d j))) c) $$ H
  ihave #HI := (pick (fun j : J => cellInv ER (sched P) (κ (cellJ c j)) (cellJ c j)) j) $$ H
  imod (Rounds.cell_open ER (sched P) (g := cellJ c j) (Set.mem_univ (κ (cellJ c j)))) $$ [Ho Hv] with ⟨Ha, Hr⟩
  · isplitr; · iexact HI
    isplitl [Ho]; · iexact Ho
    iexact Hv
  imodintro
  isplitl [Ha]; · iexact Ha
  iexact Hr

/-- What a device pays with, its place at its barrier cell, and its claims. -/
def start : sProp 𝕄 :=
  iprop((bigSep Finset.univ (fun r : Fin 31 => (dutyTok ER (barC (nxt c r)) 0 c : sProp 𝕄))
      ∗ bigSep Finset.univ (fun r : Fin 31 => (dutyTok ER (psC c (up r)) 0 c : sProp 𝕄))
      ∗ bigSep Finset.univ (fun r : Fin 31 => (dutyTok ER (prC (nxt c r) c) 0 c : sProp 𝕄))
      ∗ bigSep Finset.univ (fun r : Fin 31 => (dutyTok ER (gsC c (up r)) 0 c : sProp 𝕄))
      ∗ bigSep Finset.univ (fun r : Fin 31 => (dutyTok ER (grC (nxt c r) c) 0 c : sProp 𝕄)))
    ∗ atPos ER (barC c) 0 ∅ 0
    ∗ (cred (tallyAt (barC c) () 31) ∗ bigSep Finset.univ (fun r : Fin 31 => (cred (tallyAt (prC c (prv c r)) () N) : sProp 𝕄))
      ∗ bigSep Finset.univ (fun r : Fin 31 => (cred (tallyAt (grC c (prv c r)) () N) : sProp 𝕄))))

/-- What the launch leaves with a device for its kernel. -/
def ready : sProp 𝕄 := iprop(∃ κ, records P κ ∗ start (F := F) c ∗ bigSep Finset.univ (fun j : J => (openTok ER (cellJ c j) : sProp 𝕄)))

theorem open_all : iprop(ready P c ∗ Pipeline.ownSems0 osem c ∗ levAts L lv) ⊢ (|={Set.univ}=> iprop(∃ κ, known P κ c ∗ talkIn (F := F) c) : sProp 𝕄) := by
  rw [ownSems_eq]
  unfold ready
  iintro ⟨⟨%κ, #HR, Hs, Ho⟩, Hv, -⟩
  ihave H := (Entails.of_eq (bigSep_sep' Finset.univ (fun j : J => (openTok ER (cellJ c j) : sProp 𝕄)) (fun j : J => (semVal (cellJ c j) 0 : sProp 𝕄))).symm) $$ [Ho Hv]
  · isplitl [Ho]; · iexact Ho
    iexact Hv
  imod (update_with (records P κ) Finset.univ _ _ (open_one P κ c)) $$ [H] with H
  · isplitr; · iexact HR
    iexact H
  ihave H := (Entails.of_eq (bigSep_sep' Finset.univ (fun j : J => (atPos ER (cellJ c j) 0 ∅ 0 : sProp 𝕄)) (fun j : J => (reached ER (cellJ c j) 0 : sProp 𝕄)))) $$ H
  icases H with ⟨Ha, #Hr⟩
  imodintro
  unfold start talkIn known opened
  icases Hs with ⟨Ht, HaB, Hc⟩
  iexists κ
  isplitr
  · isplitr; · iexact HR
    iexact Hr
  isplitl [Ht]; · iexact Ht
  isplitl [HaB Ha]
  · isplitl [HaB]; · iexact HaB
    iexact Ha
  iexact Hc

/-! ## The region's record -/

variable (V : Dev nD → Valuation τ sig (Elt F))

/-- What each device's buffers hold when the region is left. -/
def left (c : Dev nD) : Valuation τ sig (Elt F) := Function.update (V c) main_v22 (result V)

theorem left_out : left V c main_v22 = result V := by unfold left; exact Function.update_self ..
theorem left_of (b : DevRef τ sig) (h : b ≠ main_v22) : left V c b = V c b := by unfold left; exact Function.update_of_ne h ..

theorem arr_in (w : Fin cfg0.W) (h : (cfg0.win w).isOut = false) (k : ℕ) : (dat V c).arrAt w k = V c (Proc.devRef .tc (Pipeline.arrRef spec0 w)) := by
  induction k with
  | zero => rfl
  | succ k ih =>
    unfold Dat.arrAt
    dsimp only
    split
    · rw [if_neg (by unfold Pipeline.Window.flush; rw [h, Bool.false_and]; exact Bool.false_ne_true)]; exact ih
    · exact ih

theorem arr_out : (dat V c).arrAt 5 (0 + 1) = result V := by
  unfold Dat.arrAt
  dsimp only
  rw [dif_pos (show 0 < cfg0.N by rw [show cfg0.N = 1 from N_0]; decide), if_pos (flush0_5 _)]
  exact write5 (F := F) _ _ (result V)

abbrev pdats : (p : Fin 1) → (c : Dev nD) → Dat τ (Elt F) Unit ℕ UU ℕ (Pipeline.pin (pcfgs (F := F)) adm p) c := fun | 0 => dat V

theorem arr_last (w : Fin cfg0.W) : (dat V c).arrAt w cfg0.N = left V c (Proc.devRef .tc (Pipeline.arrRef spec0 w)) := by
  rw [show cfg0.N = 0 + 1 from N_0]
  match w with
  | 0 => rw [arr_in c V 0 rfl, left_of c V _ (by decide)]
  | 1 => rw [arr_in c V 1 rfl, left_of c V _ (by decide)]
  | 2 => rw [arr_in c V 2 rfl, left_of c V _ (by decide)]
  | 3 => rw [arr_in c V 3 rfl, left_of c V _ (by decide)]
  | 4 => rw [arr_in c V 4 rfl, left_of c V _ (by decide)]
  | 5 => rw [arr_out]; exact (left_out c V).symm

/-- The unscoped buffers the kernel's windows do not stage. -/
def restRefs : Finset (DevRef τ sig) := Pipeline.ucRefs τ sig \ Pipeline.arrRefs (τ := τ) spec0

theorem rest_eq : ∀ b ∈ restRefs \ ∅, left V c b = V c b := by
  intro b hb
  rw [Finset.sdiff_empty] at hb
  refine left_of c V b fun h => (Finset.mem_sdiff.mp hb).2 ?_
  subst h
  exact Finset.mem_map.mpr ⟨main_v22, Finset.mem_image.mpr ⟨5, Finset.mem_univ _, rfl⟩, rfl⟩

theorem cut (t : Fin (cfg0.N + 1)) (g : GSem nD τ sig) (i : Unit) (h : 0 < (dat V c).owed t g i) : i ∈ L g ∧ (0 : ℕ) < lv g i := by
  have e : (dat V c).owed t = if t.val = 0 then O₀ c else 0 := rfl
  rw [e] at h
  split at h
  · unfold O₀ at h
    rw [Pi.add_apply, Finsupp.add_apply, Pi.add_apply, Finsupp.add_apply] at h
    rcases Nat.add_pos_iff_pos_or_pos.mp h with h | h
    · rcases Nat.add_pos_iff_pos_or_pos.mp h with h | h
      · obtain ⟨h1, h2⟩ := due_gr c 0 g i h
        exact ⟨by unfold L; rw [if_pos h1]; exact Finset.mem_singleton_self _, by rw [h2]; decide⟩
      · obtain ⟨h1, h2⟩ := due_pr c 0 g i h
        exact ⟨by unfold L; rw [if_pos h1]; exact Finset.mem_singleton_self _, by rw [h2]; decide⟩
    · obtain ⟨h1, h2⟩ := due_bar c 0 g i h
      exact ⟨by unfold L; rw [if_pos h1]; exact Finset.mem_singleton_self _, by rw [h2]; decide⟩
  · exact absurd h (Nat.lt_irrefl 0)

theorem stage_level : ∀ (w : Fin 6) (s : Fin (spec0 w).nbuf), lvOf (use (.dma ((spec0 w).sem s))) ≤ 0 := by decide

theorem hin : iprop(Pipeline.scopedRest (Pipeline.pin (pcfgs (F := F)) adm 0).spec c ∗ (∃ r, prngReg c r)
      ∗ StableHlo.held (c.tc : Thread nD τ) ∅ (V c) ∗ (∃ κ, known (part V) κ c ∗ talkIn (F := F) c))
    ⊢ (pdats V 0 c).Φ 0 := by
  rw [show (pdats V 0 c).Φ 0 = entry V c from inv_first V c,
    show (Pipeline.scopedRest (Ix := Unit) (Name := ℕ) (U := UU) (Lvl := ℕ) (Val := Elt F) (Pipeline.pin (pcfgs (F := F)) adm 0).spec c : sProp 𝕄) = scratchAny c from scopedRest0_eq c]
  unfold entry
  iintro ⟨Hs, Hp, -, Hk⟩
  isplitl [Hk]; · iexact Hk
  isplitl [Hs]; · iexact Hs
  iexact Hp

theorem hout : (pdats V 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (left V c) ∗ Pipeline.ownSems0 osem c ∗ semVal (barC c) 0) := by
  rw [show (pdats V 0 c).Φ (Fin.last _) = exit c from inv_last V c, ownSems_eq,
    show (Pipeline.scopedRest (Ix := Unit) (Name := ℕ) (U := UU) (Lvl := ℕ) (Val := Elt F) (Pipeline.pin (pcfgs (F := F)) adm 0).spec c : sProp 𝕄) = scratchAny c from scopedRest0_eq c]
  unfold exit StableHlo.held
  rw [bigSep_empty]
  iintro ⟨⟨HvB, Hv⟩, Hs, Hp⟩
  isplitl [Hs]; · iexact Hs
  isplitl [Hp]; · iexact Hp
  isplitr; · iempintro
  isplitl [Hv]; · iexact Hv
  iexact HvB

set_option backward.isDefEq.respectTransparency.types false in
def region : RegionSeg (pcfgs (F := F)) adm (pdats V) () defs₀ 𝒱₀ L lv 0 :=
  RegionSeg.ofTalk (pcfgs (F := F)) adm (pdats V) () defs₀ 𝒱₀ L lv 0 osem ownFacts
    ∅ restRefs (Finset.empty_subset _) kit rfl (fun c => (body_obligation V c).loose)
    (fun _ => 0) O₀ (fun c => (owed_first V c).trans (zero_add _).symm) (fun c => owed_last V c) (fun _ => rfl)
    (fun c w => by unfold Dat.share; split <;> rfl)
    V (left V) (fun c => rest_eq c V)
    (fun c => ready (part V) c) (fun c => semVal (barC c) 0) (fun c => iprop(∃ κ, known (part V) κ c ∗ talkIn (F := F) c)) (fun c => semVal (barC c) 0)
    (fun c => open_all (part V) c) (fun c => hin c V) (fun c => hout c V)
    (fun c => by iintro H; imodintro; iexact H)
    (fun _ => 0)
    ⟨fun c w s => by rw [L_tc]; exact Finset.mem_singleton_self _, fun c w s => stage_level w s, fun c t g i h => cut c V t g i h⟩
    (fun _ => iprop(emp))
    (fun c w => rfl) (fun c w => arr_last c V w)

theorem held_split (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) restRefs W) :=
  StableHlo.held_sub_split (c : Thread nD τ) (Pipeline.arrRefs_sub_ucRefs spec0 (by decide)) W

/-- What rides beside the buffers up to the region, -/
def aside (c : Dev nD) : sProp 𝕄 := iprop(ready (part V) c ∗ (∃ r, prngReg c r) ∗ owesAny c (O₀ c))
/-- and after it. -/
def done (c : Dev nD) : sProp 𝕄 := iprop(semVal (barC c) 0 ∗ owesAny (F := F) c 0)

theorem region_pre : iprop(StableHlo.held (c : Thread nD τ) (Pipeline.ucRefs τ sig) (V c) ∗ aside V c) ⊢ (region V).pre c := by
  show iprop(StableHlo.held (c : Thread nD τ) (Pipeline.ucRefs τ sig) (V c) ∗ aside V c)
    ⊢ iprop(StableHlo.held (c.tc : Thread nD τ) (Pipeline.arrRefs (τ := τ) spec0) (V c) ∗ (∃ r, prngReg c r)
      ∗ (StableHlo.held (c.tc : Thread nD τ) restRefs (V c) ∗ emp) ∗ ready (part V) c ∗ ∃ Wd, owes (c : Thread nD τ) (0 + O₀ c) Wd)
  rw [held_split, zero_add]
  unfold aside
  iintro ⟨⟨Ha, Hr⟩, Hk, Hp, HO⟩
  isplitl [Ha]; · iexact Ha
  isplitl [Hp]; · iexact Hp
  isplitl [Hr]
  · isplitl [Hr]; · iexact Hr
    iempintro
  isplitl [Hk]; · iexact Hk
  iexact HO

theorem region_post : (region V).post c ⊢ iprop(StableHlo.held (c : Thread nD τ) (Pipeline.ucRefs τ sig) (left V c) ∗ done c) := by
  show iprop(StableHlo.held (c.tc : Thread nD τ) (Pipeline.arrRefs (τ := τ) spec0) (left V c) ∗ (∃ r, prngReg c r)
      ∗ (StableHlo.held (c.tc : Thread nD τ) restRefs (left V c) ∗ emp) ∗ semVal (barC c) 0 ∗ ∃ Wd, owes (c : Thread nD τ) (0 : CellTallies nD τ sig Unit) Wd)
    ⊢ iprop(StableHlo.held (c : Thread nD τ) (Pipeline.ucRefs τ sig) (left V c) ∗ done c)
  rw [held_split]
  unfold done
  iintro ⟨Ha, -, ⟨Hr, -⟩, Hb, HO⟩
  isplitl [Ha Hr]
  · isplitl [Ha]; · iexact Ha
    iexact Hr
  isplitl [Hb]; · iexact Hb
  iexact HO

end Cert.KernelIdeal.Body
-- ==== Proof.Fund.lean ====
/-
# What the launch deals out

Each device's claims to what it will be sent, the tokens of the payments it will make, and the cells funded: the barrier cells from
their counters, the others to be opened when the kernel starts.
-/
module

public import proofs.«01_k».proof.Proof.Enter

@[expose] public section

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which cell is which -/

theorem dev_of {g g' : GSem nD τ sig} (h : g = g') : g.1.1 = g'.1.1 := congrArg (fun g : GSem nD τ sig => g.1.1) h
theorem use_of {g g' : GSem nD τ sig} (h : g = g') : use g.2 = use g'.2 := congrArg (fun g : GSem nD τ sig => use g.2) h

theorem pr_inj {c c' : Dev nD} {s s' : Fin 32} (h : prC c s = prC c' s') : c = c' ∧ s = s' :=
  ⟨dev_of h, by have := use_of h; rw [show use (prC c s).2 = _ from use_pr s, show use (prC c' s').2 = _ from use_pr s'] at this; exact Use.pr.inj this⟩
theorem gr_inj {c c' : Dev nD} {s s' : Fin 32} (h : grC c s = grC c' s') : c = c' ∧ s = s' :=
  ⟨dev_of h, by have := use_of h; rw [show use (grC c s).2 = _ from use_gr s, show use (grC c' s').2 = _ from use_gr s'] at this; exact Use.gr.inj this⟩

/-! ## Claims -/

theorem debt_none (f : Fin 31 → GSem nD τ sig) (n : ℕ) (g : GSem nD τ sig) (h : ∀ r, g ≠ f r) :
    debt (fun r => tallyAt (f r) () n) 0 g () = 0 := by
  rw [debt_all, Finset.sum_apply, Finsupp.finset_sum_apply]
  exact Finset.sum_eq_zero fun r _ => by rw [tallyAt_ne_cell (h r)]; rfl

theorem debt_one (f : Fin 31 → GSem nD τ sig) (n : ℕ) (hf : Function.Injective f) (r : Fin 31) :
    debt (fun r => tallyAt (f r) () n) 0 (f r) () = n := by
  rw [debt_all, Finset.sum_apply, Finsupp.finset_sum_apply, Finset.sum_eq_single r (fun s _ hs => by rw [tallyAt_ne_cell (fun h => hs (hf h).symm)]; rfl)
    (fun h => absurd (Finset.mem_univ r) h)]
  rw [tallyAt_apply, if_pos ⟨rfl, rfl⟩]

theorem step_to (d c : Dev nD) (h : c ≠ d) : ∃ r, nxt d r = c := by
  have hc : c ∈ Finset.univ.erase d := Finset.mem_erase.mpr ⟨h, Finset.mem_univ _⟩
  rw [others (nxt d) (nxt_inj d) d (nxt_ne d)] at hc
  obtain ⟨r, -, hr⟩ := Finset.mem_map.mp hc
  exact ⟨r, hr⟩

theorem owed_bar (d c : Dev nD) : O₀ d (barC c) () = if d = c then 0 else 1 := by
  unfold O₀
  rw [Pi.add_apply, Finsupp.add_apply, Pi.add_apply, Finsupp.add_apply,
    show debt (dueGr d) 0 (barC c) () = 0 from debt_none (fun r => grC (nxt d r) d) N _ (fun r h => by
      have := use_of h; rw [show use (grC (nxt d r) d).2 = _ from use_gr d] at this; exact absurd this (by show Use.bar ≠ Use.gr d; exact Use.noConfusion)),
    show debt (duePr d) 0 (barC c) () = 0 from debt_none (fun r => prC (nxt d r) d) N _ (fun r h => by
      have := use_of h; rw [show use (prC (nxt d r) d).2 = _ from use_pr d] at this; exact absurd this (by show Use.bar ≠ Use.pr d; exact Use.noConfusion)),
    Nat.add_zero, Nat.zero_add]
  split
  · next h => exact debt_none (fun r => barC (nxt d r)) 1 _ (fun r h' => nxt_ne d r ((dev_of h').symm.trans h.symm))
  · next h =>
    obtain ⟨r, rfl⟩ := step_to d c (Ne.symm h)
    exact debt_one (fun r => barC (nxt d r)) 1 (fun r s h => nxt_inj d (dev_of h)) r

theorem owed_pr (d c s : Dev nD) (hs : s ≠ c) : O₀ d (prC c s) () = if d = s then N else 0 := by
  unfold O₀
  rw [Pi.add_apply, Finsupp.add_apply, Pi.add_apply, Finsupp.add_apply,
    show debt (dueGr d) 0 (prC c s) () = 0 from debt_none (fun r => grC (nxt d r) d) N _ (fun r h => by
      have := use_of h; rw [show use (grC (nxt d r) d).2 = _ from use_gr d, show use (prC c s).2 = _ from use_pr s] at this; exact Use.noConfusion this),
    show debt (dueBar d) 0 (prC c s) () = 0 from debt_none (fun r => barC (nxt d r)) 1 _ (fun r h => by
      have := use_of h; rw [show use (prC c s).2 = _ from use_pr s] at this; exact absurd this (by show Use.pr s ≠ Use.bar; exact Use.noConfusion)),
    Nat.add_zero, Nat.zero_add]
  split
  · next h =>
    subst h
    obtain ⟨r, rfl⟩ := step_to d c (Ne.symm hs)
    exact debt_one (fun r => prC (nxt d r) d) N (fun r s h => nxt_inj d (dev_of h)) r
  · next h => exact debt_none (fun r => prC (nxt d r) d) N _ (fun r h' => h (pr_inj h').2.symm)

theorem owed_gr (d c s : Dev nD) (hs : s ≠ c) : O₀ d (grC c s) () = if d = s then N else 0 := by
  unfold O₀
  rw [Pi.add_apply, Finsupp.add_apply, Pi.add_apply, Finsupp.add_apply,
    show debt (duePr d) 0 (grC c s) () = 0 from debt_none (fun r => prC (nxt d r) d) N _ (fun r h => by
      have := use_of h; rw [show use (prC (nxt d r) d).2 = _ from use_pr d, show use (grC c s).2 = _ from use_gr s] at this; exact Use.noConfusion this),
    show debt (dueBar d) 0 (grC c s) () = 0 from debt_none (fun r => barC (nxt d r)) 1 _ (fun r h => by
      have := use_of h; rw [show use (grC c s).2 = _ from use_gr s] at this; exact absurd this (by show Use.gr s ≠ Use.bar; exact Use.noConfusion)),
    Nat.add_zero]
  split
  · next h =>
    subst h
    obtain ⟨r, rfl⟩ := step_to d c (Ne.symm hs)
    exact debt_one (fun r => grC (nxt d r) d) N (fun r s h => nxt_inj d (dev_of h)) r
  · next h => exact debt_none (fun r => grC (nxt d r) d) N _ (fun r h' => h (gr_inj h').2.symm)

theorem all_but_one : ∀ c : Dev nD, (∑ d : Dev nD, if d = c then 0 else 1) = 31 := by decide

theorem launch_bar (c : Dev nD) : tallyOn (barC c) (launchCredit (Pipeline.owing O₀) 0 (barC c)) = (tallyAt (barC c) () 31 : CellTallies nD τ sig Unit) := by
  unfold tallyAt; refine congrArg _ (Finsupp.ext fun u => ?_); cases u
  rw [Pipeline.launchCredit_owing, Finsupp.single_eq_same, Finset.sum_congr rfl fun d _ => owed_bar d c, all_but_one]

theorem launch_pr (c s : Dev nD) (hs : s ≠ c) : tallyOn (prC c s) (launchCredit (Pipeline.owing O₀) 0 (prC c s)) = (tallyAt (prC c s) () N : CellTallies nD τ sig Unit) := by
  unfold tallyAt; refine congrArg _ (Finsupp.ext fun u => ?_); cases u
  rw [Pipeline.launchCredit_owing, Finsupp.single_eq_same, Finset.sum_congr rfl fun d _ => owed_pr d c s hs, Finset.sum_ite_eq' Finset.univ s fun _ => N,
    if_pos (Finset.mem_univ _)]

theorem launch_gr (c s : Dev nD) (hs : s ≠ c) : tallyOn (grC c s) (launchCredit (Pipeline.owing O₀) 0 (grC c s)) = (tallyAt (grC c s) () N : CellTallies nD τ sig Unit) := by
  unfold tallyAt; refine congrArg _ (Finsupp.ext fun u => ?_); cases u
  rw [Pipeline.launchCredit_owing, Finsupp.single_eq_same, Finset.sum_congr rfl fun d _ => owed_gr d c s hs, Finset.sum_ite_eq' Finset.univ s fun _ => N,
    if_pos (Finset.mem_univ _)]

theorem osem_ne_bar (j : J) : SemLoc.reg barS ≠ osem j := by unfold osem; exact fun h => by cases h

variable (c : Dev nD)

theorem claims : (Pipeline.launchCred O₀ c : sProp 𝕄)
    ⊢ iprop(cred (tallyAt (barC c) () 31) ∗ bigSep Finset.univ (fun r : Fin 31 => (cred (tallyAt (prC c (prv c r)) () N) : sProp 𝕄))
      ∗ bigSep Finset.univ (fun r : Fin 31 => (cred (tallyAt (grC c (prv c r)) () N) : sProp 𝕄))) := by
  unfold Pipeline.launchCred
  have hs : (insert (SemLoc.reg barS) (Finset.univ.map ⟨osem, osem_inj⟩) : Finset (SemLoc sig)) ⊆ Finset.univ := Finset.subset_univ _
  refine (BI.bigSep_subset hs).trans ?_
  rw [bigSep_insert (fun h => by obtain ⟨j, -, h⟩ := Finset.mem_map.mp h; exact osem_ne_bar j h.symm), bigSep_map]
  show iprop(cred (tallyOn (barC c) (launchCredit (Pipeline.owing O₀) 0 (barC c)))
      ∗ bigSep Finset.univ (fun j : J => (cred (tallyOn (cellJ c j) (launchCredit (Pipeline.owing O₀) 0 (cellJ c j))) : sProp 𝕄)))
    ⊢ iprop(cred (tallyAt (barC c) () 31) ∗ bigSep Finset.univ (fun r : Fin 31 => (cred (tallyAt (prC c (prv c r)) () N) : sProp 𝕄))
      ∗ bigSep Finset.univ (fun r : Fin 31 => (cred (tallyAt (grC c (prv c r)) () N) : sProp 𝕄)))
  rw [launch_bar, sep_used c (fun g => (cred (tallyOn g (launchCredit (Pipeline.owing O₀) 0 g)) : sProp 𝕄)),
    bigSep_congr (s := Finset.univ) (fun r _ => congrArg cred (launch_pr c (prv c r) (prv_ne c r))),
    bigSep_congr (s := Finset.univ) (fun r _ => congrArg cred (launch_gr c (prv c r) (prv_ne c r)))]
  iintro ⟨Hb, -, -, Hp, -, Hg⟩
  isplitl [Hb]; · iexact Hb
  isplitl [Hp]; · iexact Hp
  iexact Hg

/-! ## Tokens -/

/-- Where device `c` pays at step `r`, by kind of payment. -/
def payCell (c : Dev nD) (k : Fin 5) (r : Fin 31) : GSem nD τ sig :=
  match k with
  | 0 => barC (nxt c r)
  | 1 => psC c (up r)
  | 2 => prC (nxt c r) c
  | 3 => gsC c (up r)
  | 4 => grC (nxt c r) c

def kindOf : Use → ℕ
  | .bar => 0
  | .ps _ => 1
  | .pr _ => 2
  | .gs _ => 3
  | .gr _ => 4
  | .none => 5

theorem pay_kind (c : Dev nD) (k : Fin 5) (r : Fin 31) : kindOf (use (payCell c k r).2) = k.val := by
  match k with
  | 0 => rfl
  | 1 => show kindOf (use (.dma (psS (up r)))) = 1; rw [use_ps]; rfl
  | 2 => show kindOf (use (.dma (prS c))) = 2; rw [use_pr]; rfl
  | 3 => show kindOf (use (.dma (gsS (up r)))) = 3; rw [use_gs]; rfl
  | 4 => show kindOf (use (.dma (grS c))) = 4; rw [use_gr]; rfl

theorem up_inj : Function.Injective up := fun r s h => Fin.ext (by have := congrArg Fin.val h; unfold up at this; simpa using this)

theorem pay_inj (c : Dev nD) (k : Fin 5) : Function.Injective (payCell c k) := by
  intro r s h
  match k with
  | 0 => exact nxt_inj c (dev_of h)
  | 1 =>
    have h' : use (.dma (psS (up r))) = use (.dma (psS (up s))) := use_of h
    rw [use_ps, use_ps] at h'; exact up_inj (Use.ps.inj h')
  | 2 => exact nxt_inj c (dev_of h)
  | 3 =>
    have h' : use (.dma (gsS (up r))) = use (.dma (gsS (up s))) := use_of h
    rw [use_gs, use_gs] at h'; exact up_inj (Use.gs.inj h')
  | 4 => exact nxt_inj c (dev_of h)

def tokAt (x : Dev nD × Fin 5 × Fin 31) : GSem nD τ sig × ℕ × Dev nD := (payCell x.1 x.2.1 x.2.2, 0, x.1)

theorem tok_inj : Function.Injective tokAt := by
  rintro ⟨c, k, r⟩ ⟨c', k', r'⟩ h
  have hc : c = c' := congrArg (fun t : GSem nD τ sig × ℕ × Dev nD => t.2.2) h
  subst hc
  have hg : payCell c k r = payCell c k' r' := congrArg (fun t : GSem nD τ sig × ℕ × Dev nD => t.1) h
  have hk : k = k' := Fin.ext (by rw [← pay_kind c k r, ← pay_kind c k' r', hg])
  subst hk
  rw [pay_inj c k hg]

def allToks : Finset (GSem nD τ sig × ℕ × Dev nD) := Finset.univ.map ⟨tokAt, tok_inj⟩

theorem toks_eq : bigSep allToks (fun x => (dutyTok ER x.1 x.2.1 x.2.2 : sProp 𝕄)) = bigSep Finset.univ (fun c : Dev nD =>
    iprop(bigSep Finset.univ (fun r : Fin 31 => (dutyTok ER (barC (nxt c r)) 0 c : sProp 𝕄))
      ∗ bigSep Finset.univ (fun r : Fin 31 => (dutyTok ER (psC c (up r)) 0 c : sProp 𝕄))
      ∗ bigSep Finset.univ (fun r : Fin 31 => (dutyTok ER (prC (nxt c r) c) 0 c : sProp 𝕄))
      ∗ bigSep Finset.univ (fun r : Fin 31 => (dutyTok ER (gsC c (up r)) 0 c : sProp 𝕄))
      ∗ bigSep Finset.univ (fun r : Fin 31 => (dutyTok ER (grC (nxt c r) c) 0 c : sProp 𝕄)))) := by
  unfold allToks
  rw [bigSep_map, bigSep_univ_prod]
  refine bigSep_congr fun c _ => ?_
  rw [bigSep_univ_prod, bigSep_univ_eq_bigSepL [(0 : Fin 5), (1 : Fin 5), (2 : Fin 5), (3 : Fin 5), (4 : Fin 5)] (by decide) (by decide)]
  rfl

/-! ## Cells -/

def barCells : Finset (GSem nD τ sig) := Finset.univ.map ⟨fun c : Dev nD => barC c, fun _ _ h => dev_of h⟩
def ownCells : Finset (GSem nD τ sig) := Finset.univ.map ⟨fun x : Dev nD × J => cellJ x.1 x.2, by
  rintro ⟨c, j⟩ ⟨c', j'⟩ h
  exact Prod.ext (dev_of h) (osem_inj (congrArg (fun g : GSem nD τ sig => g.2) h))⟩

theorem disjoint_cells : Disjoint barCells ownCells := by
  rw [Finset.disjoint_left]
  intro g h₁ h₂
  obtain ⟨c, -, rfl⟩ := Finset.mem_map.mp h₁
  obtain ⟨x, -, h⟩ := Finset.mem_map.mp h₂
  exact osem_ne_bar x.2 (congrArg (fun g : GSem nD τ sig => g.2) h).symm

theorem over_bar (Φ : GSem nD τ sig → sProp 𝕄) : bigSep barCells Φ = bigSep Finset.univ (fun c : Dev nD => Φ (barC c)) := by
  unfold barCells; rw [bigSep_map]; rfl
theorem over_own (Φ : GSem nD τ sig → sProp 𝕄) : bigSep ownCells Φ = bigSep Finset.univ (fun c : Dev nD => bigSep Finset.univ (fun j : J => Φ (cellJ c j))) := by
  unfold ownCells; rw [bigSep_map, bigSep_univ_prod]; rfl

end Cert.KernelIdeal.Body
-- ==== Proof.Launch.lean ====
/-
# The run

The launch deals every device what its kernel starts from, the regions' records chain, and the program runs to its end with every
argument as launched, every counter at zero and the result in place.
-/
module

public import proofs.«01_k».proof.Proof.Fund

@[expose] public section

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)

variable {F : FTy → Type} [FloatOps F]

local notation "𝕄" => MT nD τ sig Unit (Elt F) ℕ UU ℕ

/-! ## The launch's ghost state -/

/-- The pipeline's part of it, and the cells'. -/
def fund : UU := (initOf (Pipeline.cells cfgs cellOf_inj) (Pipeline.launchToks cfgs cellOf_inj), launchOf barCells ownCells allToks)

/-- The cells' part is handed over whole, by device 0. -/
def parked (c : Dev nD) : sProp 𝕄 := if c = 0 then BI.own (ER (launchOf barCells ownCells allToks)) else iprop(emp)

theorem parked_eq : bigSep Finset.univ (parked (F := F)) = BI.own (ER (launchOf barCells ownCells allToks)) := by
  have h0 : ∀ c ∈ (Finset.univ : Finset (Dev nD)).erase 0, parked (F := F) c = (BI.emp : sProp 𝕄) := fun c hc => if_neg (Finset.ne_of_mem_erase hc)
  rw [bigSep_univ_at _ (0 : Dev nD), bigSep_congr h0, BI.bigSep_emp_const, show parked (F := F) 0 = BI.own (ER (launchOf barCells ownCells allToks)) from if_pos rfl]
  exact BI.equiv_iff.mp sep_emp

theorem fund_split : (ownU fund : sProp 𝕄)
    ⊢ |={Set.univ}=> iprop(BI.own (EP (initOf (Pipeline.cells cfgs cellOf_inj) (Pipeline.launchToks cfgs cellOf_inj))) ∗ bigSep Finset.univ parked) := by
  rw [parked_eq]
  unfold fund
  iintro H
  ihave H := (ownU_pair _ _) $$ H
  imodintro
  iexact H

theorem counters (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-! ## Dealing it out -/

theorem apart {A B : Dev nD → sProp 𝕄} : bigSep Finset.univ (fun c => iprop(A c ∗ B c)) ⊢ iprop(bigSep Finset.univ A ∗ bigSep Finset.univ B) :=
  Entails.of_eq (bigSep_sep Finset.univ A B)
theorem together {A B : Dev nD → sProp 𝕄} : iprop(bigSep Finset.univ A ∗ bigSep Finset.univ B) ⊢ bigSep Finset.univ (fun c => iprop(A c ∗ B c)) :=
  Entails.of_eq (bigSep_sep Finset.univ A B).symm

variable (P : Dev nD → Vec F S256x512 .bf16) (ρ : Dev nD → PrngReg)

/-- What a device has for its kernel once the cells are funded. -/
def share (c : Dev nD) : sProp 𝕄 := iprop(ready P c ∗ (∃ r, prngReg c r) ∗ owesAny c (O₀ c))

/-- What it has of the launch's own making before. -/
def before (c : Dev nD) : sProp 𝕄 :=
  iprop(unscopedSems0 c ∗ owes (c : Thread nD τ) (O₀ c) ∅ ∗ Pipeline.launchCred O₀ c ∗ prngReg c (ρ c) ∗ parked c)

/-- What is not the cells'. -/
def plain (c : Dev nD) : sProp 𝕄 := iprop(owes (c : Thread nD τ) (O₀ c) ∅ ∗ Pipeline.launchCred O₀ c ∗ prngReg c (ρ c))

def rights (c : Dev nD) : sProp 𝕄 :=
  iprop((bigSep Finset.univ (fun r : Fin 31 => (dutyTok ER (barC (nxt c r)) 0 c : sProp 𝕄))
      ∗ bigSep Finset.univ (fun r : Fin 31 => (dutyTok ER (psC c (up r)) 0 c : sProp 𝕄))
      ∗ bigSep Finset.univ (fun r : Fin 31 => (dutyTok ER (prC (nxt c r) c) 0 c : sProp 𝕄))
      ∗ bigSep Finset.univ (fun r : Fin 31 => (dutyTok ER (gsC c (up r)) 0 c : sProp 𝕄))
      ∗ bigSep Finset.univ (fun r : Fin 31 => (dutyTok ER (grC (nxt c r) c) 0 c : sProp 𝕄)))
    ∗ atPos ER (barC c) 0 ∅ 0 ∗ bigSep Finset.univ (fun j : J => (openTok ER (cellJ c j) : sProp 𝕄)))

theorem share_intro (κ : GSem nD τ sig → ℕ) (c : Dev nD) : iprop(records P κ ∗ (rights c ∗ plain ρ c)) ⊢ share P c := by
  unfold rights plain share ready start
  iintro ⟨#HR, ⟨Ht, Ha, Ho⟩, HO, Hc, Hp⟩
  ihave Hc := (claims (F := F) c) $$ Hc
  isplitl [Ht Ha Ho Hc]
  · iexists κ
    isplitr; · iexact HR
    isplitr [Ho]
    · isplitl [Ht]; · iexact Ht
      isplitl [Ha]; · iexact Ha
      iexact Hc
    iexact Ho
  isplitl [Hp]; · iexists (ρ c); iexact Hp
  iexists ∅; iexact HO

theorem before_split (c : Dev nD) : before ρ c ⊢ iprop(plain ρ c ∗ (semVal (barC c) 0 ∗ parked (F := F) c)) := by
  unfold before plain
  rw [counters]
  iintro ⟨Hv, HO, Hc, Hp, HG⟩
  isplitr [Hv HG]
  · isplitl [HO]; · iexact HO
    isplitl [Hc]; · iexact Hc
    iexact Hp
  isplitl [Hv]; · iexact Hv
  iexact HG

theorem records_intro (κ : GSem nD τ sig → ℕ) :
    iprop(bigSep (barCells ∪ ownCells) (fun g => cellInv ER (sched P) (κ g) g) ∗ bigSep barCells (fun g => reached ER g 0) ∗ levAts L lv)
    ⊢ (records P κ : sProp 𝕄) := by
  rw [bigSep_union disjoint_cells, over_bar, over_bar, over_own]
  unfold records
  rw [bigSep_sep']
  show iprop((bigSep Finset.univ (fun d : Dev nD => cellInv ER (sched P) (κ (barC d)) (barC d))
      ∗ bigSep Finset.univ (fun d : Dev nD => bigSep Finset.univ (fun j : J => cellInv ER (sched P) (κ (cellJ d j)) (cellJ d j))))
      ∗ bigSep Finset.univ (fun d : Dev nD => (reached ER (barC d) 0 : sProp 𝕄)) ∗ levAts L lv)
    ⊢ iprop((bigSep Finset.univ (fun d : Dev nD => cellInv ER (sched P) (κ (barC d)) (barC d)) ∗ bigSep Finset.univ (fun d : Dev nD => (reached ER (barC d) 0 : sProp 𝕄)))
      ∗ bigSep Finset.univ (fun d : Dev nD => bigSep Finset.univ (fun j : J => cellInv ER (sched P) (κ (cellJ d j)) (cellJ d j)))
      ∗ levAts L lv)
  iintro ⟨⟨Hb, Ho⟩, Hr, HL⟩
  isplitl [Hb Hr]
  · isplitl [Hb]; · iexact Hb
    iexact Hr
  isplitl [Ho]; · iexact Ho
  iexact HL

theorem deal_all : iprop(bigSep Finset.univ (before ρ) ∗ levAts L lv) ⊢ (|={Set.univ}=> bigSep Finset.univ (share P) : sProp 𝕄) := by
  show iprop(bigSep Finset.univ (fun c => before ρ c) ∗ levAts L lv) ⊢ (|={Set.univ}=> bigSep Finset.univ (fun c => share P c) : sProp 𝕄)
  iintro ⟨H, #HL⟩
  ihave H := (show bigSep Finset.univ (fun c => before (F := F) ρ c) ⊢ bigSep Finset.univ (fun c => iprop(plain ρ c ∗ (semVal (barC c) 0 ∗ parked (F := F) c)))
    from bigSep_mono fun c _ => before_split ρ c) $$ H
  ihave H := apart $$ H
  icases H with ⟨HB, H⟩
  ihave H := apart $$ H
  icases H with ⟨Hv, HG⟩
  ihave Hu := (Entails.of_eq (parked_eq (F := F))) $$ HG
  ihave Hv := (Entails.of_eq (over_bar (F := F) (fun g => semVal g 0)).symm) $$ Hv
  imod (Rounds.fund_launch ER (sched P) disjoint_cells (fun g _ h => h) allToks) $$ [Hv Hu] with ⟨%κ, -, #Hinv, #Hr, Hat, Hopen, Htok⟩
  · isplitl [Hv]; · iexact Hv
    iexact Hu
  imodintro
  iapply (bigSep_with_persistent (R := records P κ) (Φ := fun c => iprop(rights c ∗ plain ρ c)) fun c _ => share_intro P ρ κ c)
  isplitr
  · iapply (records_intro P κ)
    isplitr; · iexact Hinv
    isplitr; · iexact Hr
    iexact HL
  iapply together
  isplitr [HB]
  · unfold rights
    iapply together
    isplitl [Htok]; · iapply (Entails.of_eq (toks_eq (F := F))) $$ Htok
    iapply together
    isplitl [Hat]; · iapply (Entails.of_eq (over_bar (F := F) (fun g => atPos ER g 0 ∅ 0))) $$ Hat
    iapply (Entails.of_eq (over_own (F := F) (fun g => openTok ER g))) $$ Hopen
  iexact HB

/-! ## The run -/

variable (m : (ℓ : Loc nD τ sig) → Buf (Elt F) ℓ)

/-- What the region leaves in each buffer. -/
def outs : Outs (F := F) := fun _ r c => left (V5 m) c r

theorem after_region (c : Dev nD) : V6 m (outs m) c = left (V5 m) c := by
  show Function.update (V5 m c) main_v22 (left (V5 m) c main_v22) = left (V5 m) c
  rw [left_out]
  rfl

def rest (i : Fin 2) : Dev nD → sProp 𝕄 := match i with
  | 0 => aside (V5 m)
  | 1 => done

abbrev chain (c : Dev nD) : List (Seg (pcfgs (F := F)) adm (pdats (V5 m)) () defs₀ 𝒱₀ L lv) :=
  segs m (outs m) 𝒱₀ L lv (rest m) () (pdats (V5 m)) (region (V5 m)) c

def atStart (V : Dev nD → Valuation τ sig (Elt F)) (c : Dev nD) : sProp 𝕄 :=
  iprop(StableHlo.held (c : Thread nD τ) (Pipeline.ucRefs τ sig) (V0 m c) ∗ aside V c)
def atEnd (c : Dev nD) : sProp 𝕄 := iprop(StableHlo.held (c : Thread nD τ) (Pipeline.ucRefs τ sig) (V7 m (outs m) c) ∗ semVal (barC c) 0)

theorem init (V : Dev nD → Valuation τ sig (Elt F)) : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ parked c)) ∗ levAts L lv)
    ⊢ (|={Set.univ}=> bigSep Finset.univ (atStart m V) : sProp 𝕄) := by
  have hs : (bigSep Finset.univ fun c : Dev nD => iprop(unscopedBufs c (fun b => m ((c.tc : Thread nD τ).loc b)) ∗ before ρ c))
      ⊢ (iprop((bigSep Finset.univ fun c : Dev nD => StableHlo.held (c : Thread nD τ) (Pipeline.ucRefs τ sig) (V0 m c))
        ∗ bigSep Finset.univ fun c : Dev nD => before ρ c) : sProp 𝕄) := by
    rw [← bigSep_sep']
    exact bigSep_mono fun c _ => by rw [← Pipeline.unscopedBufs_held (Ix := Unit) (Name := ℕ) (U := UU) (Lvl := ℕ) c (V0 m c)]; exact BI.Entails.refl _
  show iprop((bigSep Finset.univ fun c : Dev nD => iprop(unscopedBufs c (fun b => m ((c.tc : Thread nD τ).loc b)) ∗ before ρ c)) ∗ levAts L lv)
    ⊢ (|={Set.univ}=> bigSep Finset.univ (fun c : Dev nD => iprop(StableHlo.held (c : Thread nD τ) (Pipeline.ucRefs τ sig) (V0 m c) ∗ share (part V) c)) : sProp 𝕄)
  iintro ⟨H, HL⟩
  ihave H := hs $$ H
  icases H with ⟨Hh, H⟩
  imod (deal_all (part V) ρ) $$ [H HL] with H
  · isplitl [H]; · iexact H
    iexact HL
  imodintro
  iapply together
  isplitl [Hh]; · iexact Hh
  iexact H

theorem fini (c : Dev nD) (s' : Phys nD τ sig (Elt F)) : iprop(atEnd m c ∗ SI s')
    ⊢ (|={Set.univ}=> iprop(⌜(∀ b ∈ Pipeline.ucRefs τ sig, s'.mem.mem (c, b) = V7 m (outs m) c b) ∧ s'.mem.sem (barC c) = 0⌝ ∗ SI s') : sProp 𝕄) := by
  unfold atEnd StableHlo.held
  generalize V7 m (outs m) c = W
  iintro ⟨⟨Hh, Hb⟩, HSI⟩
  icombine HSI Hb gives %hb
  ihave Hr := (pointsTo_read_all (Pipeline.ucRefs τ sig) (fun b => ((c : Thread nD τ).1, b)) W s') $$ [Hh HSI]
  · isplitl [Hh]; · iexact Hh
    iexact HSI
  icases Hr with ⟨%h, HSI⟩
  imodintro
  isplitr
  · ipureintro
    exact ⟨h, by simpa using hb⟩
  · iexact HSI

theorem only_bar : ∀ sm : SemLoc sig, sm.isScoped .tc = false → sm = .reg barS := by decide

set_option backward.isDefEq.respectTransparency.types false in
/-- Every execution ends, every argument is as launched, the result is in place, every counter is zero. -/
theorem run_main : θ_run defs (onTc (τ := τ) (main (F := F))) ⟨m, fun _ => 0, ρ⟩ (fun r =>
    (∀ c : Dev nD, ∀ b ∈ Pipeline.ucRefs τ sig, r.2.mem (c, b) = V7 m (outs m) c b) ∧ r.2.sem = fun _ => 0) :=
  Pipeline.θ_run_regions_kit_dev_sems (pcfgs (F := F)) adm (pdats (V5 m)) () cellOf_inj EP defs₀ 𝒱₀ L lv m ρ main (chain m)
    (fun c Q => by
      rewrite [main_chain c, Seg.run_eq_chain,
        show (chain m c).map Seg.prog = [StableHlo.seq (hostOps0 c), StableHlo.seq hostOps0_1, StableHlo.seq hostOps0_2, StableHlo.seq hostOps0_3,
          StableHlo.seq hostOps0_4, Prog.lift (.customCall (Pipeline.entry 0) ()), StableHlo.seq hostOps1] from rfl]
      dsimp (config := { failIfUnchanged := false }) only
      exact .rfl)
    (fun c => by simp only [chain, segs, Seg.pipes_host, Seg.pipes_region, Seg.pipes_nil]; decide)
    (O₀ := O₀) (hL := L_of_ne) (G := parked) (u₀ := fund) (hu₀ := fund_split)
    (T₀ := atStart m (V5 m)) (Tₙ := atEnd m)
    (hch := fun c => ⟨.rfl, .rfl, .rfl, .rfl, .rfl, region_pre c (V5 m), by
        refine (region_post c (V5 m)).trans ?_
        rw [← after_region m c]
        exact .rfl, by
        show iprop(StableHlo.held (c : Thread nD τ) (Pipeline.ucRefs τ sig) (V7 m (outs m) c) ∗ done c)
          ⊢ iprop(atEnd m c ∗ ∃ W, owes (c.tc : Thread nD τ) (0 : CellTallies nD τ sig Unit) W)
        unfold atEnd done
        generalize V7 m (outs m) c = W
        iintro ⟨Hh, Hb, HO⟩
        isplitr [HO]
        · isplitl [Hh]; · iexact Hh
          iexact Hb
        iexact HO⟩)
    (hinit := init ρ m (V5 m))
    (QY := fun c s => (∀ b ∈ Pipeline.ucRefs τ sig, s.mem (c, b) = V7 m (outs m) c b) ∧ s.sem (barC c) = 0)
    (hfin := fini m)
    (hQ := fun s h hs => ⟨fun c => (h c).1, sem_eq_zero hs fun c sm hsm => by obtain rfl := only_bar sm hsm; exact (h c).2⟩)

end Cert.KernelIdeal.Body
-- ==== Proof.Frames.lean ====
/-
# The frames

What the run says of the arguments, of the result's buffer and of the counters, and the three frame claims.
-/
module

public import proofs.«01_k».proof.Defs
public import proofs.«01_k».proof.Proof.Same
public import proofs.«01_k».proof.Proof.Launch
public import proofs.«01_k».proof.Proof.Gen.ReferenceIdeal.Run

@[expose] public section

noncomputable section

namespace Cert.KernelIdeal.Body

open Cert.KernelIdeal Cert.KernelIdeal.Gen Idealize.ShloMosaic Idealize.ShloMosaic.TcCoe Idealize.SL.Sem

variable {F : FTy → Type} [FloatOps F]

theorem mem_uc (r : Ref sig .tc) (h : ¬ r.isScoped) : Proc.devRef (τ := τ) .tc r ∈ Pipeline.ucRefs τ sig :=
  Finset.mem_filter.mpr ⟨StableHlo.devRef_mem_tcRefs r, h⟩

/-- The run, said of the buffers the claims speak of. -/
theorem run_claims (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v23) = V7 m (outs m) c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨h.1 c _ (mem_uc main_v23 (by decide)),
      (h.1 c _ (mem_uc main_arg0 (by decide))).trans (V7_main_arg0 m (outs m) c),
      (h.1 c _ (mem_uc main_arg1 (by decide))).trans (V7_main_arg1 m (outs m) c),
      (h.1 c _ (mem_uc main_arg2 (by decide))).trans (V7_main_arg2 m (outs m) c),
      (h.1 c _ (mem_uc main_arg3 (by decide))).trans (V7_main_arg3 m (outs m) c),
      (h.1 c _ (mem_uc main_arg4 (by decide))).trans (V7_main_arg4 m (outs m) c)⟩, h.2⟩) (run_main ρ m)

end Cert.KernelIdeal.Body

namespace Cert.Proof

open Idealize.ShloMosaic Idealize.SL.Sem

theorem frame_kernel : Cert.quiescent_Kernel := fun m ρ _ => by
  rw [defs_same, main_same]
  exact (θ_run Cert.KernelIdeal.defs _ _).mono (fun _ h => ⟨fun c => (h.1 c).2, h.2⟩) (Cert.KernelIdeal.Body.run_claims (F := Bits) m ρ)

theorem frame_kernelIdeal : Cert.quiescent_KernelIdeal := fun m ρ _ =>
  (θ_run Cert.KernelIdeal.defs _ _).mono (fun _ h => ⟨fun c => (h.1 c).2, h.2⟩) (Cert.KernelIdeal.Body.run_claims (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Attend.lean ====
/-
# Attention on one device

What one device computes before anything is sent, written as eight attention heads.
-/
module

public import proofs.«01_k».proof.Proof.Local

@[expose] public section

set_option maxRecDepth 65536

noncomputable section

namespace Cert.KernelIdeal.Body

open Cert.KernelIdeal Cert.KernelIdeal.Gen
open Idealize.ShloMosaic Idealize.ShloMosaic.TcCoe Idealize.ShloMosaic.ValueIdx

variable {F : FTy → Type} [FloatOps F]

/-- The positions a query row looks at, as the kernel computes them. -/
def keepV : IVec S128x128 1 :=
  k0_pay6 (k0_pay4 k0_pay2 (iota .tc S128x128 32 [1] iota_S128x128_d1_w32)) (k0_pay5 k0_pay2 (iota .tc S128x128 32 [1] iota_S128x128_d1_w32)) 0#32

/-- Whether a device takes the upper four of the eight heads it is handed. -/
def upper (d : Dev nD) : BitVec 1 :=
  Scalar.cmpi .eq (Scalar.remsi (Scalar.remsi (Scalar.divsi (Dev.word d) 1#32) 32#32) 2#32) 1#32

/-- One of two heads, the first when the device takes the upper four. -/
def pickV (u : BitVec 1) (a b : Vec F S1x128x1x64 .bf16) : FVec F S128x64 .bf16 :=
  Scalar.select u (shapeCast S128x64 a shapeCasts_S1x128x1x64_S128x64) (shapeCast S128x64 b shapeCasts_S1x128x1x64_S128x64)

/-- The masked scores of one head. -/
def scoreV (keep : IVec S128x128 1) (q k : FVec F S128x64 .bf16) : FVec F S128x128 .f32 :=
  select keep (mulf (matmul dot_S128x64_S128x64_S128x128_1_1_0_0_n_n none q k (constant S128x128 .f32 0x00000000#32)) (broadcast S128x128 (Scalar.ofBits .f32 0x3E000000#32)))
    (broadcast S128x128 (Scalar.ofBits .f32 0xCE6E6B28#32))

/-- The exponentials of scores less their row's largest. -/
def expV (s : FVec F S128x128 .f32) : FVec F S128x128 .f32 :=
  exp (subf s (broadcastTo S128x128 (shapeCast S128x1 (multiReduction .maximumf [1] S128 s 0xFF800000#32 reduces_S128x128_S128 (.inl rfl) rfl) shapeCasts_S128_S128x1) broadcasts_S128x1_S128x128))

/-- Each row divided by its sum. -/
def normV (e : FVec F S128x128 .f32) : FVec F S128x128 .f32 :=
  divf e (broadcastTo S128x128 (shapeCast S128x1 (multiReduction .add [1] S128 e 0x00000000#32 reduces_S128x128_S128 (.inl rfl) rfl) shapeCasts_S128_S128x1) broadcasts_S128x1_S128x128)

/-- One head: its weights times its values. -/
def headV (keep : IVec S128x128 1) (q k v : FVec F S128x64 .bf16) : FVec F S128x64 .f32 :=
  matmul dot_S128x128_S128x64_S128x64_1_0_0_1_n_n none (truncf .bf16 (normV (expV (scoreV keep q k))) bitsLt_bf16_f32) v (constant S128x64 .f32 0x00000000#32)

/-- Four heads side by side. -/
def fourV (a b c d : FVec F S128x64 .f32) : FVec F S128x256 .f32 :=
  concatenate S128x256 1 [⟨S128x64, a⟩, ⟨S128x64, b⟩, ⟨S128x64, c⟩, ⟨S128x64, d⟩] concatenates_S128x64_S128x64_S128x64_S128x64_S128x256_d1

/-- Head `h` of a device, for one batch entry: of the eight it is handed, the fourth after `h` or `h`. -/
def headAt (d : Dev nD) (q : FVec F S128x64 .bf16) (fk fv : Vec F S2x128x8x64 .bf16) (b : Fin 2) (h : Fin 4) : FVec F S128x64 .f32 :=
  headV keepV q (pickV (upper d) (headF fk b (h.natAdd 4)) (headF fk b (h.castAdd 4))) (pickV (upper d) (headF fv b (h.natAdd 4)) (headF fv b (h.castAdd 4)))

/-- Both batch entries' heads, one under the other. -/
def ctxV (d : Dev nD) (q : FVec F S256x256 .bf16) (fk fv : Vec F S2x128x8x64 .bf16) : FVec F S256x256 .f32 :=
  concatenate S256x256 0
    [⟨S128x256, fourV (headAt d (extractStridedSlice S128x64 ![0, 0] q slices_S256x256_o0_0_S128x64) fk fv 0 0)
      (headAt d (extractStridedSlice S128x64 ![0, 64] q slices_S256x256_o0_64_S128x64) fk fv 0 1)
      (headAt d (extractStridedSlice S128x64 ![0, 128] q slices_S256x256_o0_128_S128x64) fk fv 0 2)
      (headAt d (extractStridedSlice S128x64 ![0, 192] q slices_S256x256_o0_192_S128x64) fk fv 0 3)⟩,
     ⟨S128x256, fourV (headAt d (extractStridedSlice S128x64 ![128, 0] q slices_S256x256_o128_0_S128x64) fk fv 1 0)
      (headAt d (extractStridedSlice S128x64 ![128, 64] q slices_S256x256_o128_64_S128x64) fk fv 1 1)
      (headAt d (extractStridedSlice S128x64 ![128, 128] q slices_S256x256_o128_128_S128x64) fk fv 1 2)
      (headAt d (extractStridedSlice S128x64 ![128, 192] q slices_S256x256_o128_192_S128x64) fk fv 1 3)⟩]
    concatenates_S128x256_S128x256_S256x256_d0

/-- One device's part: its heads times its rows of the output weights. -/
theorem projF_eq (d : Dev nD) (fx : Vec F S256x512 .f32) (fw : Vec F S512x256 .f32) (fk fv : Vec F S2x128x8x64 .bf16) (fo : Vec F S256x512 .f32) :
    projF d fx fw fk fv fo =
      shapeCast S256x512 (truncf .bf16 (matmul dot_S256x256_S256x512_S256x512_1_0_0_1_n_n none (ctxV d (truncf .bf16 (k0_pay1 fx fw) bitsLt_bf16_f32) fk fv)
        (shapeCast S256x512 fo shapeCasts_S256x512_S256x512) (constant S256x512 .f32 0x00000000#32)) bitsLt_bf16_f32) shapeCasts_S256x512_S256x512 := rfl

end Cert.KernelIdeal.Body
-- ==== Proof.Spec.lean ====
/-
# Attention as a formula

One head of masked attention over extended reals, one number at a time: what both programs are shown to compute.
-/
module

public import Idealize.ShloMosaic.Lib.Pointwise

@[expose] public section

noncomputable section

namespace Cert.Spec

open Idealize.ShloMosaic

/-- Which of the two halves of the 128 positions a position lies in. -/
def half (i : Fin 128) : Fin 2 := ⟨i.val / 64, by omega⟩

/-- Whether a query in half `a` looks at a key in half `b`: the same half, the first half, or halves whose sum divides by three. -/
def keeps (a b : Fin 2) : BitVec 1 := if a = b ∨ b.val = 0 ∨ (a.val + b.val) % 3 = 0 then 1#1 else 0#1

/-- Whether query `i` looks at key `j`. -/
def keep (i j : Fin 128) : BitVec 1 := keeps (half i) (half j)

/-- A masked score: the scaled inner product of a query row with a key row, or the large negative number. -/
def score (keep : Fin 128 → Fin 128 → BitVec 1) (q k : Fin 128 → Fin 64 → EReal) (i j : Fin 128) : EReal :=
  Scalar.select (keep i j) ((∑ e : Fin 64, q i e * k j e) * Ideal.ofBits .f32 0x3E000000#32) (Ideal.ofBits .f32 0xCE6E6B28#32)

/-- The exponential of a score less its row's largest. -/
def expo (s : Fin 128 → Fin 128 → EReal) (i j : Fin 128) : EReal :=
  Ideal.exp (s i j - (Finset.univ : Finset (Fin 128)).fold max (Ideal.ofBits .f32 0xFF800000#32) (s i))

/-- A weight: an exponential divided by its row's sum. -/
def weight (s : Fin 128 → Fin 128 → EReal) (i j : Fin 128) : EReal :=
  Ideal.div (expo s i j) (∑ l : Fin 128, expo s i l)

/-- One head: the weighted sum of the value rows. -/
def head (keep : Fin 128 → Fin 128 → BitVec 1) (q k v : Fin 128 → Fin 64 → EReal) (i : Fin 128) (d : Fin 64) : EReal :=
  ∑ j : Fin 128, weight (score keep q k) i j * v j d

end Cert.Spec
-- ==== Proof.AttendAt.lean ====
/-
# One device's attention, number by number
-/
module

public import proofs.«01_k».proof.Proof.Attend
public import proofs.«01_k».proof.Proof.Spec

@[expose] public section

set_option maxRecDepth 65536

noncomputable section

namespace Cert.KernelIdeal.Body

open Cert.KernelIdeal Cert.KernelIdeal.Gen
open Idealize.ShloMosaic Idealize.ShloMosaic.TcCoe

theorem scoreV_apply (keep : IVec S128x128 1) (q k : FVec Ideal S128x64 .bf16) (i j : Fin 128) :
    scoreV keep q k (ix2 i j) = Spec.score (fun i j => keep (ix2 i j)) (fun i e => q (ix2 i e)) (fun j e => k (ix2 j e)) i j := by
  pointwise [scoreV, Spec.score]

theorem expV_apply (s : FVec Ideal S128x128 .f32) (i j : Fin 128) : expV s (ix2 i j) = Spec.expo (fun i j => s (ix2 i j)) i j := by
  pointwise [expV, Spec.expo]

theorem normV_apply (e : FVec Ideal S128x128 .f32) (i j : Fin 128) :
    normV e (ix2 i j) = Ideal.div (e (ix2 i j)) (∑ l : Fin 128, e (ix2 i l)) := by
  pointwise [normV]

theorem headV_apply (keep : IVec S128x128 1) (q k v : FVec Ideal S128x64 .bf16) (i : Fin 128) (d : Fin 64) :
    headV keep q k v (ix2 i d) = Spec.head (fun i j => keep (ix2 i j)) (fun i e => q (ix2 i e)) (fun j e => k (ix2 j e)) (fun j e => v (ix2 j e)) i d := by
  pointwise [headV, Spec.head, Spec.weight, normV_apply, expV_apply, scoreV_apply]

theorem k0_pay1_apply (x : FVec Ideal S256x512 .f32) (w : FVec Ideal S512x256 .f32) (i j : Fin 256) :
    k0_pay1 x w (ix2 i j) = ∑ e : Fin 512, x (ix2 i e) * w (ix2 e j) := by
  pointwise [k0_pay1]

/-- The head of the eight that a device's head `h` is: the upper four on odd devices. -/
def lane (d : Dev nD) (h : Fin 4) : Fin 8 := ⟨4 * (d.val % 2) + h.val, by omega⟩

theorem headF_apply (f : FVec Ideal S2x128x8x64 .bf16) (b : Fin 2) (h : Fin 8) (j : Fin 128) (e : Fin 64) :
    (shapeCast S128x64 (headF (F := Ideal) f b h) shapeCasts_S1x128x1x64_S128x64 : FVec Ideal S128x64 .bf16) (ix2 j e) = f (ix4 b j h e) := by
  pointwise
  refine congrArg f ?_
  funext a
  match a with
  | ⟨0, _⟩ => exact Fin.ext (by show b.val + 1 * 0 = b.val; omega)
  | ⟨1, _⟩ => exact Fin.ext (by show 0 + 1 * j.val = j.val; omega)
  | ⟨2, _⟩ => exact Fin.ext (by show h.val + 1 * 0 = h.val; omega)
  | ⟨3, _⟩ => exact Fin.ext (by show 0 + 1 * e.val = e.val; omega)

theorem upper_eq (d : Dev nD) : upper d = if d.val % 2 = 1 then 1#1 else 0#1 := by
  revert d; decide

theorem pickV_apply (d : Dev nD) (f : FVec Ideal S2x128x8x64 .bf16) (b : Fin 2) (h : Fin 4) (j : Fin 128) (e : Fin 64) :
    pickV (upper d) (headF (F := Ideal) f b (h.natAdd 4)) (headF (F := Ideal) f b (h.castAdd 4)) (ix2 j e) = f (ix4 b j (lane d h) e) := by
  have hl : lane d h = if d.val % 2 = 1 then h.natAdd 4 else h.castAdd 4 := by
    refine Fin.ext ?_
    show 4 * (d.val % 2) + h.val = _
    split <;> simp only [Fin.val_natAdd, Fin.val_castAdd] <;> omega
  rw [hl, pickV, upper_eq]
  split
  · exact headF_apply f b _ j e
  · exact headF_apply f b _ j e

theorem headAt_apply (d : Dev nD) (q : FVec Ideal S128x64 .bf16) (fk fv : FVec Ideal S2x128x8x64 .bf16) (b : Fin 2) (h : Fin 4) (i : Fin 128) (e : Fin 64) :
    headAt (F := Ideal) d q fk fv b h (ix2 i e) = Spec.head (fun i j => keepV (ix2 i j)) (fun i e => q (ix2 i e)) (fun j e => fk (ix4 b j (lane d h) e))
      (fun j e => fv (ix4 b j (lane d h) e)) i e := by
  rw [headAt, headV_apply]
  simp only [pickV_apply]

theorem fourV_apply (a : Fin 4 → FVec Ideal S128x64 .f32) (h : Fin 4) (i : Fin 128) (e : Fin 64) :
    fourV (a 0) (a 1) (a 2) (a 3) (ix2 i (⟨h.val * 64 + e.val, by omega⟩ : Fin 256)) = a h (ix2 i e) := by
  fin_cases h <;> pointwise [fourV] <;> split_ifs <;>
    first
      | (exfalso; omega)
      | exact congrArg (fun e => a _ (ix2 i e)) (Fin.ext (by simp only [Nat.sub_sub]; omega))

theorem ctxV_apply (d : Dev nD) (q : FVec Ideal S256x256 .bf16) (fk fv : FVec Ideal S2x128x8x64 .bf16) (b : Fin 2) (h : Fin 4) (i : Fin 128) (e : Fin 64) :
    ctxV (F := Ideal) d q fk fv (ix2 (⟨b.val * 128 + i.val, by omega⟩ : Fin 256) (⟨h.val * 64 + e.val, by omega⟩ : Fin 256)) =
      Spec.head (fun i j => keepV (ix2 i j)) (fun i e => q (ix2 (⟨b.val * 128 + i.val, by omega⟩ : Fin 256) (⟨h.val * 64 + e.val, by omega⟩ : Fin 256)))
        (fun j e => fk (ix4 b j (lane d h) e)) (fun j e => fv (ix4 b j (lane d h) e)) i e := by
  let a0 : Fin 4 → FVec Ideal S128x64 .f32 := ![headAt d (extractStridedSlice S128x64 ![0, 0] q slices_S256x256_o0_0_S128x64) fk fv 0 0,
    headAt d (extractStridedSlice S128x64 ![0, 64] q slices_S256x256_o0_64_S128x64) fk fv 0 1,
    headAt d (extractStridedSlice S128x64 ![0, 128] q slices_S256x256_o0_128_S128x64) fk fv 0 2,
    headAt d (extractStridedSlice S128x64 ![0, 192] q slices_S256x256_o0_192_S128x64) fk fv 0 3]
  let a1 : Fin 4 → FVec Ideal S128x64 .f32 := ![headAt d (extractStridedSlice S128x64 ![128, 0] q slices_S256x256_o128_0_S128x64) fk fv 1 0,
    headAt d (extractStridedSlice S128x64 ![128, 64] q slices_S256x256_o128_64_S128x64) fk fv 1 1,
    headAt d (extractStridedSlice S128x64 ![128, 128] q slices_S256x256_o128_128_S128x64) fk fv 1 2,
    headAt d (extractStridedSlice S128x64 ![128, 192] q slices_S256x256_o128_192_S128x64) fk fv 1 3]
  have e0 : ctxV d q fk fv (ix2 (⟨b.val * 128 + i.val, by omega⟩ : Fin 256) (⟨h.val * 64 + e.val, by omega⟩ : Fin 256)) = (if b = 0 then a0 else a1) h (ix2 i e) := by
    refine Eq.trans ?_ (fourV_apply _ h i e)
    fin_cases b <;> pointwise [ctxV] <;> rfl
  rw [e0]
  fin_cases b <;> fin_cases h <;> refine (headAt_apply d _ fk fv _ _ i e).trans ?_ <;> pointwise

theorem projF_apply (d : Dev nD) (fx : FVec Ideal S256x512 .f32) (fw : FVec Ideal S512x256 .f32) (fk fv : FVec Ideal S2x128x8x64 .bf16)
    (fo : FVec Ideal S256x512 .f32) (b : Fin 2) (i : Fin 128) (n : Fin 512) :
    projF (F := Ideal) d fx fw fk fv fo (ix2 (⟨b.val * 128 + i.val, by omega⟩ : Fin 256) n) =
      ∑ h : Fin 4, ∑ e : Fin 64,
        Spec.head (fun i j => keepV (ix2 i j))
          (fun i e => ∑ g : Fin 512, fx (ix2 (⟨b.val * 128 + i.val, by omega⟩ : Fin 256) g) * fw (ix2 g (⟨h.val * 64 + e.val, by omega⟩ : Fin 256)))
          (fun j e => fk (ix4 b j (lane d h) e)) (fun j e => fv (ix4 b j (lane d h) e)) i e
        * fo (ix2 (⟨h.val * 64 + e.val, by omega⟩ : Fin 256) n) := by
  rw [projF_eq]
  pointwise
  rw [Fin.sum_univ_tiles 4 64 rfl]
  simp only [ctxV_apply]
  refine Finset.sum_congr rfl fun h _ => Finset.sum_congr rfl fun e _ => ?_
  refine congrArg (fun q => Spec.head _ q _ _ i e * _) (funext fun i => funext fun e => ?_)
  exact k0_pay1_apply fx fw _ _

end Cert.KernelIdeal.Body
-- ==== Proof.KeepAt.lean ====
/-
# The mask one device computes
-/
module

public import proofs.«01_k».proof.Proof.Attend
public import proofs.«01_k».proof.Proof.Spec

@[expose] public section

set_option maxRecDepth 65536

noncomputable section

namespace Cert.KernelIdeal.Body

open Cert.KernelIdeal Cert.KernelIdeal.Gen
open Idealize.ShloMosaic Idealize.ShloMosaic.TcCoe

theorem rowHalf (i j : Fin 128) : k0_pay2 (ix2 i j) = BitVec.ofNat 32 (Spec.half i).val := by
  pointwise [k0_pay2]
  revert i; decide

theorem colHalf (i j : Fin 128) : k0_pay3 (iota .tc S128x128 32 [1] iota_S128x128_d1_w32) (ix2 i j) = BitVec.ofNat 32 (Spec.half j).val := by
  pointwise [k0_pay3]
  revert j; decide

theorem keepV_apply (i j : Fin 128) : keepV (ix2 i j) = Spec.keep i j := by
  pointwise [keepV, k0_pay6, k0_pay4, k0_pay5, rowHalf, colHalf]
  rw [colHalf, Spec.keep]
  generalize Spec.half i = a
  generalize Spec.half j = b
  revert a b; decide

end Cert.KernelIdeal.Body
-- ==== Proof.HostAt.lean ====
/-
# What the host hands each device's kernel
-/
module

public import proofs.«01_k».proof.Proof.Gen.KernelIdeal.Regions
public import Idealize.ShloMosaic.Lib.StableHlo.RunClose
public import Idealize.ShloMosaic.Lib.Pointwise

@[expose] public section

set_option maxRecDepth 65536

noncomputable section

namespace Cert.KernelIdeal.Body

open Cert.KernelIdeal Cert.KernelIdeal.Gen
open Idealize.ShloMosaic Idealize.ShloMosaic.TcCoe Idealize.SL.Sem Idealize.ShloMosaic.StableHlo

variable {F : FTy → Type} [FloatOps F]

/-- Integer division rounding down, as the host computes it. -/
def floorDiv (a b : IVec S_ 32) : IVec S_ 32 :=
  select (andi (cmpi .ne (signi a) (signi b)) (cmpi .ne (Host.remsi a b) (constantI S_ 32 0#32))) (subi (Host.divsi a b) (constantI S_ 32 1#32)) (Host.divsi a b)

/-- The first of the eight heads a device is handed, from its pair's number. -/
def firstHead (a : IVec S_ 32) : IVec S_ 32 :=
  let b := muli (muli a (constantI S_ 32 2#32)) (constantI S_ 32 4#32)
  select (cmpi .slt b (constantI S_ 32 0#32)) (addi b (constantI S_ 32 128#32)) b

/-- Eight heads from a start on. -/
def eightHeads (x : FVec F S2x128x128x64 .f32) (a : IVec S_ 32) : FVec F S2x128x8x64 .bf16 :=
  truncf .bf16 (Host.dynamicSlice S2x128x8x64 x (fun k => ((![constantI S_ 32 0#32, constantI S_ 32 0#32, a, constantI S_ 32 0#32] : Fin 4 → IVec S_ 32) k (Shape.Idx.first h_S_)).toInt) sliceFits_S2x128x128x64_S2x128x8x64) bitsLt_bf16_f32

section
variable (W : Valuation τ sig (Elt F))

theorem divided1 : after (hostOps0_1 (F := F)) W main_v6 = floorDiv (W main_v4) (W main_c_1) := by
  simp only [hostOps0_1, hostOps0_3, TRef.binary, TRef.nullary, TRef.ternary, TRef.unary, TRef.toBuf, TRef.ofBuf, cast_eq]
  after_results_simp <;> rfl

theorem divided3 : after (hostOps0_3 (F := F)) W main_v14 = floorDiv (W main_v4) (W main_c_9) := by
  simp only [hostOps0_1, hostOps0_3, TRef.binary, TRef.nullary, TRef.ternary, TRef.unary, TRef.toBuf, TRef.ofBuf, cast_eq]
  after_results_simp <;> rfl

theorem keys2 : after (hostOps0_2 (F := F)) W main_v13 = eightHeads (W main_arg2) (firstHead (W main_v6)) := by
  after_results_simp_entrywise <;> rfl

theorem values4 : after (hostOps0_4 (F := F)) W main_v21 = eightHeads (W main_arg3) (firstHead (W main_v14)) := by
  after_results_simp_entrywise <;> rfl

theorem two2 : after (hostOps0_2 (F := F)) W main_c_9 = constantI S_ 32 2#32 := by
  after_results_simp_entrywise <;> rfl

theorem place0 (c : Dev nD) : after (hostOps0 (F := F) c) W main_v4 = Host.remui (Host.divui (constantI S_ 32 (Dev.word c)) (constantI S_ 32 1#32)) (constantI S_ 32 32#32) := by
  after_results_simp <;> rfl

theorem two0 (c : Dev nD) : after (hostOps0 (F := F) c) W main_c_1 = constantI S_ 32 2#32 := by
  after_results_simp <;> rfl

theorem rows0 (c : Dev nD) : after (hostOps0 (F := F) c) W main_v5 = shapeCast S256x512 (W main_arg0) shapeCasts_S2x128x512_S256x512 := by
  after_results_simp <;> rfl

theorem back1 : after (hostOps1 (F := F)) W main_v23 = shapeCast S2x128x512 (W main_v22) shapeCasts_S256x512_S2x128x512 := by
  after_results_simp <;> rfl

end

/-- Where device `c`'s eight heads start. -/
def startOf (c : Dev nD) : IVec S_ 32 :=
  firstHead (floorDiv (Host.remui (Host.divui (constantI S_ 32 (Dev.word c)) (constantI S_ 32 1#32)) (constantI S_ 32 32#32)) (constantI S_ 32 2#32))

theorem startOf_toInt : ∀ c : Dev nD, (startOf c (Shape.Idx.first h_S_)).toInt = (8 * (c.val / 2) : ℕ) := by
  decide +kernel

section
variable (m : (ℓ : Loc nD τ sig) → Buf (Elt F) ℓ) (c : Dev nD)

theorem at_rows : V5 m c main_v5 = shapeCast S256x512 (m ((c : Thread nD τ).loc main_arg0)) shapeCasts_S2x128x512_S256x512 := by
  rw [V5_of m c main_v5 (by decide), V4_of m c main_v5 (by decide), V3_of m c main_v5 (by decide), V2_of m c main_v5 (by decide)]
  exact rows0 (V0 m c) c

theorem at_weights : V5 m c main_arg1 = m ((c : Thread nD τ).loc main_arg1) := by
  rw [V5_of m c main_arg1 (by decide), V4_of m c main_arg1 (by decide), V3_of m c main_arg1 (by decide), V2_of m c main_arg1 (by decide), V1_of m c main_arg1 (by decide)]

theorem at_outWeights : V5 m c main_arg4 = m ((c : Thread nD τ).loc main_arg4) := by
  rw [V5_of m c main_arg4 (by decide), V4_of m c main_arg4 (by decide), V3_of m c main_arg4 (by decide), V2_of m c main_arg4 (by decide), V1_of m c main_arg4 (by decide)]

theorem at_keys : V5 m c main_v13 = eightHeads (m ((c : Thread nD τ).loc main_arg2)) (startOf c) := by
  rw [V5_of m c main_v13 (by decide), V4_of m c main_v13 (by decide)]
  refine (keys2 (V2 m c)).trans ?_
  rw [V2_of m c main_arg2 (by decide), V1_of m c main_arg2 (by decide), show V2 m c main_v6 = _ from divided1 (V1 m c), show V1 m c main_v4 = _ from place0 (V0 m c) c,
    show V1 m c main_c_1 = _ from two0 (V0 m c) c]
  rfl

theorem at_values : V5 m c main_v21 = eightHeads (m ((c : Thread nD τ).loc main_arg3)) (startOf c) := by
  refine (values4 (V4 m c)).trans ?_
  rw [V4_of m c main_arg3 (by decide), V3_of m c main_arg3 (by decide), V2_of m c main_arg3 (by decide), V1_of m c main_arg3 (by decide), show V4 m c main_v14 = _ from divided3 (V3 m c),
    V3_of m c main_v4 (by decide), V2_of m c main_v4 (by decide), show V1 m c main_v4 = _ from place0 (V0 m c) c, show V3 m c main_c_9 = _ from two2 (V2 m c)]
  rfl

end

/-- Eight heads from head `k` on, at an index. -/
theorem eightHeads_at (x : FVec Ideal S2x128x128x64 .f32) (a : IVec S_ 32) (k : ℕ) (ha : (a (Shape.Idx.first h_S_)).toInt = k) (hk : k + 8 ≤ 128)
    (b : Fin 2) (j : Fin 128) (h : Fin 8) (e : Fin 64) :
    eightHeads x a (ix4 b j h e) = x (ix4 b j (⟨k + h.val, by omega⟩ : Fin 128) e) := by
  pointwise [eightHeads]
  refine congrArg x (congr (congr (congr (congrArg ix4 (Fin.ext ?_)) (Fin.ext ?_)) (Fin.ext ?_)) (Fin.ext ?_))
  · show Host.clampedStart _ _ _ _ 0 + b.val = b.val
    rw [Host.clampedStart_of_le _ _ 0 0 rfl (by decide), Nat.zero_add]
  · show Host.clampedStart _ _ _ _ 1 + j.val = j.val
    rw [Host.clampedStart_of_le _ _ 1 0 rfl (by decide), Nat.zero_add]
  · show Host.clampedStart _ _ _ _ 2 + h.val = k + h.val
    rw [Host.clampedStart_of_le _ _ 2 k ha hk]
  · show Host.clampedStart _ _ _ _ 3 + e.val = e.val
    rw [Host.clampedStart_of_le _ _ 3 0 rfl (by decide), Nat.zero_add]

theorem eightHeads_apply (x : FVec Ideal S2x128x128x64 .f32) (c : Dev nD) (b : Fin 2) (j : Fin 128) (h : Fin 8) (e : Fin 64) :
    eightHeads x (startOf c) (ix4 b j h e) = x (ix4 b j (⟨8 * (c.val / 2) + h.val, by have : c.val < 32 := c.isLt; omega⟩ : Fin 128) e) :=
  eightHeads_at x (startOf c) (8 * (c.val / 2)) (startOf_toInt c) (by have : c.val < 32 := c.isLt; omega) b j h e

end Cert.KernelIdeal.Body
-- ==== Proof.KernelAt.lean ====
/-
# The kernel's result, one number at a time
-/
module

public import proofs.«01_k».proof.Proof.AttendAt
public import proofs.«01_k».proof.Proof.KeepAt
public import proofs.«01_k».proof.Proof.HostAt
public import proofs.«01_k».proof.Proof.Frames

@[expose] public section

set_option maxRecDepth 65536

noncomputable section

namespace Cert.KernelIdeal.Body

open Cert.KernelIdeal Cert.KernelIdeal.Gen
open Idealize.ShloMosaic Idealize.ShloMosaic.TcCoe Idealize.SL.Sem Idealize.ShloMosaic.StableHlo

/-- The rows a device sums up: one number of each device's part, added. -/
theorem redF_apply (P : Dev nD → FVec Ideal S256x512 .bf16) (s : Fin 32) (r : Fin 8) (n : Fin 512) :
    redF (F := Ideal) P s (ix2 r n) = ∑ d : Fin 32, P d (ix2 (⟨8 * s.val + r.val, by omega⟩ : Fin 256) n) := by
  pointwise [redF, k0_pay29]
  rfl

theorem result_apply (V : Dev nD → Valuation τ sig (Elt Ideal)) (r : Fin 256) (n : Fin 512) :
    (result V : FVec Ideal S256x512 .f32) (ix2 r n) = ∑ d : Fin 32, (part V d : FVec Ideal S256x512 .bf16) (ix2 r n) := by
  pointwise [result, k0_pay30]
  refine (redF_apply (part V) ⟨r.val / 8, by omega⟩ ⟨r.val % 8, by omega⟩ n).trans ?_
  exact Finset.sum_congr rfl fun d _ => congrArg (fun t => (part V d : FVec Ideal S256x512 .bf16) (ix2 t n)) (Fin.ext (by show 8 * (r.val / 8) + r.val % 8 = r.val; omega))

/-- The number of a device's head among the 128. -/
def headOf (c : Fin 32) (h : Fin 4) : Fin 128 := ⟨4 * c.val + h.val, by omega⟩

/-- What one device adds to the result, from the five arguments it holds. -/
def adds (x : FVec Ideal S2x128x512 .f32) (wq : FVec Ideal S512x256 .f32) (k v : FVec Ideal S2x128x128x64 .f32) (wo : FVec Ideal S256x512 .f32)
    (c : Fin 32) (b : Fin 2) (i : Fin 128) (n : Fin 512) : EReal :=
  ∑ h : Fin 4, ∑ e : Fin 64,
    Spec.head Spec.keep (fun i e => ∑ g : Fin 512, x (ix3 b i g) * wq (ix2 g (⟨h.val * 64 + e.val, by omega⟩ : Fin 256)))
      (fun j e => k (ix4 b j (headOf c h) e)) (fun j e => v (ix4 b j (headOf c h) e)) i e * wo (ix2 (⟨h.val * 64 + e.val, by omega⟩ : Fin 256) n)

theorem eightHeads_lane (x : FVec Ideal S2x128x128x64 .f32) (c : Dev nD) (b : Fin 2) (j : Fin 128) (h : Fin 4) (e : Fin 64) :
    eightHeads x (startOf c) (ix4 b j (lane c h) e) = x (ix4 b j (headOf c h) e) :=
  (eightHeads_apply x c b j (lane c h) e).trans
    (congrArg (fun t => x (ix4 b j t e)) (Fin.ext (by show 8 * (c.val / 2) + (4 * (c.val % 2) + h.val) = 4 * c.val + h.val; omega)))

theorem rows_apply (x : FVec Ideal S2x128x512 .f32) (b : Fin 2) (i : Fin 128) (g : Fin 512) :
    shapeCast S256x512 x shapeCasts_S2x128x512_S256x512 (ix2 (⟨b.val * 128 + i.val, by omega⟩ : Fin 256) g) = x (ix3 b i g) := by
  pointwise []

/-- A device's part, from the five arguments it holds. -/
theorem part_of (x : FVec Ideal S2x128x512 .f32) (wq : FVec Ideal S512x256 .f32) (k v : FVec Ideal S2x128x128x64 .f32) (wo : FVec Ideal S256x512 .f32)
    (c : Fin 32) (b : Fin 2) (i : Fin 128) (n : Fin 512) :
    projF (F := Ideal) c (shapeCast S256x512 x shapeCasts_S2x128x512_S256x512) wq (eightHeads k (startOf c)) (eightHeads v (startOf c)) wo (ix2 (⟨b.val * 128 + i.val, by omega⟩ : Fin 256) n)
      = adds x wq k v wo c b i n := by
  refine (projF_apply _ _ _ _ _ _ b i n).trans ?_
  unfold adds
  simp only [eightHeads_lane, keepV_apply, rows_apply]

section
variable (m : (ℓ : Loc nD τ sig) → Buf (Elt Ideal) ℓ)

theorem part_apply (c : Dev nD) (b : Fin 2) (i : Fin 128) (n : Fin 512) :
    (part (V5 m) c : FVec Ideal S256x512 .bf16) (ix2 (⟨b.val * 128 + i.val, by omega⟩ : Fin 256) n)
      = adds (m ((c : Thread nD τ).loc main_arg0)) (m ((c : Thread nD τ).loc main_arg1)) (m ((c : Thread nD τ).loc main_arg2)) (m ((c : Thread nD τ).loc main_arg3)) (m ((c : Thread nD τ).loc main_arg4)) c b i n := by
  unfold part
  rw [at_rows, at_weights, at_outWeights, at_keys, at_values]
  exact part_of _ _ _ _ _ c b i n

/-- What every device returns. -/
theorem out_apply (c : Dev nD) (b : Fin 2) (i : Fin 128) (n : Fin 512) :
    (V7 m (outs m) c main_v23 : FVec Ideal S2x128x512 .f32) (ix3 b i n)
      = (∑ d : Fin 32, adds (m (((d : Dev nD) : Thread nD τ).loc main_arg0)) (m (((d : Dev nD) : Thread nD τ).loc main_arg1)) (m (((d : Dev nD) : Thread nD τ).loc main_arg2)) (m (((d : Dev nD) : Thread nD τ).loc main_arg3)) (m (((d : Dev nD) : Thread nD τ).loc main_arg4)) d b i n : EReal) := by
  rw [show V7 m (outs m) c main_v23 = _ from back1 (V6 m (outs m) c), after_region, left_out]
  pointwise []
  refine (result_apply (V5 m) _ n).trans ?_
  exact Finset.sum_congr rfl fun d _ => part_apply m d b i n

end

end Cert.KernelIdeal.Body
-- ==== Proof.RefAt.lean ====
/-
# The reference's result, one number at a time

The reference's operations, named piece by piece, and each piece at an index: heads of masked attention, each multiplied with
its rows of the output matrix and added up.
-/
module

public import proofs.«01_k».proof.Proof.Gen.ReferenceIdeal.Run
public import proofs.«01_k».proof.Proof.Spec

@[expose] public section

set_option maxRecDepth 65536

noncomputable section

namespace Cert.ReferenceIdeal.Body

open Cert.ReferenceIdeal Cert.ReferenceIdeal.Gen
open Idealize.ShloMosaic Idealize.ShloMosaic.TcCoe Idealize.SL.Sem Idealize.ShloMosaic.StableHlo

/-! ## The mask -/

/-- Each position's half, as a word. -/
def halves : IVec S128 32 :=
  let n : IVec S128 32 := iotaInDim S128 32 0
  let w : IVec S_ 32 := id (constantI S_ 32 64#32)
  select (andi (cmpi .ne (signi n) (broadcastInDim S128 ![] bcast_S_S128 (signi w))) (cmpi .ne (Host.remsi n (broadcastInDim S128 ![] bcast_S_S128 w)) (broadcastInDim S128 ![] bcast_S_S128 (constantI S_ 32 0#32)))) (subi (Host.divsi n (broadcastInDim S128 ![] bcast_S_S128 w)) (broadcastInDim S128 ![] bcast_S_S128 (constantI S_ 32 1#32))) (Host.divsi n (broadcastInDim S128 ![] bcast_S_S128 w))

/-- The halves down the rows, and along the columns. -/
def downRows : IVec S128x128 32 := broadcastInDim S128x128 ![0, 1] bcast_S128x1_S128x128_0_1 (broadcastInDim S128x1 ![0] bcast_S128_S128x1_0 halves)
def alongCols : IVec S128x128 32 := broadcastInDim S128x128 ![0, 1] bcast_S1x128_S128x128_0_1 (broadcastInDim S1x128 ![1] bcast_S128_S1x128_1 halves)

/-- The divisor, kept from being zero. -/
def three : IVec S_ 32 := select (cmpi .eq (id (constantI S_ 32 3#32)) (constantI S_ 32 0#32)) (constantI S_ 32 1#32) (id (constantI S_ 32 3#32))

def rest : IVec S128x128 32 := Host.remsi (addi downRows alongCols) (broadcastInDim S128x128 ![] bcast_S_S128x128 three)

/-- Which query looks at which key. -/
def mask : IVec S128x128 1 :=
  ori (ori (cmpi .eq downRows alongCols) (broadcastInDim S128x128 ![0, 1] bcast_S1x128_S128x128_0_1 (cmpi .eq (broadcastInDim S1x128 ![1] bcast_S128_S1x128_1 halves) (broadcastInDim S1x128 ![] bcast_S_S1x128 (constantI S_ 32 0#32)))))
    (cmpi .eq (select (andi (cmpi .ne (cmpi .slt rest (broadcastInDim S128x128 ![] bcast_S_S128x128 (constantI S_ 32 0#32))) (broadcastInDim S128x128 ![] bcast_S_S128x128 (cmpi .slt three (constantI S_ 32 0#32)))) (cmpi .ne rest (broadcastInDim S128x128 ![] bcast_S_S128x128 (constantI S_ 32 0#32)))) (addi rest (broadcastInDim S128x128 ![] bcast_S_S128x128 three)) rest) (broadcastInDim S128x128 ![] bcast_S_S128x128 (constantI S_ 32 0#32)))

/-- Whether a query looks at any key. -/
def anyKey : IVec S128 1 := Host.reduce IntOp.ori mask (constantI S_ 1 0#1) reducesTo_S128x128_S128_d1 h_S_

/-! ## Scores, weights, heads -/

section
variable {F : FTy → Type} [FloatOps F]
variable (x : FVec F S2x128x512 .f32) (wq : FVec F S512x8192 .f32) (k v : FVec F S2x128x128x64 .f32) (wo : FVec F S8192x512 .f32)

/-- The queries. -/
def queries : FVec F S2x128x128x64 .f32 :=
  shapeCast _ (Host.dotGeneral dot_S2x128x512_S512x8192_S2x128x8192_2_0_01_1_n_n none x wq) shapeCasts_S2x128x8192_S2x128x128x64

/-- The masked scores. -/
def scores (q : FVec F S2x128x128x64 .f32) : FVec F S2x128x128x128 .f32 :=
  select (broadcastInDim S2x128x128x128 ![0, 1, 2, 3] bcast_S1x1x128x128_S2x128x128x128_0_1_2_3 (broadcastInDim S1x1x128x128 ![2, 3] bcast_S128x128_S1x1x128x128_2_3 mask)) (mulf (Host.dotGeneral dot_S2x128x128x64_S2x128x128x64_S2x128x128x128_3_3_1_1_02_02 none q k) (broadcastInDim S2x128x128x128 ![] bcast_S_S2x128x128x128 (constant S_ .f32 0x3E000000#32))) (broadcastInDim S2x128x128x128 ![] bcast_S_S2x128x128x128 (id (constant S_ .f32 0xCE6E6B28#32)))

/-- The exponentials of the scores less their rows' largest. -/
def expos (s : FVec F S2x128x128x128 .f32) : FVec F S2x128x128x128 .f32 :=
  Host.exp (subf s (broadcastInDim S2x128x128x128 ![0, 1, 2, 3] bcast_S2x128x128x1_S2x128x128x128_0_1_2_3 (broadcastInDim S2x128x128x1 ![0, 1, 2] bcast_S2x128x128_S2x128x128x1_0_1_2 (Host.reduce FloatOps.maximumf s (constant S_ .f32 0xFF800000#32) reducesTo_S2x128x128x128_S2x128x128_d3 h_S_))))

/-- The weights. -/
def weights (e : FVec F S2x128x128x128 .f32) : FVec F S2x128x128x128 .f32 :=
  select (broadcastInDim S2x128x128x128 ![0, 1, 2, 3] bcast_S1x1x128x1_S2x128x128x128_0_1_2_3 (broadcastInDim S1x1x128x1 ![2] bcast_S128_S1x1x128x1_2 anyKey)) (Host.divf e (broadcastInDim S2x128x128x128 ![0, 1, 2, 3] bcast_S2x128x128x1_S2x128x128x128_0_1_2_3 (select (broadcastInDim S2x128x128x1 ![0, 1, 2, 3] bcast_S1x1x128x1_S2x128x128x1_0_1_2_3 (broadcastInDim S1x1x128x1 ![2] bcast_S128_S1x1x128x1_2 anyKey)) (broadcastInDim S2x128x128x1 ![0, 1, 2] bcast_S2x128x128_S2x128x128x1_0_1_2 (Host.reduceAdd e (constant S_ .f32 0x00000000#32) reducesTo_S2x128x128x128_S2x128x128_d3 h_S_)) (broadcastInDim S2x128x128x1 ![] bcast_S_S2x128x128x1 (id (constant S_ .f32 0x3F800000#32)))))) (broadcastInDim S2x128x128x128 ![] bcast_S_S2x128x128x128 (id (constant S_ .f32 0x00000000#32)))

/-- All heads side by side, then the output projection. -/
def output (p : FVec F S2x128x128x128 .f32) : FVec F S2x128x512 .f32 :=
  Host.dotGeneral dot_S2x128x8192_S8192x512_S2x128x512_2_0_01_1_n_n none (shapeCast _ (transpose S2x128x128x64 [0, 3, 1, 2] (Host.dotGeneral dot_S2x128x128x64_S2x128x128x128_S2x128x64x128_1_3_3_2_02_01 none v p) transposes_S2x128x64x128_S2x128x128x64_0_3_1_2) shapeCasts_S2x128x128x64_S2x128x8192) wo

/-- The whole of it. -/
def whole : FVec F S2x128x512 .f32 := output v wo (weights (expos (scores k (queries x wq))))

end

theorem res_eq {F : FTy → Type} [FloatOps F] (m : (ℓ : Loc nD τ sig) → Buf (Elt F) ℓ) (c : Dev nD) :
    Value.res_main_v44 m c = whole (m ((c : Thread nD τ).loc main_arg0)) (m ((c : Thread nD τ).loc main_arg1)) (m ((c : Thread nD τ).loc main_arg2)) (m ((c : Thread nD τ).loc main_arg3)) (m ((c : Thread nD τ).loc main_arg4)) := by
  unfold Value.res_main_v44
  rfl

/-! ## Each piece at an index -/

theorem halves_apply (i : Fin 128) : halves (ix1 i) = BitVec.ofNat 32 (Spec.half i).val := by
  pointwise [halves, id_eq]
  revert i
  decide +kernel

theorem mask_apply (i j : Fin 128) : mask (ix2 i j) = Spec.keep i j := by
  pointwise [mask, downRows, alongCols, rest, three, id_eq]
  rw [halves_apply, halves_apply]
  unfold Spec.keep
  generalize Spec.half i = a
  generalize Spec.half j = b
  revert a b
  decide +kernel

theorem ori_one (x : BitVec 1) : IntOp.ori 1#1 x = 1#1 := by
  revert x
  decide

/-- Every query looks at the first key, so at some key. -/
theorem anyKey_apply (i : Fin 128) : anyKey (ix1 i) = 1#1 := by
  pointwise [anyKey]
  rw [← Finset.insert_erase (Finset.mem_univ (0 : Fin 128)), Finset.fold_insert (Finset.notMem_erase _ _), mask_apply]
  have h : Spec.keep i 0 = 1#1 := if_pos (Or.inr (Or.inl rfl))
  rw [h, ori_one]

theorem queries_apply (x : FVec Ideal S2x128x512 .f32) (wq : FVec Ideal S512x8192 .f32) (b : Fin 2) (i h : Fin 128) (e : Fin 64) :
    queries x wq (ix4 b i h e) = ∑ g : Fin 512, x (ix3 b i g) * wq (ix2 g (⟨h.val * 64 + e.val, by omega⟩ : Fin 8192)) := by
  pointwise [queries]

theorem scores_apply (k q : FVec Ideal S2x128x128x64 .f32) (b : Fin 2) (h i j : Fin 128) :
    scores k q (ix4 b h i j) = Spec.score Spec.keep (fun i e => q (ix4 b i h e)) (fun j e => k (ix4 b j h e)) i j := by
  pointwise [scores, id_eq]
  rw [mask_apply]
  rfl

theorem expos_apply (s : FVec Ideal S2x128x128x128 .f32) (b : Fin 2) (h i j : Fin 128) :
    expos s (ix4 b h i j) = Spec.expo (fun i j => s (ix4 b h i j)) i j := by
  pointwise [expos]
  rfl

theorem weights_apply (e : FVec Ideal S2x128x128x128 .f32) (b : Fin 2) (h i j : Fin 128) :
    weights e (ix4 b h i j) = Ideal.div (e (ix4 b h i j)) (∑ l : Fin 128, e (ix4 b h i l)) := by
  pointwise [weights]
  rw [anyKey_apply]
  rfl

theorem output_apply (v : FVec Ideal S2x128x128x64 .f32) (wo : FVec Ideal S8192x512 .f32) (p : FVec Ideal S2x128x128x128 .f32) (b : Fin 2) (i : Fin 128) (n : Fin 512) :
    output v wo p (ix3 b i n) = ∑ h : Fin 128, ∑ e : Fin 64, (∑ j : Fin 128, p (ix4 b h i j) * v (ix4 b j h e)) * wo (ix2 (⟨h.val * 64 + e.val, by omega⟩ : Fin 8192) n) := by
  pointwise [output]
  refine (Fin.sum_univ_tiles 128 64 rfl _).trans (Finset.sum_congr rfl fun h _ => Finset.sum_congr rfl fun e _ => ?_)
  refine congr (congrArg HMul.hMul (Finset.sum_congr rfl fun j _ => ?_)) rfl
  have hh : (⟨(h.val * 64 + e.val) / 64, by omega⟩ : Fin 128) = h := Fin.ext (by show (h.val * 64 + e.val) / 64 = h.val; omega)
  have he : (⟨(h.val * 64 + e.val) % 64, by omega⟩ : Fin 64) = e := Fin.ext (by show (h.val * 64 + e.val) % 64 = e.val; omega)
  refine (congr (congrArg HMul.hMul (congr (congrArg (fun t => fun u => v (ix4 b j t u)) hh) he)) (congrArg (fun t => p (ix4 b t i j)) hh)).trans ?_
  exact mul_comm _ _

/-- The reference's result: head by head, number by number. -/
theorem whole_apply (x : FVec Ideal S2x128x512 .f32) (wq : FVec Ideal S512x8192 .f32) (k v : FVec Ideal S2x128x128x64 .f32) (wo : FVec Ideal S8192x512 .f32)
    (b : Fin 2) (i : Fin 128) (n : Fin 512) :
    whole x wq k v wo (ix3 b i n) = ∑ h : Fin 128, ∑ e : Fin 64,
      Spec.head Spec.keep (fun i e => ∑ g : Fin 512, x (ix3 b i g) * wq (ix2 g (⟨h.val * 64 + e.val, by omega⟩ : Fin 8192)))
        (fun j e => k (ix4 b j h e)) (fun j e => v (ix4 b j h e)) i e * wo (ix2 (⟨h.val * 64 + e.val, by omega⟩ : Fin 8192) n) := by
  unfold whole
  rw [output_apply]
  refine Finset.sum_congr rfl fun h _ => Finset.sum_congr rfl fun e _ => congr (congrArg HMul.hMul ?_) rfl
  refine Finset.sum_congr rfl fun j _ => congr (congrArg HMul.hMul ?_) rfl
  simp only [weights_apply, expos_apply, scores_apply, queries_apply]
  rfl

end Cert.ReferenceIdeal.Body
-- ==== Proof.Match.lean ====
/-
# The devices' shares add up to the reference's result

Device `c` holds four heads, heads `4 c … 4 c + 3`: its columns of the query matrix and its rows of the output matrix are the
whole matrices' columns and rows `256 c … 256 c + 255`. The sum over devices of the sums over their heads is the sum over all heads.
-/
module

public import proofs.«01_k».proof.Proof.KernelAt
public import proofs.«01_k».proof.Proof.RefAt
public import Idealize.ShloMosaic.Lib.Layout

@[expose] public section

set_option maxRecDepth 65536

noncomputable section

namespace Cert.Match

open Idealize.ShloMosaic Cert.KernelIdeal.Body

abbrev SQ : Shape := ⟨2, ![512, 256]⟩
abbrev SQs : Shape := ⟨2, ![512, 8192]⟩
abbrev SO : Shape := ⟨2, ![256, 512]⟩
abbrev SOs : Shape := ⟨2, ![8192, 512]⟩

theorem queryColumn (w : SQs.Idx → EReal) (c : Fin 32) (g : Fin 512) (h : Fin 4) (e : Fin 64) :
    Layout.block SQ SQs 1 32 c w (by decide) (ix2 g (⟨h.val * 64 + e.val, by omega⟩ : Fin 256)) = w (ix2 g (⟨(headOf c h).val * 64 + e.val, by omega⟩ : Fin 8192)) := by
  refine congrArg w (funext fun a => Fin.ext ?_)
  fin_cases a
  · rfl
  · show c.val * 256 + (h.val * 64 + e.val) = (4 * c.val + h.val) * 64 + e.val
    omega

theorem outputRow (w : SOs.Idx → EReal) (c : Fin 32) (h : Fin 4) (e : Fin 64) (n : Fin 512) :
    Layout.block SO SOs 0 32 c w (by decide) (ix2 (⟨h.val * 64 + e.val, by omega⟩ : Fin 256) n) = w (ix2 (⟨(headOf c h).val * 64 + e.val, by omega⟩ : Fin 8192) n) := by
  refine congrArg w (funext fun a => Fin.ext ?_)
  fin_cases a
  · show c.val * 256 + (h.val * 64 + e.val) = (4 * c.val + h.val) * 64 + e.val
    omega
  · rfl

/-- A sum over all heads is the sum over devices of the sums over their heads. -/
theorem sum_heads (f : Fin 128 → EReal) : (∑ h : Fin 128, f h) = ∑ c : Fin 32, ∑ h : Fin 4, f (headOf c h) :=
  (Fin.sum_univ_tiles 32 4 rfl f).trans (Finset.sum_congr rfl fun c _ => Finset.sum_congr rfl fun h _ =>
    congrArg f (Fin.ext (by show c.val * 4 + h.val = 4 * c.val + h.val; omega)))

theorem adds_sum (x : FVec Ideal ⟨3, ![2, 128, 512]⟩ .f32) (wq : FVec Ideal SQs .f32) (k v : FVec Ideal ⟨4, ![2, 128, 128, 64]⟩ .f32) (wo : FVec Ideal SOs .f32)
    (b : Fin 2) (i : Fin 128) (n : Fin 512) :
    (∑ c : Fin 32, adds x (Layout.block SQ SQs 1 32 c wq) k v (Layout.block SO SOs 0 32 c wo) c b i n) = Cert.ReferenceIdeal.Body.whole (F := Ideal) x wq k v wo (ix3 b i n) := by
  rw [Cert.ReferenceIdeal.Body.whole_apply, sum_heads]
  refine Finset.sum_congr rfl fun c _ => ?_
  unfold adds
  refine Finset.sum_congr rfl fun h _ => Finset.sum_congr rfl fun e _ => ?_
  refine congr (congrArg HMul.hMul (congrArg (fun q => Spec.head Spec.keep q _ _ i e) ?_)) (outputRow wo c h e n)
  funext i e
  exact Finset.sum_congr rfl fun g _ => congrArg (fun t => x (ix3 b i g) * t) (queryColumn wq c g h e)

end Cert.Match
-- ==== Proof.Value.lean ====
/-
# Every device returns the reference's result
-/
module

public import proofs.«01_k».proof.Proof.Match
public import proofs.«01_k».proof.Defs

@[expose] public section

set_option maxRecDepth 65536

noncomputable section

namespace Cert.Match

open Idealize.ShloMosaic Idealize.ShloMosaic.TcCoe Idealize.SL.Sem

/-- What a device returns is the reference's result, when the devices hold the reference's arguments cut up. -/
theorem out_eq (m : (ℓ : Loc KernelIdeal.nD KernelIdeal.τ KernelIdeal.sig) → Buf (Elt Ideal) ℓ)
    (x : FVec Ideal ⟨3, ![2, 128, 512]⟩ .f32) (wq : FVec Ideal SQs .f32) (k v : FVec Ideal ⟨4, ![2, 128, 128, 64]⟩ .f32) (wo : FVec Ideal SOs .f32)
    (h : ∀ c : Dev KernelIdeal.nD,
      m ((c : Thread KernelIdeal.nD KernelIdeal.τ).loc KernelIdeal.main_arg0) = x
      ∧ m ((c : Thread KernelIdeal.nD KernelIdeal.τ).loc KernelIdeal.main_arg1) = Layout.block SQ SQs 1 32 c wq
      ∧ m ((c : Thread KernelIdeal.nD KernelIdeal.τ).loc KernelIdeal.main_arg2) = k
      ∧ m ((c : Thread KernelIdeal.nD KernelIdeal.τ).loc KernelIdeal.main_arg3) = v
      ∧ m ((c : Thread KernelIdeal.nD KernelIdeal.τ).loc KernelIdeal.main_arg4) = Layout.block SO SOs 0 32 c wo)
    (c : Dev KernelIdeal.nD) :
    (KernelIdeal.Gen.V7 m (KernelIdeal.Body.outs m) c KernelIdeal.main_v23 : FVec Ideal ⟨3, ![2, 128, 512]⟩ .f32) = ReferenceIdeal.Body.whole (F := Ideal) x wq k v wo := by
  funext z
  idx_vars z
  refine (KernelIdeal.Body.out_apply m c z0 z1 z2).trans (Eq.trans (α := EReal) (Finset.sum_congr (M := EReal) rfl fun d _ => ?_) (adds_sum x wq k v wo z0 z1 z2))
  obtain ⟨h0, h1, h2, h3, h4⟩ := h d
  rw [h0, h1, h2, h3, h4]

theorem algebraic [KernelIdeal.Facts] [ReferenceIdeal.Facts] : algebraic_KernelIdeal_ReferenceIdeal := by
  intro m g m' g' _ h
  refine ⟨ReferenceIdeal.Value.res_main_v44 m' 0, ?_, ?_⟩
  · refine (θ_run KernelIdeal.defs _ _).mono (fun r hr c => ⟨(hr.1 c).1.trans ?_, (hr.1 c).2⟩) (KernelIdeal.Body.run_claims (F := Ideal) m g)
    exact (out_eq m _ _ _ _ _ h c).trans (ReferenceIdeal.Body.res_eq m' 0).symm
  · exact (θ_run ReferenceIdeal.defs _ _).mono (fun r hr => hr 0) (ReferenceIdeal.Value.run (F := Ideal) m' g')

end Cert.Match
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, frame_kernel, frame_kernelIdeal, frame_reference, trivial, Cert.Match.algebraic⟩

end Cert.Proof

end
